-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v36)) (v1 : (c : Dev Cert.Kernel4Ideal.nD) → Buf (Elt Ideal) ((c.tc : Thread Cert.Kernel4Ideal.nD Cert.Kernel4Ideal.τ).loc Cert.Kernel4Ideal.main_v41)) (v2 : (c : Dev Cert.Kernel4Ideal.nD) → Buf (Elt Ideal) ((c.tc : Thread Cert.Kernel4Ideal.nD Cert.Kernel4Ideal.τ).loc Cert.Kernel4Ideal.main_v46)) (v3 : (c : Dev Cert.Kernel4Ideal.nD) → Buf (Elt Ideal) ((c.tc : Thread Cert.Kernel4Ideal.nD Cert.Kernel4Ideal.τ).loc Cert.Kernel4Ideal.main_v51)) (v4 : (c : Dev Cert.Kernel4Ideal.nD) → Buf (Elt Ideal) ((c.tc : Thread Cert.Kernel4Ideal.nD Cert.Kernel4Ideal.τ).loc Cert.Kernel4Ideal.main_v54)) (v5 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36) = v0 c
          ∧ r.2.mem ((c.tc : Thread Cert.Kernel4Ideal.nD Cert.Kernel4Ideal.τ).loc Cert.Kernel4Ideal.main_v41) = v1 c
          ∧ r.2.mem ((c.tc : Thread Cert.Kernel4Ideal.nD Cert.Kernel4Ideal.τ).loc Cert.Kernel4Ideal.main_v46) = v2 c
          ∧ r.2.mem ((c.tc : Thread Cert.Kernel4Ideal.nD Cert.Kernel4Ideal.τ).loc Cert.Kernel4Ideal.main_v51) = v3 c
          ∧ r.2.mem ((c.tc : Thread Cert.Kernel4Ideal.nD Cert.Kernel4Ideal.τ).loc Cert.Kernel4Ideal.main_v54) = v4 c
          ∧ r.2.mem ((c.tc : Thread Cert.Kernel4Ideal.nD Cert.Kernel4Ideal.τ).loc Cert.Kernel4Ideal.main_v29) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v87) = v1 c
          ∧ r.2.mem ((c.tc : Thread Cert.Reference4Ideal.nD Cert.Reference4Ideal.τ).loc Cert.Reference4Ideal.main_v86) = v2 c
          ∧ r.2.mem ((c.tc : Thread Cert.Reference4Ideal.nD Cert.Reference4Ideal.τ).loc Cert.Reference4Ideal.main_v85) = v3 c
          ∧ r.2.mem ((c.tc : Thread Cert.Reference4Ideal.nD Cert.Reference4Ideal.τ).loc Cert.Reference4Ideal.main_v78) = v4 c
          ∧ r.2.mem ((c.tc : Thread Cert.Reference4Ideal.nD Cert.Reference4Ideal.τ).loc Cert.Reference4Ideal.main_v76) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v49)) (v1 : (c : Dev Cert.Kernel5Ideal.nD) → Buf (Elt Ideal) ((c.tc : Thread Cert.Kernel5Ideal.nD Cert.Kernel5Ideal.τ).loc Cert.Kernel5Ideal.main_v62)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v49) = v0 c
          ∧ r.2.mem ((c.tc : Thread Cert.Kernel5Ideal.nD Cert.Kernel5Ideal.τ).loc Cert.Kernel5Ideal.main_v62) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v1) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v110)) (v1 : (c : Dev Cert.Kernel6Ideal.nD) → Buf (Elt Ideal) ((c.tc : Thread Cert.Kernel6Ideal.nD Cert.Kernel6Ideal.τ).loc Cert.Kernel6Ideal.main_v90)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v110) = v0 c
          ∧ r.2.mem ((c.tc : Thread Cert.Kernel6Ideal.nD Cert.Kernel6Ideal.τ).loc Cert.Kernel6Ideal.main_v90) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v1) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v37)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v37) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v65)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v65) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2x2048x1024 : Shape := ⟨3, ![2, 2048, 1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2x2048x1024 1) : IVec S_ 1 :=
  let main_c_5 : IVec S_ 1 := constantI S_ 1 1#1
  let main_v17 : IVec S_ 1 := (fun x v => Host.reduce IntOp.andi x v reducesTo_S2x2048x1024_S_d0_1_2 h_S_) main_v16 main_c_5
  let main_v18 : IVec S_ 1 := andi main_v13 main_v17
  main_v18

def fn {F : FTy → Type} [FloatOps F] (main_arg0 : FVec F S2x2048x1024 .f32) (main_arg1 : FVec F S1024x5632 .f32) (main_arg2 : FVec F S2816x1024 .f32) (main_arg3 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2x2048x1024 .f32 := Host.absf main_arg3
  let main_cst_4 : FVec F S_ .f32 := constant S_ .f32 0x7F800000#32
  let main_v15 : FVec F S2x2048x1024 .f32 := broadcastInDim S2x2048x1024 ![] bcast_S_S2x2048x1024 main_cst_4
  let main_v16 : IVec S2x2048x1024 1 := cmpf .olt main_v14 main_v15
  fn_part1 (F := F) main_v13 main_v16
-- ==== Pre_finite4.lean ====
abbrev S2x2048x256 : Shape := ⟨3, ![2, 2048, 256]⟩
abbrev S2x2048x4 : Shape := ⟨3, ![2, 2048, 4]⟩
abbrev S_ : Shape := ⟨0, ![]⟩

class Facts : Prop where
  bcast_S_S2x2048x256 : S_.BroadcastsInDim S2x2048x256 (![] : Fin 0 → Fin S2x2048x256.rank)
  reducesTo_S2x2048x256_S_d0_1_2 : S2x2048x256.ReducesTo [0, 1, 2] S_
  h_S_ : 0 < S_.numel
  bcast_S_S2x2048x4 : S_.BroadcastsInDim S2x2048x4 (![] : Fin 0 → Fin S2x2048x4.rank)
  reducesTo_S2x2048x4_S_d0_1_2 : S2x2048x4.ReducesTo [0, 1, 2] S_

variable [Facts]

def fn_part1 {F : FTy → Type} [FloatOps F] (main_arg4 : FVec F S2x2048x256 .f32) (main_v13 : IVec S_ 1) (main_v16 : IVec S2x2048x4 1) : IVec S_ 1 :=
  let main_c_5 : IVec S_ 1 := constantI S_ 1 1#1
  let main_v17 : IVec S_ 1 := (fun x v => Host.reduce IntOp.andi x v reducesTo_S2x2048x4_S_d0_1_2 h_S_) main_v16 main_c_5
  let main_v18 : IVec S_ 1 := andi main_v13 main_v17
  let main_v19 : FVec F S2x2048x256 .f32 := Host.absf main_arg4
  let main_cst_6 : FVec F S_ .f32 := constant S_ .f32 0x7F800000#32
  let main_v20 : FVec F S2x2048x256 .f32 := broadcastInDim S2x2048x256 ![] bcast_S_S2x2048x256 main_cst_6
  let main_v21 : IVec S2x2048x256 1 := cmpf .olt main_v19 main_v20
  let main_c_7 : IVec S_ 1 := constantI S_ 1 1#1
  let main_v22 : IVec S_ 1 := (fun x v => Host.reduce IntOp.andi x v reducesTo_S2x2048x256_S_d0_1_2 h_S_) main_v21 main_c_7
  let main_v23 : IVec S_ 1 := andi main_v18 main_v22
  main_v23

def fn {F : FTy → Type} [FloatOps F] (main_arg0 : FVec F S2x2048x256 .f32) (main_arg1 : FVec F S2x2048x256 .f32) (main_arg2 : FVec F S2x2048x256 .f32) (main_arg3 : FVec F S2x2048x4 .f32) (main_arg4 : FVec F S2x2048x256 .f32) : IVec S_ 1 :=
  let main_v0 : FVec F S2x2048x256 .f32 := Host.absf main_arg0
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_c : IVec S_ 1 := constantI S_ 1 1#1
  let main_v3 : IVec S_ 1 := (fun x v => Host.reduce IntOp.andi x v reducesTo_S2x2048x256_S_d0_1_2 h_S_) main_v2 main_c
  let main_v4 : FVec F S2x2048x256 .f32 := Host.absf main_arg1
  let main_cst_0 : FVec F S_ .f32 := constant S_ .f32 0x7F800000#32
  let main_v5 : FVec F S2x2048x256 .f32 := broadcastInDim S2x2048x256 ![] bcast_S_S2x2048x256 main_cst_0
  let main_v6 : IVec S2x2048x256 1 := cmpf .olt main_v4 main_v5
  let main_c_1 : IVec S_ 1 := constantI S_ 1 1#1
  let main_v7 : IVec S_ 1 := (fun x v => Host.reduce IntOp.andi x v reducesTo_S2x2048x256_S_d0_1_2 h_S_) main_v6 main_c_1
  let main_v8 : IVec S_ 1 := andi main_v3 main_v7
  let main_v9 : FVec F S2x2048x256 .f32 := Host.absf main_arg2
  let main_cst_2 : FVec F S_ .f32 := constant S_ .f32 0x7F800000#32
  let main_v10 : FVec F S2x2048x256 .f32 := broadcastInDim S2x2048x256 ![] bcast_S_S2x2048x256 main_cst_2
  let main_v11 : IVec S2x2048x256 1 := cmpf .olt main_v9 main_v10
  let main_c_3 : IVec S_ 1 := constantI S_ 1 1#1
  let main_v12 : IVec S_ 1 := (fun x v => Host.reduce IntOp.andi x v reducesTo_S2x2048x256_S_d0_1_2 h_S_) main_v11 main_c_3
  let main_v13 : IVec S_ 1 := andi main_v8 main_v12
  let main_v14 : FVec F S2x2048x4 .f32 := Host.absf main_arg3
  let main_cst_4 : FVec F S_ .f32 := constant S_ .f32 0x7F800000#32
  let main_v15 : FVec F S2x2048x4 .f32 := broadcastInDim S2x2048x4 ![] bcast_S_S2x2048x4 main_cst_4
  let main_v16 : IVec S2x2048x4 1 := cmpf .olt main_v14 main_v15
  fn_part1 (F := F) main_arg4 main_v13 main_v16
-- ==== Kernel.lean ====
abbrev S2x2048x1024 : Shape := ⟨3, ![2, 2048, 1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S4x704x1024 : Shape := ⟨3, ![4, 704, 1024]⟩
abbrev S4096x1024 : Shape := ⟨2, ![4096, 1024]⟩
abbrev S2x4x704x1024 : Shape := ⟨4, ![2, 4, 704, 1024]⟩
abbrev S2x4x4096x704 : Shape := ⟨4, ![2, 4, 4096, 704]⟩
abbrev S4x4096x704 : Shape := ⟨3, ![4, 4096, 704]⟩
abbrev S1024x1024 : Shape := ⟨2, ![1024, 1024]⟩
abbrev S2x1x704x1024 : Shape := ⟨4, ![2, 1, 704, 1024]⟩
abbrev S2x1x1024x704 : Shape := ⟨4, ![2, 1, 1024, 704]⟩
abbrev S1x1024x704 : Shape := ⟨3, ![1, 1024, 704]⟩
abbrev S1x1x704x1024 : Shape := ⟨4, ![1, 1, 704, 1024]⟩
abbrev S704x1024 : Shape := ⟨2, ![704, 1024]⟩
abbrev S1024x704 : Shape := ⟨2, ![1024, 704]⟩
abbrev S1x1x1024x704 : Shape := ⟨4, ![1, 1, 1024, 704]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S8x4096x704 : Shape := ⟨3, ![8, 4096, 704]⟩
abbrev S8x512x704 : Shape := ⟨3, ![8, 512, 704]⟩
abbrev S4096x4x704 : Shape := ⟨3, ![4096, 4, 704]⟩
abbrev S2x2048x2816 : Shape := ⟨3, ![2, 2048, 2816]⟩
abbrev S4096x8x704 : Shape := ⟨3, ![4096, 8, 704]⟩
abbrev S2x2048x5632 : Shape := ⟨3, ![2, 2048, 5632]⟩

abbrev nBuf : Space → Nat
  | .hbm => 28
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2816x1024, .f32⟩
  | .hbm, ⟨3, _⟩ => ⟨S2x2048x1024, .f32⟩
  | .hbm, ⟨4, _⟩ => ⟨S2x2048x1024, .bf16⟩
  | .hbm, ⟨5, _⟩ => ⟨S2x2048x1024, .bf16⟩
  | .hbm, ⟨6, _⟩ => ⟨S5632x1024, .f32⟩
  | .hbm, ⟨7, _⟩ => ⟨S5632x1024, .bf16⟩
  | .hbm, ⟨8, _⟩ => ⟨S8x704x1024, .bf16⟩
  | .hbm, ⟨9, _⟩ => ⟨S2816x1024, .bf16⟩
  | .hbm, ⟨10, _⟩ => ⟨S4x704x1024, .bf16⟩
  | .hbm, ⟨11, _⟩ => ⟨S4096x1024, .bf16⟩
  | .hbm, ⟨12, _⟩ => ⟨S2x4x704x1024, .bf16⟩
  | .hbm, ⟨13, _⟩ => ⟨S2x4x4096x704, .bf16⟩
  | .hbm, ⟨14, _⟩ => ⟨S4x4096x704, .bf16⟩
  | .hbm, ⟨15, _⟩ => ⟨S4096x1024, .f32⟩
  | .hbm, ⟨16, _⟩ => ⟨S2x2048x1024, .f32⟩
  | .hbm, ⟨17, _⟩ => ⟨S4096x1024, .bf16⟩
  | .hbm, ⟨18, _⟩ => ⟨S2x4x4096x704, .bf16⟩
  | .hbm, ⟨19, _⟩ => ⟨S8x4096x704, .bf16⟩
  | .hbm, ⟨20, _⟩ => ⟨S4096x1024, .f32⟩
  | .hbm, ⟨21, _⟩ => ⟨S2x2048x1024, .f32⟩
  | .hbm, ⟨22, _⟩ => ⟨S4096x4x704, .bf16⟩
  | .hbm, ⟨23, _⟩ => ⟨S4096x4x704, .f32⟩
  | .hbm, ⟨24, _⟩ => ⟨S2x2048x2816, .f32⟩
  | .hbm, ⟨25, _⟩ => ⟨S4096x8x704, .bf16⟩
  | .hbm, ⟨26, _⟩ => ⟨S4096x8x704, .f32⟩
  | .hbm, ⟨27, _⟩ => ⟨S2x2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S2x1x704x1024, .bf16⟩
  | .local _ .vmem, ⟨3, _⟩ => ⟨S2x1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x704x1024, .bf16⟩
  | .local _ .vmem, ⟨11, _⟩ => ⟨S512x1024, .f32⟩
  | .local _ .vmem, ⟨12, _⟩ => ⟨S512x1024, .f32⟩
  | .local _ .vmem, ⟨13, _⟩ => ⟨S1024x1024, .bf16⟩
  | .local _ .vmem, ⟨14, _⟩ => ⟨S1024x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S2x1x1024x704, .bf16⟩
  | .local _ .vmem, ⟨18, _⟩ => ⟨S2x1x1024x704, .bf16⟩
  | .local _ .vmem, ⟨19, _⟩ => ⟨S2x1x1024x704, .bf16⟩
  | .local _ .vmem, ⟨20, _⟩ => ⟨S2x1x1024x704, .bf16⟩
  | .local _ .vmem, ⟨21, _⟩ => ⟨S8x512x704, .bf16⟩
  | .local _ .vmem, ⟨22, _⟩ => ⟨S8x512x704, .bf16⟩
  | .local _ .vmem, ⟨23, _⟩ => ⟨S8x704x1024, .bf16⟩
  | .local _ .vmem, ⟨24, _⟩ => ⟨S512x1024, .f32⟩
  | .local _ .vmem, ⟨25, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x704x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2x1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2x1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x512x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x704x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== ReferenceIdeal.lean ====
abbrev S2x2048x1024 : Shape := ⟨3, ![2, 2048, 1024]⟩
abbrev S1024x5632 : Shape := ⟨2, ![1024, 5632]⟩
abbrev S2816x1024 : Shape := ⟨2, ![2816, 1024]⟩
abbrev S2x2048x5632 : Shape := ⟨3, ![2, 2048, 5632]⟩
abbrev S2x2048x2816 : Shape := ⟨3, ![2, 2048, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2816x1024, .f32⟩
  | .hbm, ⟨3, _⟩ => ⟨S2x2048x1024, .f32⟩
  | .hbm, ⟨4, _⟩ => ⟨S2x2048x5632, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S_, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S2x2048x2816, .f32⟩
  | .hbm, ⟨20, _⟩ => ⟨S2x2048x2816, .f32⟩
  | .hbm, ⟨21, _⟩ => ⟨S_, .f32⟩
  | .hbm, ⟨22, _⟩ => ⟨S2x2048x2816, .f32⟩
  | .hbm, ⟨23, _⟩ => ⟨S2x2048x2816, .f32⟩
  | .hbm, ⟨24, _⟩ => ⟨S_, .f32⟩
  | .hbm, ⟨25, _⟩ => ⟨S2x2048x2816, .f32⟩
  | .hbm, ⟨26, _⟩ => ⟨S2x2048x2816, .f32⟩
  | .hbm, ⟨27, _⟩ => ⟨S_, .f32⟩
  | .hbm, ⟨28, _⟩ => ⟨S2x2048x2816, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S2x2048x1024, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x5632, .f32⟩
  | .hbm, ⟨42, _⟩ => ⟨S2x2048x5632, .f32⟩
  | .hbm, ⟨43, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_v7_2 : Ref sig .tc := ⟨.hbm, 26, rfl⟩
abbrev main_call1_cst_1 : Ref sig .tc := ⟨.hbm, 27, rfl⟩
abbrev main_call1_v6 : Ref sig .tc := ⟨.hbm, 28, rfl⟩
abbrev main_call1_v7 : Ref sig .tc := ⟨.hbm, 29, rfl⟩
abbrev main_v7_1 : Ref sig .tc := ⟨.hbm, 30, rfl⟩
abbrev main_v7_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩

abbrev nD : Nat := 1
abbrev τ : Topo := Topo.v7x

variable {F : FTy → Type} [FloatOps F]
-- ==== Kernel2.lean ====
abbrev S2x2048x2816 : Shape := ⟨3, ![2, 2048, 2816]⟩
abbrev S2x2048x1024 : Shape := ⟨3, ![2, 2048, 1024]⟩
abbrev S4096x4x704 : Shape := ⟨3, ![4096, 4, 704]⟩
abbrev S4x4096x704 : Shape := ⟨3, ![4, 4096, 704]⟩
abbrev S1x4096x1024 : Shape := ⟨3, ![1, 4096, 1024]⟩
abbrev S4x704x1024 : Shape := ⟨3, ![4, 704, 1024]⟩
abbrev S1x2048x704 : Shape := ⟨3, ![1, 2048, 704]⟩
abbrev S1x2048x1024 : Shape := ⟨3, ![1, 2048, 1024]⟩
abbrev S1x704x1024 : Shape := ⟨3, ![1, 704, 1024]⟩
abbrev S704x1024 : Shape := ⟨2, ![704, 1024]⟩
abbrev S2048x704 : Shape := ⟨2, ![2048, 704]⟩
abbrev S2048x1024 : Shape := ⟨2, ![2048, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S4096x4x704, .f32⟩
  | .hbm, ⟨3, _⟩ => ⟨S4096x4x704, .bf16⟩
  | .hbm, ⟨4, _⟩ => ⟨S4x4096x704, .bf16⟩
  | .hbm, ⟨5, _⟩ => ⟨S2x2048x1024, .bf16⟩
  | .hbm, ⟨6, _⟩ => ⟨S1x4096x1024, .bf16⟩
  | .hbm, ⟨7, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x2048x2816 : Shape := ⟨3, ![2, 2048, 2816]⟩
abbrev S2x2048x1024 : Shape := ⟨3, ![2, 2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x1024, .f32⟩
  | .hbm, ⟨2, _⟩ => ⟨S_, .f32⟩
  | .hbm, ⟨3, _⟩ => ⟨S2816x1024, .f32⟩
  | .hbm, ⟨4, _⟩ => ⟨S2x2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S4x704x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S2x2048x1024 : Shape := ⟨3, ![2, 2048, 1024]⟩
abbrev S2x2048x5632 : Shape := ⟨3, ![2, 2048, 5632]⟩
abbrev S4096x8x704 : Shape := ⟨3, ![4096, 8, 704]⟩
abbrev S8x4096x704 : Shape := ⟨3, ![8, 4096, 704]⟩
abbrev S1x4096x1024 : Shape := ⟨3, ![1, 4096, 1024]⟩
abbrev S8x704x1024 : Shape := ⟨3, ![8, 704, 1024]⟩
abbrev S1x2048x704 : Shape := ⟨3, ![1, 2048, 704]⟩
abbrev S1x2048x1024 : Shape := ⟨3, ![1, 2048, 1024]⟩
abbrev S1x704x1024 : Shape := ⟨3, ![1, 704, 1024]⟩
abbrev S704x1024 : Shape := ⟨2, ![704, 1024]⟩
abbrev S2048x704 : Shape := ⟨2, ![2048, 704]⟩
abbrev S2048x1024 : Shape := ⟨2, ![2048, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S4096x8x704, .f32⟩
  | .hbm, ⟨3, _⟩ => ⟨S4096x8x704, .bf16⟩
  | .hbm, ⟨4, _⟩ => ⟨S8x4096x704, .bf16⟩
  | .hbm, ⟨5, _⟩ => ⟨S2x2048x1024, .bf16⟩
  | .hbm, ⟨6, _⟩ => ⟨S1x4096x1024, .bf16⟩
  | .hbm, ⟨7, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x1024 : Shape := ⟨3, ![2, 2048, 1024]⟩
abbrev S2x2048x5632 : Shape := ⟨3, ![2, 2048, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S_, .f32⟩
  | .hbm, ⟨3, _⟩ => ⟨S1024x5632, .f32⟩
  | .hbm, ⟨4, _⟩ => ⟨S2x2048x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | .hbm, ⟨9, _⟩ => ⟨S8x704x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2x2048x256 : Shape := ⟨3, ![2, 2048, 256]⟩
abbrev S2x2048x4 : Shape := ⟨3, ![2, 2048, 4]⟩
abbrev S2x2048x4x64 : Shape := ⟨4, ![2, 2048, 4, 64]⟩
abbrev S_ : Shape := ⟨0, ![]⟩
abbrev S2x2048x4x128 : Shape := ⟨4, ![2, 2048, 4, 128]⟩
abbrev S2x2048x4x1x128 : Shape := ⟨5, ![2, 2048, 4, 1, 128]⟩
abbrev S2x2048x4x2x128 : Shape := ⟨5, ![2, 2048, 4, 2, 128]⟩
abbrev S2x2048x1024 : Shape := ⟨3, ![2, 2048, 1024]⟩
abbrev S2x2048x1536 : Shape := ⟨3, ![2, 2048, 1536]⟩
abbrev S2x2048x512 : Shape := ⟨3, ![2, 2048, 512]⟩
abbrev S2x2048x640 : Shape := ⟨3, ![2, 2048, 640]⟩
abbrev S2x2048x3712 : Shape := ⟨3, ![2, 2048, 3712]⟩
abbrev S2x2048x768 : Shape := ⟨3, ![2, 2048, 768]⟩
abbrev S2x2048x128 : Shape := ⟨3, ![2, 2048, 128]⟩
abbrev S2x2048x8 : Shape := ⟨3, ![2, 2048, 8]⟩
abbrev S2x8x2048 : Shape := ⟨3, ![2, 8, 2048]⟩
abbrev S2x4x2048x128 : Shape := ⟨4, ![2, 4, 2048, 128]⟩
abbrev S1x1024x128 : Shape := ⟨3, ![1, 1024, 128]⟩
abbrev S1x2048x128 : Shape := ⟨3, ![1, 2048, 128]⟩
abbrev S1x8x2048 : Shape := ⟨3, ![1, 8, 2048]⟩
abbrev S1x1x1024x128 : Shape := ⟨4, ![1, 1, 1024, 128]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩
abbrev S8x1024 : Shape := ⟨2, ![8, 1024]⟩
abbrev S1x8x1024 : Shape := ⟨3, ![1, 8, 1024]⟩
abbrev S1x1024 : Shape := ⟨2, ![1, 1024]⟩
abbrev S1x1x1024x1 : Shape := ⟨4, ![1, 1, 1024, 1]⟩
abbrev S2x4x1x2048 : Shape := ⟨4, ![2, 4, 1, 2048]⟩
abbrev S1x1x2048x128 : Shape := ⟨4, ![1, 1, 2048, 128]⟩
abbrev S1x1024x256 : Shape := ⟨3, ![1, 1024, 256]⟩
abbrev S1x1x1x1024 : Shape := ⟨4, ![1, 1, 1, 1024]⟩
abbrev S2x4x2048 : Shape := ⟨3, ![2, 4, 2048]⟩
abbrev S2x4x2048x1 : Shape := ⟨4, ![2, 4, 2048, 1]⟩

abbrev nBuf : Space → Nat
  | .hbm => 80
  | .vmem => 56
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S2x2048x256, .f32⟩
  | .hbm, ⟨3, _⟩ => ⟨S2x2048x4, .f32⟩
  | .hbm, ⟨4, _⟩ => ⟨S2x2048x256, .f32⟩
  | .hbm, ⟨5, _⟩ => ⟨S2x2048x4x64, .f32⟩
  | .hbm, ⟨6, _⟩ => ⟨S_, .i32⟩
  | .hbm, ⟨7, _⟩ => ⟨S_, .f32⟩
  | .hbm, ⟨8, _⟩ => ⟨S2x2048x4x128, .f32⟩
  | .hbm, ⟨9, _⟩ => ⟨S2x2048x4x64, .f32⟩
  | .hbm, ⟨10, _⟩ => ⟨S_, .i32⟩
  | .hbm, ⟨11, _⟩ => ⟨S_, .f32⟩
  | .hbm, ⟨12, _⟩ => ⟨S2x2048x4x128, .f32⟩
  | .hbm, ⟨13, _⟩ => ⟨S2x2048x4x1x128, .f32⟩
  | .hbm, ⟨14, _⟩ => ⟨S2x2048x4x1x128, .f32⟩
  | .hbm, ⟨15, _⟩ => ⟨S2x2048x4x2x128, .f32⟩
  | .hbm, ⟨16, _⟩ => ⟨S2x2048x1024, .f32⟩
  | .hbm, ⟨17, _⟩ => ⟨S_, .f32⟩
  | .hbm, ⟨18, _⟩ => ⟨S2x2048x1536, .f32⟩
  | .hbm, ⟨19, _⟩ => ⟨S2x2048x4x64, .f32⟩
  | .hbm, ⟨20, _⟩ => ⟨S_, .i32⟩
  | .hbm, ⟨21, _⟩ => ⟨S_, .f32⟩
  | .hbm, ⟨22, _⟩ => ⟨S2x2048x4x128, .f32⟩
  | .hbm, ⟨23, _⟩ => ⟨S2x2048x512, .f32⟩
  | .hbm, ⟨24, _⟩ => ⟨S_, .f32⟩
  | .hbm, ⟨25, _⟩ => ⟨S2x2048x640, .f32⟩
  | .hbm, ⟨26, _⟩ => ⟨S2x2048x3712, .f32⟩
  | .hbm, ⟨27, _⟩ => ⟨S_, .f32⟩
  | .hbm, ⟨28, _⟩ => ⟨S2x2048x768, .f32⟩
  | .hbm, ⟨29, _⟩ => ⟨S2x2048x4x64, .f32⟩
  | .hbm, ⟨30, _⟩ => ⟨S_, .i32⟩
  | .hbm, ⟨31, _⟩ => ⟨S_, .f32⟩
  | .hbm, ⟨32, _⟩ => ⟨S2x2048x4x128, .f32⟩
  | .hbm, ⟨33, _⟩ => ⟨S2x2048x512, .f32⟩
  | .hbm, ⟨34, _⟩ => ⟨S_, .f32⟩
  | .hbm, ⟨35, _⟩ => ⟨S2x2048x256, .f32⟩
  | .hbm, ⟨36, _⟩ => ⟨S2x2048x1536, .f32⟩
  | .hbm, ⟨37, _⟩ => ⟨S_, .i32⟩
  | .hbm, ⟨38, _⟩ => ⟨S_, .f32⟩
  | .hbm, ⟨39, _⟩ => ⟨S2x2048x128, .f32⟩
  | .hbm, ⟨40, _⟩ => ⟨S2x2048x8, .f32⟩
  | .hbm, ⟨41, _⟩ => ⟨S2x8x2048, .f32⟩
  | .hbm, ⟨42, _⟩ => ⟨S_, .bf16⟩
  | .hbm, ⟨43, _⟩ => ⟨S2x2048x1536, .bf16⟩
  | .hbm, ⟨44, _⟩ => ⟨S2x2048x1536, .bf16⟩
  | .hbm, ⟨45, _⟩ => ⟨S2x4x2048x128, .f32⟩
  | .hbm, ⟨46, _⟩ => ⟨S_, .bf16⟩
  | .hbm, ⟨47, _⟩ => ⟨S2x2048x3712, .bf16⟩
  | .hbm, ⟨48, _⟩ => ⟨S2x2048x3712, .bf16⟩
  | .hbm, ⟨49, _⟩ => ⟨S2x4x2048x128, .f32⟩
  | .hbm, ⟨50, _⟩ => ⟨S2x4x2048x128, .f32⟩
  | .hbm, ⟨51, _⟩ => ⟨S2x2048x3712, .bf16⟩
  | .hbm, ⟨52, _⟩ => ⟨S2x4x1x2048, .f32⟩
  | .hbm, ⟨53, _⟩ => ⟨S2x4x2048, .f32⟩
  | .hbm, ⟨54, _⟩ => ⟨S2x2048x4, .f32⟩
  | .hbm, ⟨55, _⟩ => ⟨S2x2048x1024, .bf16⟩
  | .hbm, ⟨56, _⟩ => ⟨S2x2048x4x2x128, .bf16⟩
  | .hbm, ⟨57, _⟩ => ⟨S2x2048x512, .bf16⟩
  | .hbm, ⟨58, _⟩ => ⟨S2x2048x512, .f32⟩
  | .hbm, ⟨59, _⟩ => ⟨S2x2048x4x128, .f32⟩
  | .hbm, ⟨60, _⟩ => ⟨S2x2048x4x64, .f32⟩
  | .hbm, ⟨61, _⟩ => ⟨S2x2048x256, .f32⟩
  | .hbm, ⟨62, _⟩ => ⟨S2x2048x512, .bf16⟩
  | .hbm, ⟨63, _⟩ => ⟨S2x2048x512, .f32⟩
  | .hbm, ⟨64, _⟩ => ⟨S2x2048x4x128, .f32⟩
  | .hbm, ⟨65, _⟩ => ⟨S2x2048x4x64, .f32⟩
  | .hbm, ⟨66, _⟩ => ⟨S2x2048x256, .f32⟩
  | .hbm, ⟨67, _⟩ => ⟨S2x2048x4x1x128, .bf16⟩
  | .hbm, ⟨68, _⟩ => ⟨S2x2048x4x128, .bf16⟩
  | .hbm, ⟨69, _⟩ => ⟨S2x2048x4x128, .f32⟩
  | .hbm, ⟨70, _⟩ => ⟨S2x2048x4x64, .f32⟩
  | .hbm, ⟨71, _⟩ => ⟨S2x2048x256, .f32⟩
  | .hbm, ⟨72, _⟩ => ⟨S2x2048x4x1x128, .bf16⟩
  | .hbm, ⟨73, _⟩ => ⟨S2x2048x4x128, .bf16⟩
  | .hbm, ⟨74, _⟩ => ⟨S2x2048x4x128, .f32⟩
  | .hbm, ⟨75, _⟩ => ⟨S2x2048x4x64, .f32⟩
  | .hbm, ⟨76, _⟩ => ⟨S2x2048x256, .f32⟩
  | .hbm, ⟨77, _⟩ => ⟨S2x4x2048x1, .f32⟩
  | .hbm, ⟨78, _⟩ => ⟨S2x4x2048, .f32⟩
  | .hbm, ⟨79, _⟩ => ⟨S2x2048x4, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S1x8x2048, .f32⟩
  | .local _ .vmem, ⟨9, _⟩ => ⟨S1x8x2048, .f32⟩
  | .local _ .vmem, ⟨10, _⟩ => ⟨S1x1024x128, .bf16⟩
  | .local _ .vmem, ⟨11, _⟩ => ⟨S1x1024x128, .bf16⟩
  | .local _ .vmem, ⟨12, _⟩ => ⟨S1x1x1024x128, .f32⟩
  | .local _ .vmem, ⟨13, _⟩ => ⟨S1x1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .f32⟩
  | .local _ .vmem, ⟨19, _⟩ => ⟨S1x2048x128, .f32⟩
  | .local _ .vmem, ⟨20, _⟩ => ⟨S1x1024x128, .bf16⟩
  | .local _ .vmem, ⟨21, _⟩ => ⟨S1x1024x128, .bf16⟩
  | .local _ .vmem, ⟨22, _⟩ => ⟨S1x1024x128, .f32⟩
  | .local _ .vmem, ⟨23, _⟩ => ⟨S1x1024x128, .f32⟩
  | .local _ .vmem, ⟨24, _⟩ => ⟨S1x1x1024x128, .f32⟩
  | .local _ .vmem, ⟨25, _⟩ => ⟨S1x1x1024x128, .f32⟩
  | .local _ .vmem, ⟨26, _⟩ => ⟨S1x1024x128, .f32⟩
  | .local _ .vmem, ⟨27, _⟩ => ⟨S1x1024x128, .f32⟩
  | .local _ .vmem, ⟨28, _⟩ => ⟨S1x8x2048, .f32⟩
  | .local _ .vmem, ⟨29, _⟩ => ⟨S1x8x2048, .f32⟩
  | .local _ .vmem, ⟨30, _⟩ => ⟨S1x1024x128, .bf16⟩
  | .local _ .vmem, ⟨31, _⟩ => ⟨S1x1024x128, .bf16⟩
  | .local _ .vmem, ⟨32, _⟩ => ⟨S1x1x1024x128, .f32⟩
  | .local _ .vmem, ⟨33, _⟩ => ⟨S1x1x1024x128, .f32⟩
  | .local _ .vmem, ⟨34, _⟩ => ⟨S1x1x1024x128, .f32⟩
  | .local _ .vmem, ⟨35, _⟩ => ⟨S1x1x1024x128, .f32⟩
  | .local _ .vmem, ⟨36, _⟩ => ⟨S1x2048x128, .f32⟩
  | .local _ .vmem, ⟨37, _⟩ => ⟨S1x2048x128, .f32⟩
  | .local _ .vmem, ⟨38, _⟩ => ⟨S1x1024x128, .f32⟩
  | .local _ .vmem, ⟨39, _⟩ => ⟨S1x1024x128, .f32⟩
  | .local _ .vmem, ⟨40, _⟩ => ⟨S1x1024x128, .f32⟩
  | .local _ .vmem, ⟨41, _⟩ => ⟨S1x1024x128, .f32⟩
  | .local _ .vmem, ⟨42, _⟩ => ⟨S1x2048x128, .f32⟩
  | .local _ .vmem, ⟨43, _⟩ => ⟨S1x2048x128, .f32⟩
  | .local _ .vmem, ⟨44, _⟩ => ⟨S1x1x2048x128, .f32⟩
  | .local _ .vmem, ⟨45, _⟩ => ⟨S1x1x2048x128, .f32⟩
  | .local _ .vmem, ⟨46, _⟩ => ⟨S1x1x2048x128, .f32⟩
  | .local _ .vmem, ⟨47, _⟩ => ⟨S1x1x2048x128, .f32⟩
  | .local _ .vmem, ⟨48, _⟩ => ⟨S1x2048x128, .f32⟩
  | .local _ .vmem, ⟨49, _⟩ => ⟨S1x2048x128, .f32⟩
  | .local _ .vmem, ⟨50, _⟩ => ⟨S1x8x1024, .f32⟩
  | .local _ .vmem, ⟨51, _⟩ => ⟨S1x8x1024, .f32⟩
  | .local _ .vmem, ⟨52, _⟩ => ⟨S1x1024x256, .bf16⟩
  | .local _ .vmem, ⟨53, _⟩ => ⟨S1x1024x256, .bf16⟩
  | .local _ .vmem, ⟨54, _⟩ => ⟨S1x1x1x1024, .f32⟩
  | .local _ .vmem, ⟨55, _⟩ => ⟨S1x1x1x1024, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_call3_v0 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_call4_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_cst_8 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v26_2 : Ref sig .tc := ⟨.hbm, 50, rfl⟩
abbrev main_v27_0 : Ref sig .tc := ⟨.hbm, 51, rfl⟩
abbrev main_v27_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc2_stg9_0 : Ref sig .tc := ⟨.vmem, 54, rfl⟩
abbrev cc2_stg9_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc2_sem9_0 : DmaSem sig := 54
abbrev cc2_sem9_1 : DmaSem sig := 55

abbrev nD : Nat := 1
abbrev τ : Topo := Topo.v7x

variable {F : FTy → Type} [FloatOps F]

abbrev grid0 : Pipeline.Grid := ⟨3, ![2, 4, 2], ![false, false, false]⟩

@[reducible] def k0_t1_loop (i : grid0.Coords) : Scf.Loop 32 :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_10 : BitVec 32 := 1#32
  ⟨c0_i32, v21, c1_i32_10⟩
def k0_mult1 (i : grid0.Coords) (k0_t1 : Fin (k0_t1_loop i).trips) : BitVec 32 :=
  let c0_i32 : BitVec 32 := 0#32
  let c1_i32_10 : BitVec 32 := 1#32
  let arg11 : BitVec 32 := Scf.iv c0_i32 c1_i32_10 k0_t1
  let c1024_i32_32 : BitVec 32 := 1024#32
  let v84 : BitVec 32 := Scalar.muli arg11 c1024_i32_32
  v84
def k0_off1 (i : grid0.Coords) (k0_t1 : Fin (k0_t1_loop i).trips) : Fin 3 → Nat :=
  let c0_33 : Index := 0#32
  let c0_i32 : BitVec 32 := 0#32
  let c1_i32_10 : BitVec 32 := 1#32
  let arg11 : BitVec 32 := Scf.iv c0_i32 c1_i32_10 k0_t1
  let c1024_i32_32 : BitVec 32 := 1024#32
  let v84 : BitVec 32 := Scalar.muli arg11 c1024_i32_32
  let v85 : BitVec 32 := v84
  let v86 : Index := Scalar.indexCast v85
  let c0_34 : Index := 0#32
  ![0, v86.toNat, 0]
def k0_off2 (i : grid0.Coords) (k0_t1 : Fin (k0_t1_loop i).trips) : Fin 3 → Nat :=
  let c0_36 : Index := 0#32
  let c0_37 : Index := 0#32
  let c0_i32 : BitVec 32 := 0#32
  let c1_i32_10 : BitVec 32 := 1#32
  let arg11 : BitVec 32 := Scf.iv c0_i32 c1_i32_10 k0_t1
  let c1024_i32_32 : BitVec 32 := 1024#32
  let v84 : BitVec 32 := Scalar.muli arg11 c1024_i32_32
  let v85 : BitVec 32 := v84
  let v94 : Index := Scalar.indexCast v85
  ![0, 0, v94.toNat]
@[reducible] def k0_t2_loop (i : grid0.Coords) : Scf.Loop 32 :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let v18 : BitVec 32 := Scalar.addi c0_i32 v17
  let c1_i32_11 : BitVec 32 := 1#32
  ⟨v21, v18, c1_i32_11⟩
def k0_mult2 (i : grid0.Coords) (k0_t2 : Fin (k0_t2_loop i).trips) : BitVec 32 :=
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_11 : BitVec 32 := 1#32
  let arg11 : BitVec 32 := Scf.iv v21 c1_i32_11 k0_t2
  let c1024_i32_32 : BitVec 32 := 1024#32
  let v84 : BitVec 32 := Scalar.muli arg11 c1024_i32_32
  v84
def k0_off3 (i : grid0.Coords) (k0_t2 : Fin (k0_t2_loop i).trips) : Fin 3 → Nat :=
  let c0_33 : Index := 0#32
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_11 : BitVec 32 := 1#32
  let arg11 : BitVec 32 := Scf.iv v21 c1_i32_11 k0_t2
  let c1024_i32_32 : BitVec 32 := 1024#32
  let v84 : BitVec 32 := Scalar.muli arg11 c1024_i32_32
  let v85 : BitVec 32 := v84
  let v86 : Index := Scalar.indexCast v85
  let c0_34 : Index := 0#32
  ![0, v86.toNat, 0]
def k0_off4 (i : grid0.Coords) (k0_t2 : Fin (k0_t2_loop i).trips) : Fin 3 → Nat :=
  let c0_36 : Index := 0#32
  let c0_37 : Index := 0#32
  let c0_i32 : BitVec 32 := 0#32
  let arg2 : BitVec 32 := BitVec.ofNat 32 (i 2).val
  let v17 : BitVec 32 := Scalar.subi arg2 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_11 : BitVec 32 := 1#32
  let arg11 : BitVec 32 := Scf.iv v21 c1_i32_11 k0_t2
  let c1024_i32_32 : BitVec 32 := 1024#32
  let v84 : BitVec 32 := Scalar.muli arg11 c1024_i32_32
  let v85 : BitVec 32 := v84
  let v94 : Index := Scalar.indexCast v85
  ![0, 0, v94.toNat]
def k0_mult3 (i : grid0.Coords) : BitVec 32 :=
  let arg2 : BitVec 32 := BitVec.ofNat 32 (i 2).val
  let c1024_i32 : BitVec 32 := 1024#32
  let v24 : BitVec 32 := Scalar.muli arg2 c1024_i32
  v24
def k0_off5 (i : grid0.Coords) : Fin 3 → Nat :=
  let c0_12 : Index := 0#32
  let arg2 : BitVec 32 := BitVec.ofNat 32 (i 2).val
  let c1024_i32 : BitVec 32 := 1024#32
  let v24 : BitVec 32 := Scalar.muli arg2 c1024_i32
  let v25 : BitVec 32 := v24
  let v26 : Index := Scalar.indexCast v25
  let c0_13 : Index := 0#32
  ![0, v26.toNat, 0]
def k0_off6 (i : grid0.Coords) : Fin 3 → Nat :=
  let c0_15 : Index := 0#32
  let c0_16 : Index := 0#32
  let arg2 : BitVec 32 := BitVec.ofNat 32 (i 2).val
  let c1024_i32 : BitVec 32 := 1024#32
  let v24 : BitVec 32 := Scalar.muli arg2 c1024_i32
  let v25 : BitVec 32 := v24
  let v34 : Index := Scalar.indexCast v25
  ![0, 0, v34.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c16_i32 : BitVec 32 := 16#32
  let v1 : BitVec 32 := Scalar.addi c16_i32 v0
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c16_i32 : BitVec 32 := 16#32
  let v1 : BitVec 32 := Scalar.addi c16_i32 v0
  let c1_i32 : BitVec 32 := 1#32
  let v2 : BitVec 32 := Scalar.addi v1 c1_i32
  let c0_i32 : BitVec 32 := 0#32
  let c0_i32_0 : BitVec 32 := 0#32
  ![arg0.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev grid1 : Pipeline.Grid := ⟨3, ![2, 4, 2], ![false, false, false]⟩

@[reducible] def k1_t1_loop (i : grid1.Coords) : Scf.Loop 32 :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_20 : BitVec 32 := 1#32
  ⟨c0_i32, v31, c1_i32_20⟩
def k1_mult1 (i : grid1.Coords) (k1_t1 : Fin (k1_t1_loop i).trips) : BitVec 32 :=
  let c0_i32 : BitVec 32 := 0#32
  let c1_i32_20 : BitVec 32 := 1#32
  let arg15 : BitVec 32 := Scf.iv c0_i32 c1_i32_20 k1_t1
  let c1024_i32_49 : BitVec 32 := 1024#32
  let v97 : BitVec 32 := Scalar.muli arg15 c1024_i32_49
  v97
def k1_off1 (i : grid1.Coords) (k1_t1 : Fin (k1_t1_loop i).trips) : Fin 3 → Nat :=
  let c0_50 : Index := 0#32
  let c0_i32 : BitVec 32 := 0#32
  let c1_i32_20 : BitVec 32 := 1#32
  let arg15 : BitVec 32 := Scf.iv c0_i32 c1_i32_20 k1_t1
  let c1024_i32_49 : BitVec 32 := 1024#32
  let v97 : BitVec 32 := Scalar.muli arg15 c1024_i32_49
  let v98 : BitVec 32 := v97
  let v99 : Index := Scalar.indexCast v98
  let c0_51 : Index := 0#32
  ![0, v99.toNat, 0]
def k1_off2 (i : grid1.Coords) (k1_t1 : Fin (k1_t1_loop i).trips) : Fin 3 → Nat :=
  let c0_53 : Index := 0#32
  let c0_54 : Index := 0#32
  let c0_i32 : BitVec 32 := 0#32
  let c1_i32_20 : BitVec 32 := 1#32
  let arg15 : BitVec 32 := Scf.iv c0_i32 c1_i32_20 k1_t1
  let c1024_i32_49 : BitVec 32 := 1024#32
  let v97 : BitVec 32 := Scalar.muli arg15 c1024_i32_49
  let v98 : BitVec 32 := v97
  let v107 : Index := Scalar.indexCast v98
  ![0, 0, v107.toNat]
@[reducible] def k1_t2_loop (i : grid1.Coords) : Scf.Loop 32 :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let v28 : BitVec 32 := Scalar.addi c0_i32 v27
  let c1_i32_21 : BitVec 32 := 1#32
  ⟨v31, v28, c1_i32_21⟩
def k1_mult2 (i : grid1.Coords) (k1_t2 : Fin (k1_t2_loop i).trips) : BitVec 32 :=
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_21 : BitVec 32 := 1#32
  let arg15 : BitVec 32 := Scf.iv v31 c1_i32_21 k1_t2
  let c1024_i32_49 : BitVec 32 := 1024#32
  let v97 : BitVec 32 := Scalar.muli arg15 c1024_i32_49
  v97
def k1_off3 (i : grid1.Coords) (k1_t2 : Fin (k1_t2_loop i).trips) : Fin 3 → Nat :=
  let c0_50 : Index := 0#32
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_21 : BitVec 32 := 1#32
  let arg15 : BitVec 32 := Scf.iv v31 c1_i32_21 k1_t2
  let c1024_i32_49 : BitVec 32 := 1024#32
  let v97 : BitVec 32 := Scalar.muli arg15 c1024_i32_49
  let v98 : BitVec 32 := v97
  let v99 : Index := Scalar.indexCast v98
  let c0_51 : Index := 0#32
  ![0, v99.toNat, 0]
def k1_off4 (i : grid1.Coords) (k1_t2 : Fin (k1_t2_loop i).trips) : Fin 3 → Nat :=
  let c0_53 : Index := 0#32
  let c0_54 : Index := 0#32
  let c0_i32 : BitVec 32 := 0#32
  let arg2 : BitVec 32 := BitVec.ofNat 32 (i 2).val
  let v27 : BitVec 32 := Scalar.subi arg2 c0_i32
  let c1_i32 : BitVec 32 := 1#32
  let v29 : BitVec 32 := Scalar.divsi v27 c1_i32
  let v30 : BitVec 32 := Scalar.muli v29 c1_i32
  let v31 : BitVec 32 := Scalar.addi c0_i32 v30
  let c1_i32_21 : BitVec 32 := 1#32
  let arg15 : BitVec 32 := Scf.iv v31 c1_i32_21 k1_t2
  let c1024_i32_49 : BitVec 32 := 1024#32
  let v97 : BitVec 32 := Scalar.muli arg15 c1024_i32_49
  let v98 : BitVec 32 := v97
  let v107 : Index := Scalar.indexCast v98
  ![0, 0, v107.toNat]
def k1_mult3 (i : grid1.Coords) : BitVec 32 :=
  let arg2 : BitVec 32 := BitVec.ofNat 32 (i 2).val
  let c1024_i32 : BitVec 32 := 1024#32
  let v34 : BitVec 32 := Scalar.muli arg2 c1024_i32
  v34
def k1_off5 (i : grid1.Coords) : Fin 3 → Nat :=
  let c0_22 : Index := 0#32
  let arg2 : BitVec 32 := BitVec.ofNat 32 (i 2).val
  let c1024_i32 : BitVec 32 := 1024#32
  let v34 : BitVec 32 := Scalar.muli arg2 c1024_i32
  let v35 : BitVec 32 := v34
  let v36 : Index := Scalar.indexCast v35
  let c0_23 : Index := 0#32
  ![0, v36.toNat, 0]
def k1_off6 (i : grid1.Coords) : Fin 3 → Nat :=
  let c0_25 : Index := 0#32
  let c0_26 : Index := 0#32
  let arg2 : BitVec 32 := BitVec.ofNat 32 (i 2).val
  let c1024_i32 : BitVec 32 := 1024#32
  let v34 : BitVec 32 := Scalar.muli arg2 c1024_i32
  let v35 : BitVec 32 := v34
  let v44 : Index := Scalar.indexCast v35
  ![0, 0, v44.toNat]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c16_i32 : BitVec 32 := 16#32
  let v1 : BitVec 32 := Scalar.addi c16_i32 v0
  let c0_i32 : BitVec 32 := 0#32
  let c0_i32_0 : BitVec 32 := 0#32
  ![arg0.toNat, c0_i32.toNat, v1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c16_i32 : BitVec 32 := 16#32
  let v1 : BitVec 32 := Scalar.addi c16_i32 v0
  let c1_i32 : BitVec 32 := 1#32
  let v2 : BitVec 32 := Scalar.addi v1 c1_i32
  let c0_i32 : BitVec 32 := 0#32
  let c0_i32_0 : BitVec 32 := 0#32
  ![arg0.toNat, c0_i32.toNat, v2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc1_transform_10 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_11 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, true]

abbrev stage1_7 : Fin 2 → Memref sig .tc .vmem S1x8x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S1x1024x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S1x1x1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev stage1_10 : Fin 2 → Memref sig .tc .vmem S1x1x1024x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

abbrev grid2 : Pipeline.Grid := ⟨3, ![2, 4, 2], ![false, false, false]⟩

def k2_mult1 (i : grid2.Coords) : BitVec 32 :=
  let arg2 : BitVec 32 := BitVec.ofNat 32 (i 2).val
  let c1024_i32 : BitVec 32 := 1024#32
  let v19 : BitVec 32 := Scalar.muli arg2 c1024_i32
  v19
def k2_off1 (i : grid2.Coords) : Fin 3 → Nat :=
  let c0_12 : Index := 0#32
  let arg2 : BitVec 32 := BitVec.ofNat 32 (i 2).val
  let c1024_i32 : BitVec 32 := 1024#32
  let v19 : BitVec 32 := Scalar.muli arg2 c1024_i32
  let v20 : BitVec 32 := v19
  let v21 : Index := Scalar.indexCast v20
  let c0_13 : Index := 0#32
  ![0, v21.toNat, 0]
def k2_off2 (i : grid2.Coords) : Fin 4 → Nat :=
  let c0_21 : Index := 0#32
  let c0_22 : Index := 0#32
  let arg2 : BitVec 32 := BitVec.ofNat 32 (i 2).val
  let c1024_i32 : BitVec 32 := 1024#32
  let v19 : BitVec 32 := Scalar.muli arg2 c1024_i32
  let v20 : BitVec 32 := v19
  let v46 : Index := Scalar.indexCast v20
  let c0_23 : Index := 0#32
  ![0, 0, v46.toNat, 0]
@[reducible] def k2_t1_loop (i : grid2.Coords) : Scf.Loop 32 :=
  let arg2 : BitVec 32 := BitVec.ofNat 32 (i 2).val
  let c1_i32 : BitVec 32 := 1#32
  let v72 : BitVec 32 := Scalar.addi arg2 c1_i32
  let c2_i32 : BitVec 32 := 2#32
  let v73 : BitVec 32 := Scalar.subi c2_i32 v72
  let c1_i32_33 : BitVec 32 := 1#32
  let v75 : BitVec 32 := Scalar.divsi v73 c1_i32_33
  let v76 : BitVec 32 := Scalar.muli v75 c1_i32_33
  let v77 : BitVec 32 := Scalar.addi v72 v76
  let c1_i32_34 : BitVec 32 := 1#32
  ⟨v72, v77, c1_i32_34⟩
def k2_mult2 (i : grid2.Coords) (k2_t1 : Fin (k2_t1_loop i).trips) : BitVec 32 :=
  let arg2 : BitVec 32 := BitVec.ofNat 32 (i 2).val
  let c1_i32 : BitVec 32 := 1#32
  let v72 : BitVec 32 := Scalar.addi arg2 c1_i32
  let c1_i32_34 : BitVec 32 := 1#32
  let arg14 : BitVec 32 := Scf.iv v72 c1_i32_34 k2_t1
  let c1024_i32_45 : BitVec 32 := 1024#32
  let v91 : BitVec 32 := Scalar.muli arg14 c1024_i32_45
  v91
def k2_off3 (i : grid2.Coords) (k2_t1 : Fin (k2_t1_loop i).trips) : Fin 3 → Nat :=
  let c0_46 : Index := 0#32
  let arg2 : BitVec 32 := BitVec.ofNat 32 (i 2).val
  let c1_i32 : BitVec 32 := 1#32
  let v72 : BitVec 32 := Scalar.addi arg2 c1_i32
  let c1_i32_34 : BitVec 32 := 1#32
  let arg14 : BitVec 32 := Scf.iv v72 c1_i32_34 k2_t1
  let c1024_i32_45 : BitVec 32 := 1024#32
  let v91 : BitVec 32 := Scalar.muli arg14 c1024_i32_45
  let v92 : BitVec 32 := v91
  let v93 : Index := Scalar.indexCast v92
  let c0_47 : Index := 0#32
  ![0, v93.toNat, 0]
def k2_off4 (i : grid2.Coords) (k2_t1 : Fin (k2_t1_loop i).trips) : Fin 4 → Nat :=
  let c0_54 : Index := 0#32
  let c0_55 : Index := 0#32
  let arg2 : BitVec 32 := BitVec.ofNat 32 (i 2).val
  let c1_i32 : BitVec 32 := 1#32
  let v72 : BitVec 32 := Scalar.addi arg2 c1_i32
  let c1_i32_34 : BitVec 32 := 1#32
  let arg14 : BitVec 32 := Scf.iv v72 c1_i32_34 k2_t1
  let c1024_i32_45 : BitVec 32 := 1024#32
  let v91 : BitVec 32 := Scalar.muli arg14 c1024_i32_45
  let v92 : BitVec 32 := v91
  let v113 : Index := Scalar.indexCast v92
  let c0_56 : Index := 0#32
  ![0, 0, v113.toNat, 0]
@[reducible] def k2_t2_loop (i : grid2.Coords) : Scf.Loop 32 :=
  let arg2 : BitVec 32 := BitVec.ofNat 32 (i 2).val
  let c1_i32 : BitVec 32 := 1#32
  let v72 : BitVec 32 := Scalar.addi arg2 c1_i32
  let c2_i32 : BitVec 32 := 2#32
  let v73 : BitVec 32 := Scalar.subi c2_i32 v72
  let c1_i32_33 : BitVec 32 := 1#32
  let v75 : BitVec 32 := Scalar.divsi v73 c1_i32_33
  let v76 : BitVec 32 := Scalar.muli v75 c1_i32_33
  let v77 : BitVec 32 := Scalar.addi v72 v76
  let v74 : BitVec 32 := Scalar.addi v72 v73
  let c1_i32_35 : BitVec 32 := 1#32
  ⟨v77, v74, c1_i32_35⟩
def k2_mult3 (i : grid2.Coords) (k2_t2 : Fin (k2_t2_loop i).trips) : BitVec 32 :=
  let arg2 : BitVec 32 := BitVec.ofNat 32 (i 2).val
  let c1_i32 : BitVec 32 := 1#32
  let v72 : BitVec 32 := Scalar.addi arg2 c1_i32
  let c2_i32 : BitVec 32 := 2#32
  let v73 : BitVec 32 := Scalar.subi c2_i32 v72
  let c1_i32_33 : BitVec 32 := 1#32
  let v75 : BitVec 32 := Scalar.divsi v73 c1_i32_33
  let v76 : BitVec 32 := Scalar.muli v75 c1_i32_33
  let v77 : BitVec 32 := Scalar.addi v72 v76
  let c1_i32_35 : BitVec 32 := 1#32
  let arg14 : BitVec 32 := Scf.iv v77 c1_i32_35 k2_t2
  let c1024_i32_45 : BitVec 32 := 1024#32
  let v91 : BitVec 32 := Scalar.muli arg14 c1024_i32_45
  v91
def k2_off5 (i : grid2.Coords) (k2_t2 : Fin (k2_t2_loop i).trips) : Fin 3 → Nat :=
  let c0_46 : Index := 0#32
  let arg2 : BitVec 32 := BitVec.ofNat 32 (i 2).val
  let c1_i32 : BitVec 32 := 1#32
  let v72 : BitVec 32 := Scalar.addi arg2 c1_i32
  let c2_i32 : BitVec 32 := 2#32
  let v73 : BitVec 32 := Scalar.subi c2_i32 v72
  let c1_i32_33 : BitVec 32 := 1#32
  let v75 : BitVec 32 := Scalar.divsi v73 c1_i32_33
  let v76 : BitVec 32 := Scalar.muli v75 c1_i32_33
  let v77 : BitVec 32 := Scalar.addi v72 v76
  let c1_i32_35 : BitVec 32 := 1#32
  let arg14 : BitVec 32 := Scf.iv v77 c1_i32_35 k2_t2
  let c1024_i32_45 : BitVec 32 := 1024#32
  let v91 : BitVec 32 := Scalar.muli arg14 c1024_i32_45
  let v92 : BitVec 32 := v91
  let v93 : Index := Scalar.indexCast v92
  let c0_47 : Index := 0#32
  ![0, v93.toNat, 0]
def k2_off6 (i : grid2.Coords) (k2_t2 : Fin (k2_t2_loop i).trips) : Fin 4 → Nat :=
  let c0_54 : Index := 0#32
  let c0_55 : Index := 0#32
  let arg2 : BitVec 32 := BitVec.ofNat 32 (i 2).val
  let c1_i32 : BitVec 32 := 1#32
  let v72 : BitVec 32 := Scalar.addi arg2 c1_i32
  let c2_i32 : BitVec 32 := 2#32
  let v73 : BitVec 32 := Scalar.subi c2_i32 v72
  let c1_i32_33 : BitVec 32 := 1#32
  let v75 : BitVec 32 := Scalar.divsi v73 c1_i32_33
  let v76 : BitVec 32 := Scalar.muli v75 c1_i32_33
  let v77 : BitVec 32 := Scalar.addi v72 v76
  let c1_i32_35 : BitVec 32 := 1#32
  let arg14 : BitVec 32 := Scf.iv v77 c1_i32_35 k2_t2
  let c1024_i32_45 : BitVec 32 := 1024#32
  let v91 : BitVec 32 := Scalar.muli arg14 c1024_i32_45
  let v92 : BitVec 32 := v91
  let v113 : Index := Scalar.indexCast v92
  let c0_56 : Index := 0#32
  ![0, 0, v113.toNat, 0]
def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c16_i32 : BitVec 32 := 16#32
  let v1 : BitVec 32 := Scalar.addi c16_i32 v0
  let c0_i32 : BitVec 32 := 0#32
  ![arg0.toNat, arg2.toNat, v1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c16_i32 : BitVec 32 := 16#32
  let v1 : BitVec 32 := Scalar.addi c16_i32 v0
  let c1_i32 : BitVec 32 := 1#32
  let v2 : BitVec 32 := Scalar.addi v1 c1_i32
  let c0_i32 : BitVec 32 := 0#32
  ![arg0.toNat, arg2.toNat, v2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc2_transform_4 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_9 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc2_transform_10 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage2_0 : Fin 2 → Memref sig .tc .vmem S1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1x1x2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1x1x2048x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S1x2048x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false, false]

abbrev stage2_7 : Fin 2 → Memref sig .tc .vmem S1x8x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false, true]

abbrev stage2_8 : Fin 2 → Memref sig .tc .vmem S1x1024x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true, true]

abbrev stage2_9 : Fin 2 → Memref sig .tc .vmem S1x1x1x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true, true]
-- ==== Kernel4Ideal.lean ====
variable {F : FTy → Type} [FloatOps F] [Named F]
def κ : String → Option EReal := fun
  | "mask" => some ⊥
  | _ => none
-- ==== Reference4Ideal.lean ====
abbrev S2x2048x256 : Shape := ⟨3, ![2, 2048, 256]⟩
abbrev S2x2048x4 : Shape := ⟨3, ![2, 2048, 4]⟩
abbrev S2x2048x4x64 : Shape := ⟨4, ![2, 2048, 4, 64]⟩
abbrev S2x4x2048x2048 : Shape := ⟨4, ![2, 4, 2048, 2048]⟩
abbrev S_ : Shape := ⟨0, ![]⟩
abbrev S2x4x2048 : Shape := ⟨3, ![2, 4, 2048]⟩
abbrev S2x4x2048x1 : Shape := ⟨4, ![2, 4, 2048, 1]⟩
abbrev S2x4x1x2048 : Shape := ⟨4, ![2, 4, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x4x64x2048 : Shape := ⟨4, ![2, 4, 64, 2048]⟩
abbrev S2x4x2048x64 : Shape := ⟨4, ![2, 4, 2048, 64]⟩

abbrev nBuf : Space → Nat
  | .hbm => 119
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S2x2048x256, .f32⟩
  | .hbm, ⟨3, _⟩ => ⟨S2x2048x4, .f32⟩
  | .hbm, ⟨4, _⟩ => ⟨S2x2048x256, .f32⟩
  | .hbm, ⟨5, _⟩ => ⟨S2x2048x4x64, .f32⟩
  | .hbm, ⟨6, _⟩ => ⟨S2x2048x4x64, .f32⟩
  | .hbm, ⟨7, _⟩ => ⟨S2x2048x4x64, .f32⟩
  | .hbm, ⟨8, _⟩ => ⟨S2x4x2048x2048, .f32⟩
  | .hbm, ⟨9, _⟩ => ⟨S_, .f32⟩
  | .hbm, ⟨10, _⟩ => ⟨S2x4x2048x2048, .f32⟩
  | .hbm, ⟨11, _⟩ => ⟨S2x4x2048x2048, .f32⟩
  | .hbm, ⟨12, _⟩ => ⟨S2x4x2048, .f32⟩
  | .hbm, ⟨13, _⟩ => ⟨S2x4x2048x1, .f32⟩
  | .hbm, ⟨14, _⟩ => ⟨S2x4x2048, .f32⟩
  | .hbm, ⟨15, _⟩ => ⟨S2x4x1x2048, .f32⟩
  | .hbm, ⟨16, _⟩ => ⟨S2x4x2048x2048, .f32⟩
  | .hbm, ⟨17, _⟩ => ⟨S2x4x2048x2048, .f32⟩
  | .hbm, ⟨18, _⟩ => ⟨S2x4x2048x2048, .f32⟩
  | .hbm, ⟨19, _⟩ => ⟨S2x4x2048x2048, .f32⟩
  | .hbm, ⟨20, _⟩ => ⟨S2048, .i32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S2x4x2048x2048, .i1⟩
  | .hbm, ⟨29, _⟩ => ⟨S2x4x2048x2048, .f32⟩
  | .hbm, ⟨30, _⟩ => ⟨S2x4x2048x2048, .f32⟩
  | .hbm, ⟨31, _⟩ => ⟨S_, .f32⟩
  | .hbm, ⟨32, _⟩ => ⟨S2x4x2048x2048, .f32⟩
  | .hbm, ⟨33, _⟩ => ⟨S_, .f32⟩
  | .hbm, ⟨34, _⟩ => ⟨S2x4x2048, .f32⟩
  | .hbm, ⟨35, _⟩ => ⟨S2x4x2048x1, .f32⟩
  | .hbm, ⟨36, _⟩ => ⟨S2x4x2048x2048, .f32⟩
  | .hbm, ⟨37, _⟩ => ⟨S2x4x2048x2048, .i1⟩
  | .hbm, ⟨38, _⟩ => ⟨S2x4x2048x2048, .f32⟩
  | .hbm, ⟨39, _⟩ => ⟨S_, .f32⟩
  | .hbm, ⟨40, _⟩ => ⟨S2x4x2048, .f32⟩
  | .hbm, ⟨41, _⟩ => ⟨S_, .f32⟩
  | .hbm, ⟨42, _⟩ => ⟨S2x4x2048, .f32⟩
  | .hbm, ⟨43, _⟩ => ⟨S2x4x2048, .f32⟩
  | .hbm, ⟨44, _⟩ => ⟨S_, .f32⟩
  | .hbm, ⟨45, _⟩ => ⟨S2x4x2048, .f32⟩
  | .hbm, ⟨46, _⟩ => ⟨S2x4x2048, .i1⟩
  | .hbm, ⟨47, _⟩ => ⟨S_, .f32⟩
  | .hbm, ⟨48, _⟩ => ⟨S2x4x2048, .f32⟩
  | .hbm, ⟨49, _⟩ => ⟨S2x4x2048, .i1⟩
  | .hbm, ⟨50, _⟩ => ⟨S_, .f32⟩
  | .hbm, ⟨51, _⟩ => ⟨S2x4x2048, .f32⟩
  | .hbm, ⟨52, _⟩ => ⟨S_, .f32⟩
  | .hbm, ⟨53, _⟩ => ⟨S2x4x2048, .f32⟩
  | .hbm, ⟨54, _⟩ => ⟨S_, .f32⟩
  | .hbm, ⟨55, _⟩ => ⟨S2x4x2048, .f32⟩
  | .hbm, ⟨56, _⟩ => ⟨S2x4x2048, .f32⟩
  | .hbm, ⟨57, _⟩ => ⟨S2x4x2048, .f32⟩
  | .hbm, ⟨58, _⟩ => ⟨S2x4x2048x1, .f32⟩
  | .hbm, ⟨59, _⟩ => ⟨S2x4x2048x2048, .f32⟩
  | .hbm, ⟨60, _⟩ => ⟨S2x4x2048x2048, .f32⟩
  | .hbm, ⟨61, _⟩ => ⟨S2x4x2048x2048, .f32⟩
  | .hbm, ⟨62, _⟩ => ⟨S_, .f32⟩
  | .hbm, ⟨63, _⟩ => ⟨S2x4x2048, .f32⟩
  | .hbm, ⟨64, _⟩ => ⟨S2x4x2048x1, .f32⟩
  | .hbm, ⟨65, _⟩ => ⟨S2x4x2048x2048, .f32⟩
  | .hbm, ⟨66, _⟩ => ⟨S2x4x2048x2048, .f32⟩
  | .hbm, ⟨67, _⟩ => ⟨S2x4x2048x1, .f32⟩
  | .hbm, ⟨68, _⟩ => ⟨S_, .f32⟩
  | .hbm, ⟨69, _⟩ => ⟨S2x4x2048x1, .f32⟩
  | .hbm, ⟨70, _⟩ => ⟨S2x4x2048x1, .f32⟩
  | .hbm, ⟨71, _⟩ => ⟨S2x4x64x2048, .f32⟩
  | .hbm, ⟨72, _⟩ => ⟨S2x2048x4x64, .f32⟩
  | .hbm, ⟨73, _⟩ => ⟨S2x2048x256, .f32⟩
  | .hbm, ⟨74, _⟩ => ⟨S2x2048x4x64, .f32⟩
  | .hbm, ⟨75, _⟩ => ⟨S2x4x64x2048, .f32⟩
  | .hbm, ⟨76, _⟩ => ⟨S2x4x2048x2048, .f32⟩
  | .hbm, ⟨77, _⟩ => ⟨S2x4x64x2048, .f32⟩
  | .hbm, ⟨78, _⟩ => ⟨S2x2048x4x64, .f32⟩
  | .hbm, ⟨79, _⟩ => ⟨S2x4x2048x2048, .f32⟩
  | .hbm, ⟨80, _⟩ => ⟨S2x4x2048x2048, .f32⟩
  | .hbm, ⟨81, _⟩ => ⟨S2x4x2048x2048, .f32⟩
  | .hbm, ⟨82, _⟩ => ⟨S_, .f32⟩
  | .hbm, ⟨83, _⟩ => ⟨S2x4x2048, .f32⟩
  | .hbm, ⟨84, _⟩ => ⟨S2x4x2048x1, .f32⟩
  | .hbm, ⟨85, _⟩ => ⟨S2x4x2048x1, .f32⟩
  | .hbm, ⟨86, _⟩ => ⟨S2x4x2048x2048, .f32⟩
  | .hbm, ⟨87, _⟩ => ⟨S2x4x2048x2048, .f32⟩
  | .hbm, ⟨88, _⟩ => ⟨S_, .f32⟩
  | .hbm, ⟨89, _⟩ => ⟨S2x4x2048, .f32⟩
  | .hbm, ⟨90, _⟩ => ⟨S2x4x2048x2048, .f32⟩
  | .hbm, ⟨91, _⟩ => ⟨S2x4x2048x2048, .f32⟩
  | .hbm, ⟨92, _⟩ => ⟨S2x4x2048x2048, .f32⟩
  | .hbm, ⟨93, _⟩ => ⟨S_, .f32⟩
  | .hbm, ⟨94, _⟩ => ⟨S2x4x2048x2048, .f32⟩
  | .hbm, ⟨95, _⟩ => ⟨S2x4x2048x2048, .f32⟩
  | .hbm, ⟨96, _⟩ => ⟨S_, .f32⟩
  | .hbm, ⟨97, _⟩ => ⟨S2x4x2048, .f32⟩
  | .hbm, ⟨98, _⟩ => ⟨S2x4x2048x1, .f32⟩
  | .hbm, ⟨99, _⟩ => ⟨S2x4x2048x2048, .f32⟩
  | .hbm, ⟨100, _⟩ => ⟨S_, .f32⟩
  | .hbm, ⟨101, _⟩ => ⟨S2x4x2048, .f32⟩
  | .hbm, ⟨102, _⟩ => ⟨S2x4x1x2048, .f32⟩
  | .hbm, ⟨103, _⟩ => ⟨S_, .f32⟩
  | .hbm, ⟨104, _⟩ => ⟨S2x4x2048, .f32⟩
  | .hbm, ⟨105, _⟩ => ⟨S2x2048x4, .f32⟩
  | .hbm, ⟨106, _⟩ => ⟨S_, .f32⟩
  | .hbm, ⟨107, _⟩ => ⟨S2x4x2048, .f32⟩
  | .hbm, ⟨108, _⟩ => ⟨S2x2048x4, .f32⟩
  | .hbm, ⟨109, _⟩ => ⟨S_, .f32⟩
  | .hbm, ⟨110, _⟩ => ⟨S2x4x2048x2048, .f32⟩
  | .hbm, ⟨111, _⟩ => ⟨S2x4x2048x2048, .f32⟩
  | .hbm, ⟨112, _⟩ => ⟨S2x4x2048x64, .f32⟩
  | .hbm, ⟨113, _⟩ => ⟨S2x2048x4x64, .f32⟩
  | .hbm, ⟨114, _⟩ => ⟨S2x4x2048x64, .f32⟩
  | .hbm, ⟨115, _⟩ => ⟨S2x2048x4x64, .f32⟩
  | .hbm, ⟨116, _⟩ => ⟨S2x2048x256, .f32⟩
  | .hbm, ⟨117, _⟩ => ⟨S2x2048x256, .f32⟩
  | .hbm, ⟨118, _⟩ => ⟨S2x2048x256, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== Kernel5.lean ====
abbrev S2x2048x1024 : Shape := ⟨3, ![2, 2048, 1024]⟩
abbrev S1024x1024 : Shape := ⟨2, ![1024, 1024]⟩
abbrev S2x2048x320 : Shape := ⟨3, ![2, 2048, 320]⟩
abbrev S_ : Shape := ⟨0, ![]⟩
abbrev S2x2048x64 : Shape := ⟨3, ![2, 2048, 64]⟩
abbrev S2x2048x256 : Shape := ⟨3, ![2, 2048, 256]⟩
abbrev S2x2048x768 : Shape := ⟨3, ![2, 2048, 768]⟩
abbrev S2x2048x1536 : Shape := ⟨3, ![2, 2048, 1536]⟩
abbrev S1024x320 : Shape := ⟨2, ![1024, 320]⟩
abbrev S1024x64 : Shape := ⟨2, ![1024, 64]⟩
abbrev S1024x256 : Shape := ⟨2, ![1024, 256]⟩
abbrev S1024x768 : Shape := ⟨2, ![1024, 768]⟩
abbrev S1024x1536 : Shape := ⟨2, ![1024, 1536]⟩
abbrev S1536x1024 : Shape := ⟨2, ![1536, 1024]⟩
abbrev S1x4096x1024 : Shape := ⟨3, ![1, 4096, 1024]⟩
abbrev S1x4096x1536 : Shape := ⟨3, ![1, 4096, 1536]⟩
abbrev S1x1536x1024 : Shape := ⟨3, ![1, 1536, 1024]⟩
abbrev S1x1024x1536 : Shape := ⟨3, ![1, 1024, 1536]⟩
abbrev S1x1024x1024 : Shape := ⟨3, ![1, 1024, 1024]⟩

abbrev nBuf : Space → Nat
  | .hbm => 82
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .bf16⟩
  | .hbm, ⟨4, _⟩ => ⟨S2x2048x320, .bf16⟩
  | .hbm, ⟨5, _⟩ => ⟨S_, .bf16⟩
  | .hbm, ⟨6, _⟩ => ⟨S2x2048x64, .bf16⟩
  | .hbm, ⟨7, _⟩ => ⟨S2x2048x64, .bf16⟩
  | .hbm, ⟨8, _⟩ => ⟨S_, .bf16⟩
  | .hbm, ⟨9, _⟩ => ⟨S2x2048x64, .bf16⟩
  | .hbm, ⟨10, _⟩ => ⟨S2x2048x64, .bf16⟩
  | .hbm, ⟨11, _⟩ => ⟨S_, .bf16⟩
  | .hbm, ⟨12, _⟩ => ⟨S2x2048x64, .bf16⟩
  | .hbm, ⟨13, _⟩ => ⟨S2x2048x64, .bf16⟩
  | .hbm, ⟨14, _⟩ => ⟨S_, .bf16⟩
  | .hbm, ⟨15, _⟩ => ⟨S2x2048x64, .bf16⟩
  | .hbm, ⟨16, _⟩ => ⟨S2x2048x64, .bf16⟩
  | .hbm, ⟨17, _⟩ => ⟨S_, .bf16⟩
  | .hbm, ⟨18, _⟩ => ⟨S2x2048x64, .bf16⟩
  | .hbm, ⟨19, _⟩ => ⟨S2x2048x64, .bf16⟩
  | .hbm, ⟨20, _⟩ => ⟨S_, .bf16⟩
  | .hbm, ⟨21, _⟩ => ⟨S2x2048x64, .bf16⟩
  | .hbm, ⟨22, _⟩ => ⟨S2x2048x64, .bf16⟩
  | .hbm, ⟨23, _⟩ => ⟨S_, .bf16⟩
  | .hbm, ⟨24, _⟩ => ⟨S2x2048x64, .bf16⟩
  | .hbm, ⟨25, _⟩ => ⟨S2x2048x64, .bf16⟩
  | .hbm, ⟨26, _⟩ => ⟨S_, .bf16⟩
  | .hbm, ⟨27, _⟩ => ⟨S2x2048x64, .bf16⟩
  | .hbm, ⟨28, _⟩ => ⟨S2x2048x256, .bf16⟩
  | .hbm, ⟨29, _⟩ => ⟨S2x2048x768, .bf16⟩
  | .hbm, ⟨30, _⟩ => ⟨S2x2048x768, .bf16⟩
  | .hbm, ⟨31, _⟩ => ⟨S2x2048x1536, .bf16⟩
  | .hbm, ⟨32, _⟩ => ⟨S1024x1024, .bf16⟩
  | .hbm, ⟨33, _⟩ => ⟨S1024x1024, .bf16⟩
  | .hbm, ⟨34, _⟩ => ⟨S1024x320, .bf16⟩
  | .hbm, ⟨35, _⟩ => ⟨S_, .bf16⟩
  | .hbm, ⟨36, _⟩ => ⟨S1024x64, .bf16⟩
  | .hbm, ⟨37, _⟩ => ⟨S1024x64, .bf16⟩
  | .hbm, ⟨38, _⟩ => ⟨S_, .bf16⟩
  | .hbm, ⟨39, _⟩ => ⟨S1024x64, .bf16⟩
  | .hbm, ⟨40, _⟩ => ⟨S1024x64, .bf16⟩
  | .hbm, ⟨41, _⟩ => ⟨S_, .bf16⟩
  | .hbm, ⟨42, _⟩ => ⟨S1024x64, .bf16⟩
  | .hbm, ⟨43, _⟩ => ⟨S1024x64, .bf16⟩
  | .hbm, ⟨44, _⟩ => ⟨S_, .bf16⟩
  | .hbm, ⟨45, _⟩ => ⟨S1024x64, .bf16⟩
  | .hbm, ⟨46, _⟩ => ⟨S1024x64, .bf16⟩
  | .hbm, ⟨47, _⟩ => ⟨S_, .bf16⟩
  | .hbm, ⟨48, _⟩ => ⟨S1024x64, .bf16⟩
  | .hbm, ⟨49, _⟩ => ⟨S1024x64, .bf16⟩
  | .hbm, ⟨50, _⟩ => ⟨S_, .bf16⟩
  | .hbm, ⟨51, _⟩ => ⟨S1024x64, .bf16⟩
  | .hbm, ⟨52, _⟩ => ⟨S1024x64, .bf16⟩
  | .hbm, ⟨53, _⟩ => ⟨S_, .bf16⟩
  | .hbm, ⟨54, _⟩ => ⟨S1024x64, .bf16⟩
  | .hbm, ⟨55, _⟩ => ⟨S1024x64, .bf16⟩
  | .hbm, ⟨56, _⟩ => ⟨S_, .bf16⟩
  | .hbm, ⟨57, _⟩ => ⟨S1024x64, .bf16⟩
  | .hbm, ⟨58, _⟩ => ⟨S1024x256, .bf16⟩
  | .hbm, ⟨59, _⟩ => ⟨S1024x768, .bf16⟩
  | .hbm, ⟨60, _⟩ => ⟨S1024x768, .bf16⟩
  | .hbm, ⟨61, _⟩ => ⟨S1024x1536, .bf16⟩
  | .hbm, ⟨62, _⟩ => ⟨S1536x1024, .bf16⟩
  | .hbm, ⟨63, _⟩ => ⟨S2x2048x1024, .bf16⟩
  | .hbm, ⟨64, _⟩ => ⟨S1x4096x1024, .bf16⟩
  | .hbm, ⟨65, _⟩ => ⟨S1x4096x1536, .bf16⟩
  | .hbm, ⟨66, _⟩ => ⟨S1x1536x1024, .bf16⟩
  | .hbm, ⟨67, _⟩ => ⟨S1x4096x1024, .f32⟩
  | .hbm, ⟨68, _⟩ => ⟨S2x2048x1024, .f32⟩
  | .hbm, ⟨69, _⟩ => ⟨S1x1536x1024, .bf16⟩
  | .hbm, ⟨70, _⟩ => ⟨S1x4096x1536, .f32⟩
  | .hbm, ⟨71, _⟩ => ⟨S2x2048x1536, .f32⟩
  | .hbm, ⟨72, _⟩ => ⟨S2x2048x320, .f32⟩
  | .hbm, ⟨73, _⟩ => ⟨S2x2048x64, .f32⟩
  | .hbm, ⟨74, _⟩ => ⟨S2x2048x64, .f32⟩
  | .hbm, ⟨75, _⟩ => ⟨S2x2048x64, .f32⟩
  | .hbm, ⟨76, _⟩ => ⟨S2x2048x64, .f32⟩
  | .hbm, ⟨77, _⟩ => ⟨S2x2048x64, .f32⟩
  | .hbm, ⟨78, _⟩ => ⟨S2x2048x64, .f32⟩
  | .hbm, ⟨79, _⟩ => ⟨S2x2048x64, .f32⟩
  | .hbm, ⟨80, _⟩ => ⟨S2x2048x256, .f32⟩
  | .hbm, ⟨81, _⟩ => ⟨S2x2048x1024, .f32⟩
  | .local _ .vmem, ⟨0, _⟩ => ⟨S1x1024x1536, .bf16⟩
  | .local _ .vmem, ⟨1, _⟩ => ⟨S1x1024x1536, .bf16⟩
  | .local _ .vmem, ⟨2, _⟩ => ⟨S1x1536x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | .local _ .vmem, ⟨7, _⟩ => ⟨S1x1536x1024, .bf16⟩
  | .local _ .vmem, ⟨8, _⟩ => ⟨S1x1024x1536, .f32⟩
  | .local _ .vmem, ⟨9, _⟩ => ⟨S1x1024x1536, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_cst_13 : Ref sig .tc := ⟨.hbm, 53, rfl⟩
abbrev main_v36 : Ref sig .tc := ⟨.hbm, 54, rfl⟩
abbrev main_v37 : Ref sig .tc := ⟨.hbm, 55, rfl⟩
abbrev main_cst_14 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1x1536x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true]

abbrev stage1_2 : Fin 2 → Memref sig .tc .vmem S1x1024x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference5Ideal.lean ====
abbrev S2x2048x1024 : Shape := ⟨3, ![2, 2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S2x2048x1024 : Shape := ⟨3, ![2, 2048, 1024]⟩
abbrev S1024x2724 : Shape := ⟨2, ![1024, 2724]⟩
abbrev S2x2048x2724 : Shape := ⟨3, ![2, 2048, 2724]⟩
abbrev S1024x1408 : Shape := ⟨2, ![1024, 1408]⟩
abbrev S_ : Shape := ⟨0, ![]⟩
abbrev S1024x64 : Shape := ⟨2, ![1024, 64]⟩
abbrev S1024x16 : Shape := ⟨2, ![1024, 16]⟩
abbrev S1024x512 : Shape := ⟨2, ![1024, 512]⟩
abbrev S1024x4 : Shape := ⟨2, ![1024, 4]⟩
abbrev S1024x124 : Shape := ⟨2, ![1024, 124]⟩
abbrev S1024x1664 : Shape := ⟨2, ![1024, 1664]⟩
abbrev S1024x2176 : Shape := ⟨2, ![1024, 2176]⟩
abbrev S1024x1024 : Shape := ⟨2, ![1024, 1024]⟩
abbrev S1024x1536 : Shape := ⟨2, ![1024, 1536]⟩
abbrev S1024x3712 : Shape := ⟨2, ![1024, 3712]⟩
abbrev S2x2048x1408 : Shape := ⟨3, ![2, 2048, 1408]⟩
abbrev S2x2048x64 : Shape := ⟨3, ![2, 2048, 64]⟩
abbrev S2x2048x16 : Shape := ⟨3, ![2, 2048, 16]⟩
abbrev S2x2048x512 : Shape := ⟨3, ![2, 2048, 512]⟩
abbrev S2x2048x4 : Shape := ⟨3, ![2, 2048, 4]⟩
abbrev S2x2048x124 : Shape := ⟨3, ![2, 2048, 124]⟩
abbrev S2x2048x1664 : Shape := ⟨3, ![2, 2048, 1664]⟩
abbrev S2x2048x2176 : Shape := ⟨3, ![2, 2048, 2176]⟩
abbrev S2x2048x1536 : Shape := ⟨3, ![2, 2048, 1536]⟩
abbrev S2x2048x3712 : Shape := ⟨3, ![2, 2048, 3712]⟩
abbrev S1x4096x3712 : Shape := ⟨3, ![1, 4096, 3712]⟩
abbrev S1x4096x1024 : Shape := ⟨3, ![1, 4096, 1024]⟩
abbrev S1x1024x3712 : Shape := ⟨3, ![1, 1024, 3712]⟩
abbrev S1x512x1024 : Shape := ⟨3, ![1, 512, 1024]⟩
abbrev S1x512x3712 : Shape := ⟨3, ![1, 512, 3712]⟩
abbrev S512x1024 : Shape := ⟨2, ![512, 1024]⟩
abbrev S512x3712 : Shape := ⟨2, ![512, 3712]⟩
abbrev S2x2048x1760 : Shape := ⟨3, ![2, 2048, 1760]⟩
abbrev S2x2048x964 : Shape := ⟨3, ![2, 2048, 964]⟩

abbrev nBuf : Space → Nat
  | .hbm => 146
  | .vmem => 10
  | .smem => 0
  | _ => 0

abbrev hbmTy0_0 (i : Nat) : BufTy := match i % 128 with
  | 0 => ⟨S2x2048x1024, .f32⟩
  | 1 => ⟨S1024x2724, .f32⟩
  | 2 => ⟨S2x2048x2724, .f32⟩
  | 3 => ⟨S2x2048x1024, .bf16⟩
  | 4 => ⟨S1024x1408, .f32⟩
  | 5 => ⟨S_, .f32⟩
  | 6 => ⟨S1024x64, .f32⟩
  | 7 => ⟨S1024x16, .f32⟩
  | 8 => ⟨S_, .f32⟩
  | 9 => ⟨S1024x16, .f32⟩
  | 10 => ⟨S1024x16, .f32⟩
  | 11 => ⟨S_, .f32⟩
  | 12 => ⟨S1024x16, .f32⟩
  | 13 => ⟨S1024x64, .f32⟩
  | 14 => ⟨S_, .f32⟩
  | 15 => ⟨S1024x64, .f32⟩
  | 16 => ⟨S1024x64, .f32⟩
  | 17 => ⟨S_, .f32⟩
  | 18 => ⟨S1024x64, .f32⟩
  | 19 => ⟨S1024x64, .f32⟩
  | 20 => ⟨S_, .f32⟩
  | 21 => ⟨S1024x64, .f32⟩
  | 22 => ⟨S1024x64, .f32⟩
  | 23 => ⟨S_, .f32⟩
  | 24 => ⟨S1024x64, .f32⟩
  | 25 => ⟨S1024x64, .f32⟩
  | 26 => ⟨S_, .f32⟩
  | 27 => ⟨S1024x64, .f32⟩
  | 28 => ⟨S1024x64, .f32⟩
  | 29 => ⟨S_, .f32⟩
  | 30 => ⟨S1024x64, .f32⟩
  | 31 => ⟨S1024x64, .f32⟩
  | 32 => ⟨S_, .f32⟩
  | 33 => ⟨S1024x64, .f32⟩
  | 34 => ⟨S1024x64, .f32⟩
  | 35 => ⟨S_, .f32⟩
  | 36 => ⟨S1024x64, .f32⟩
  | 37 => ⟨S1024x64, .f32⟩
  | 38 => ⟨S_, .f32⟩
  | 39 => ⟨S1024x64, .f32⟩
  | 40 => ⟨S1024x64, .f32⟩
  | 41 => ⟨S_, .f32⟩
  | 42 => ⟨S1024x64, .f32⟩
  | 43 => ⟨S1024x64, .f32⟩
  | 44 => ⟨S_, .f32⟩
  | 45 => ⟨S1024x64, .f32⟩
  | 46 => ⟨S1024x64, .f32⟩
  | 47 => ⟨S_, .f32⟩
  | 48 => ⟨S1024x64, .f32⟩
  | 49 => ⟨S1024x512, .f32⟩
  | 50 => ⟨S1024x4, .f32⟩
  | 51 => ⟨S_, .f32⟩
  | 52 => ⟨S1024x124, .f32⟩
  | 53 => ⟨S1024x1664, .f32⟩
  | 54 => ⟨S1024x512, .f32⟩
  | 55 => ⟨S1024x2176, .f32⟩
  | 56 => ⟨S1024x512, .f32⟩
  | 57 => ⟨S1024x1024, .f32⟩
  | 58 => ⟨S1024x1536, .f32⟩
  | 59 => ⟨S1024x3712, .f32⟩
  | 60 => ⟨S1024x3712, .bf16⟩
  | 61 => ⟨S2x2048x2724, .bf16⟩
  | 62 => ⟨S2x2048x1408, .bf16⟩
  | 63 => ⟨S_, .bf16⟩
  | 64 => ⟨S2x2048x64, .bf16⟩
  | 65 => ⟨S2x2048x16, .bf16⟩
  | 66 => ⟨S_, .bf16⟩
  | 67 => ⟨S2x2048x16, .bf16⟩
  | 68 => ⟨S2x2048x16, .bf16⟩
  | 69 => ⟨S_, .bf16⟩
  | 70 => ⟨S2x2048x16, .bf16⟩
  | 71 => ⟨S2x2048x64, .bf16⟩
  | 72 => ⟨S_, .bf16⟩
  | 73 => ⟨S2x2048x64, .bf16⟩
  | 74 => ⟨S2x2048x64, .bf16⟩
  | 75 => ⟨S_, .bf16⟩
  | 76 => ⟨S2x2048x64, .bf16⟩
  | 77 => ⟨S2x2048x64, .bf16⟩
  | 78 => ⟨S_, .bf16⟩
  | 79 => ⟨S2x2048x64, .bf16⟩
  | 80 => ⟨S2x2048x64, .bf16⟩
  | 81 => ⟨S_, .bf16⟩
  | 82 => ⟨S2x2048x64, .bf16⟩
  | 83 => ⟨S2x2048x64, .bf16⟩
  | 84 => ⟨S_, .bf16⟩
  | 85 => ⟨S2x2048x64, .bf16⟩
  | 86 => ⟨S2x2048x64, .bf16⟩
  | 87 => ⟨S_, .bf16⟩
  | 88 => ⟨S2x2048x64, .bf16⟩
  | 89 => ⟨S2x2048x64, .bf16⟩
  | 90 => ⟨S_, .bf16⟩
  | 91 => ⟨S2x2048x64, .bf16⟩
  | 92 => ⟨S2x2048x64, .bf16⟩
  | 93 => ⟨S_, .bf16⟩
  | 94 => ⟨S2x2048x64, .bf16⟩
  | 95 => ⟨S2x2048x64, .bf16⟩
  | 96 => ⟨S_, .bf16⟩
  | 97 => ⟨S2x2048x64, .bf16⟩
  | 98 => ⟨S2x2048x64, .bf16⟩
  | 99 => ⟨S_, .bf16⟩
  | 100 => ⟨S2x2048x64, .bf16⟩
  | 101 => ⟨S2x2048x64, .bf16⟩
  | 102 => ⟨S_, .bf16⟩
  | 103 => ⟨S2x2048x64, .bf16⟩
  | 104 => ⟨S2x2048x64, .bf16⟩
  | 105 => ⟨S_, .bf16⟩
  | 106 => ⟨S2x2048x64, .bf16⟩
  | 107 => ⟨S2x2048x512, .bf16⟩
  | 108 => ⟨S2x2048x4, .bf16⟩
  | 109 => ⟨S_, .bf16⟩
  | 110 => ⟨S2x2048x124, .bf16⟩
  | 111 => ⟨S2x2048x1664, .bf16⟩
  | 112 => ⟨S2x2048x512, .bf16⟩
  | 113 => ⟨S2x2048x2176, .bf16⟩
  | 114 => ⟨S2x2048x512, .bf16⟩
  | 115 => ⟨S2x2048x1024, .bf16⟩
  | 116 => ⟨S2x2048x1536, .bf16⟩
  | 117 => ⟨S2x2048x3712, .bf16⟩
  | 118 => ⟨S1x4096x3712, .bf16⟩
  | 119 => ⟨S1x4096x1024, .bf16⟩
  | 120 => ⟨S1x1024x3712, .bf16⟩
  | 121 => ⟨S1x4096x3712, .f32⟩
  | 122 => ⟨S2x2048x3712, .f32⟩
  | 123 => ⟨S1x1024x3712, .bf16⟩
  | 124 => ⟨S1x4096x1024, .f32⟩
  | 125 => ⟨S2x2048x1024, .f32⟩
  | 126 => ⟨S2x2048x1408, .f32⟩
  | 127 => ⟨S2x2048x16, .f32⟩
  | _ => ⟨S2x2048x1024, .f32⟩

abbrev hbmTy0_1 (i : Nat) : BufTy := match i % 128 with
  | 0 => ⟨S2x2048x16, .f32⟩
  | 1 => ⟨S2x2048x64, .f32⟩
  | 2 => ⟨S2x2048x64, .f32⟩
  | 3 => ⟨S2x2048x64, .f32⟩
  | 4 => ⟨S2x2048x64, .f32⟩
  | 5 => ⟨S2x2048x64, .f32⟩
  | 6 => ⟨S2x2048x64, .f32⟩
  | 7 => ⟨S2x2048x64, .f32⟩
  | 8 => ⟨S2x2048x64, .f32⟩
  | 9 => ⟨S2x2048x64, .f32⟩
  | 10 => ⟨S2x2048x64, .f32⟩
  | 11 => ⟨S2x2048x64, .f32⟩
  | 12 => ⟨S2x2048x64, .f32⟩
  | 13 => ⟨S2x2048x4, .f32⟩
  | 14 => ⟨S2x2048x512, .f32⟩
  | 15 => ⟨S2x2048x1760, .f32⟩
  | 16 => ⟨S2x2048x964, .f32⟩
  | 17 => ⟨S2x2048x2724, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S1x512x1024, .bf16⟩
  | .local _ .vmem, ⟨1, _⟩ => ⟨S1x512x1024, .bf16⟩
  | .local _ .vmem, ⟨2, _⟩ => ⟨S1x1024x3712, .bf16⟩
  | .local _ .vmem, ⟨3, _⟩ => ⟨S1x512x3712, .f32⟩
  | .local _ .vmem, ⟨4, _⟩ => ⟨S1x512x3712, .f32⟩
  | .local _ .vmem, ⟨5, _⟩ => ⟨S1x512x3712, .bf16⟩
  | .local _ .vmem, ⟨6, _⟩ => ⟨S1x512x3712, .bf16⟩
  | .local _ .vmem, ⟨7, _⟩ => ⟨S1x1024x3712, .bf16⟩
  | .local _ .vmem, ⟨8, _⟩ => ⟨S1x512x1024, .f32⟩
  | .local _ .vmem, ⟨9, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_cst_7 : Ref sig .tc := ⟨.hbm, 29, rfl⟩
abbrev main_v18 : Ref sig .tc := ⟨.hbm, 30, rfl⟩
abbrev main_v19 : Ref sig .tc := ⟨.hbm, 31, rfl⟩
abbrev main_cst_8 : Ref sig .tc := ⟨.hbm, 32, rfl⟩
abbrev main_v20 : Ref sig .tc := ⟨.hbm, 33, rfl⟩
abbrev main_v21 : Ref sig .tc := ⟨.hbm, 34, rfl⟩
abbrev main_cst_9 : Ref sig .tc := ⟨.hbm, 35, rfl⟩
abbrev main_v22 : Ref sig .tc := ⟨.hbm, 36, rfl⟩
abbrev main_v23 : Ref sig .tc := ⟨.hbm, 37, rfl⟩
abbrev main_cst_10 : Ref sig .tc := ⟨.hbm, 38, rfl⟩
abbrev main_v24 : Ref sig .tc := ⟨.hbm, 39, rfl⟩
abbrev main_v25 : Ref sig .tc := ⟨.hbm, 40, rfl⟩
abbrev main_cst_11 : Ref sig .tc := ⟨.hbm, 41, rfl⟩
abbrev main_v26 : Ref sig .tc := ⟨.hbm, 42, rfl⟩
abbrev main_v27 : Ref sig .tc := ⟨.hbm, 43, rfl⟩
abbrev main_cst_12 : Ref sig .tc := ⟨.hbm, 44, rfl⟩
abbrev main_v28 : Ref sig .tc := ⟨.hbm, 45, rfl⟩
abbrev main_v29 : Ref sig .tc := ⟨.hbm, 46, rfl⟩
abbrev main_cst_13 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_14 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_15 : Ref sig .tc := ⟨.hbm, 63, rfl⟩
abbrev main_v44 : Ref sig .tc := ⟨.hbm, 64, rfl⟩
abbrev main_v45 : Ref sig .tc := ⟨.hbm, 65, rfl⟩
abbrev main_cst_16 : Ref sig .tc := ⟨.hbm, 66, rfl⟩
abbrev main_v46 : Ref sig .tc := ⟨.hbm, 67, rfl⟩
abbrev main_v47 : Ref sig .tc := ⟨.hbm, 68, rfl⟩
abbrev main_cst_17 : Ref sig .tc := ⟨.hbm, 69, rfl⟩
abbrev main_v48 : Ref sig .tc := ⟨.hbm, 70, rfl⟩
abbrev main_v49 : Ref sig .tc := ⟨.hbm, 71, rfl⟩
abbrev main_cst_18 : Ref sig .tc := ⟨.hbm, 72, rfl⟩
abbrev main_v50 : Ref sig .tc := ⟨.hbm, 73, rfl⟩
abbrev main_v51 : Ref sig .tc := ⟨.hbm, 74, rfl⟩
abbrev main_cst_19 : Ref sig .tc := ⟨.hbm, 75, rfl⟩
abbrev main_v52 : Ref sig .tc := ⟨.hbm, 76, rfl⟩
abbrev main_v53 : Ref sig .tc := ⟨.hbm, 77, rfl⟩
abbrev main_cst_20 : Ref sig .tc := ⟨.hbm, 78, rfl⟩
abbrev main_v54 : Ref sig .tc := ⟨.hbm, 79, rfl⟩
abbrev main_v55 : Ref sig .tc := ⟨.hbm, 80, rfl⟩
abbrev main_cst_21 : Ref sig .tc := ⟨.hbm, 81, rfl⟩
abbrev main_v56 : Ref sig .tc := ⟨.hbm, 82, rfl⟩
abbrev main_v57 : Ref sig .tc := ⟨.hbm, 83, rfl⟩
abbrev main_cst_22 : Ref sig .tc := ⟨.hbm, 84, rfl⟩
abbrev main_v58 : Ref sig .tc := ⟨.hbm, 85, rfl⟩
abbrev main_v59 : Ref sig .tc := ⟨.hbm, 86, rfl⟩
abbrev main_cst_23 : Ref sig .tc := ⟨.hbm, 87, rfl⟩
abbrev main_v60 : Ref sig .tc := ⟨.hbm, 88, rfl⟩
abbrev main_v61 : Ref sig .tc := ⟨.hbm, 89, rfl⟩
abbrev main_cst_24 : Ref sig .tc := ⟨.hbm, 90, rfl⟩
abbrev main_v62 : Ref sig .tc := ⟨.hbm, 91, rfl⟩
abbrev main_v63 : Ref sig .tc := ⟨.hbm, 92, rfl⟩
abbrev main_cst_25 : Ref sig .tc := ⟨.hbm, 93, rfl⟩
abbrev main_v64 : Ref sig .tc := ⟨.hbm, 94, rfl⟩
abbrev main_v65 : Ref sig .tc := ⟨.hbm, 95, rfl⟩
abbrev main_cst_26 : Ref sig .tc := ⟨.hbm, 96, rfl⟩
abbrev main_v66 : Ref sig .tc := ⟨.hbm, 97, rfl⟩
abbrev main_v67 : Ref sig .tc := ⟨.hbm, 98, rfl⟩
abbrev main_cst_27 : Ref sig .tc := ⟨.hbm, 99, rfl⟩
abbrev main_v68 : Ref sig .tc := ⟨.hbm, 100, rfl⟩
abbrev main_v69 : Ref sig .tc := ⟨.hbm, 101, rfl⟩
abbrev main_cst_28 : Ref sig .tc := ⟨.hbm, 102, rfl⟩
abbrev main_v70 : Ref sig .tc := ⟨.hbm, 103, rfl⟩
abbrev main_v71 : Ref sig .tc := ⟨.hbm, 104, rfl⟩
abbrev main_cst_29 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_30 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 8, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x3712 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1x1024x3712 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference6Ideal.lean ====
abbrev S2x2048x1024 : Shape := ⟨3, ![2, 2048, 1024]⟩
abbrev S1024x2724 : Shape := ⟨2, ![1024, 2724]⟩
abbrev S2x2048x2724 : Shape := ⟨3, ![2, 2048, 2724]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2724, .f32⟩
  | .hbm, ⟨2, _⟩ => ⟨S2x2048x2724, .f32⟩
  | .hbm, ⟨3, _⟩ => ⟨S2x2048x2724, .f32⟩
  | .hbm, ⟨4, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S2x2048x1024 : Shape := ⟨3, ![2, 2048, 1024]⟩
abbrev S2x2048x320 : Shape := ⟨3, ![2, 2048, 320]⟩
abbrev S_ : Shape := ⟨0, ![]⟩
abbrev S2x2048x64 : Shape := ⟨3, ![2, 2048, 64]⟩
abbrev S2x2048x256 : Shape := ⟨3, ![2, 2048, 256]⟩
abbrev S2x2048x768 : Shape := ⟨3, ![2, 2048, 768]⟩
abbrev S2x2048x1536 : Shape := ⟨3, ![2, 2048, 1536]⟩
abbrev S1x4096x1024 : Shape := ⟨3, ![1, 4096, 1024]⟩
abbrev S1x4096x1536 : Shape := ⟨3, ![1, 4096, 1536]⟩
abbrev S1x1536x1024 : Shape := ⟨3, ![1, 1536, 1024]⟩
abbrev S1x2048x512 : Shape := ⟨3, ![1, 2048, 512]⟩
abbrev S1x2048x1024 : Shape := ⟨3, ![1, 2048, 1024]⟩
abbrev S1x512x1024 : Shape := ⟨3, ![1, 512, 1024]⟩
abbrev S512x1024 : Shape := ⟨2, ![512, 1024]⟩
abbrev S2048x512 : Shape := ⟨2, ![2048, 512]⟩
abbrev S2048x1024 : Shape := ⟨2, ![2048, 1024]⟩
abbrev S1536x1024 : Shape := ⟨2, ![1536, 1024]⟩
abbrev S1024x1536 : Shape := ⟨2, ![1024, 1536]⟩
abbrev S1024x320 : Shape := ⟨2, ![1024, 320]⟩
abbrev S1024x64 : Shape := ⟨2, ![1024, 64]⟩
abbrev S1024x256 : Shape := ⟨2, ![1024, 256]⟩
abbrev S1024x1024 : Shape := ⟨2, ![1024, 1024]⟩

abbrev nBuf : Space → Nat
  | .hbm => 48
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .bf16⟩
  | .hbm, ⟨3, _⟩ => ⟨S2x2048x320, .bf16⟩
  | .hbm, ⟨4, _⟩ => ⟨S_, .bf16⟩
  | .hbm, ⟨5, _⟩ => ⟨S2x2048x64, .bf16⟩
  | .hbm, ⟨6, _⟩ => ⟨S2x2048x64, .bf16⟩
  | .hbm, ⟨7, _⟩ => ⟨S_, .bf16⟩
  | .hbm, ⟨8, _⟩ => ⟨S2x2048x64, .bf16⟩
  | .hbm, ⟨9, _⟩ => ⟨S2x2048x64, .bf16⟩
  | .hbm, ⟨10, _⟩ => ⟨S_, .bf16⟩
  | .hbm, ⟨11, _⟩ => ⟨S2x2048x64, .bf16⟩
  | .hbm, ⟨12, _⟩ => ⟨S2x2048x64, .bf16⟩
  | .hbm, ⟨13, _⟩ => ⟨S_, .bf16⟩
  | .hbm, ⟨14, _⟩ => ⟨S2x2048x64, .bf16⟩
  | .hbm, ⟨15, _⟩ => ⟨S2x2048x64, .bf16⟩
  | .hbm, ⟨16, _⟩ => ⟨S_, .bf16⟩
  | .hbm, ⟨17, _⟩ => ⟨S2x2048x64, .bf16⟩
  | .hbm, ⟨18, _⟩ => ⟨S2x2048x64, .bf16⟩
  | .hbm, ⟨19, _⟩ => ⟨S_, .bf16⟩
  | .hbm, ⟨20, _⟩ => ⟨S2x2048x64, .bf16⟩
  | .hbm, ⟨21, _⟩ => ⟨S2x2048x64, .bf16⟩
  | .hbm, ⟨22, _⟩ => ⟨S_, .bf16⟩
  | .hbm, ⟨23, _⟩ => ⟨S2x2048x64, .bf16⟩
  | .hbm, ⟨24, _⟩ => ⟨S2x2048x64, .bf16⟩
  | .hbm, ⟨25, _⟩ => ⟨S_, .bf16⟩
  | .hbm, ⟨26, _⟩ => ⟨S2x2048x64, .bf16⟩
  | .hbm, ⟨27, _⟩ => ⟨S2x2048x256, .bf16⟩
  | .hbm, ⟨28, _⟩ => ⟨S2x2048x768, .bf16⟩
  | .hbm, ⟨29, _⟩ => ⟨S2x2048x768, .bf16⟩
  | .hbm, ⟨30, _⟩ => ⟨S2x2048x1536, .bf16⟩
  | .hbm, ⟨31, _⟩ => ⟨S2x2048x1024, .bf16⟩
  | .hbm, ⟨32, _⟩ => ⟨S1x4096x1024, .bf16⟩
  | .hbm, ⟨33, _⟩ => ⟨S1x4096x1536, .bf16⟩
  | .hbm, ⟨34, _⟩ => ⟨S1x1536x1024, .f32⟩
  | .hbm, ⟨35, _⟩ => ⟨S1536x1024, .f32⟩
  | .hbm, ⟨36, _⟩ => ⟨S1024x1536, .f32⟩
  | .hbm, ⟨37, _⟩ => ⟨S1024x320, .f32⟩
  | .hbm, ⟨38, _⟩ => ⟨S1024x64, .f32⟩
  | .hbm, ⟨39, _⟩ => ⟨S1024x64, .f32⟩
  | .hbm, ⟨40, _⟩ => ⟨S1024x64, .f32⟩
  | .hbm, ⟨41, _⟩ => ⟨S1024x64, .f32⟩
  | .hbm, ⟨42, _⟩ => ⟨S1024x64, .f32⟩
  | .hbm, ⟨43, _⟩ => ⟨S1024x64, .f32⟩
  | .hbm, ⟨44, _⟩ => ⟨S1024x64, .f32⟩
  | .hbm, ⟨45, _⟩ => ⟨S1024x256, .f32⟩
  | .hbm, ⟨46, _⟩ => ⟨S1024x1024, .f32⟩
  | .hbm, ⟨47, _⟩ => ⟨S1024x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2x2048x1024 : Shape := ⟨3, ![2, 2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S_, .f32⟩
  | .hbm, ⟨3, _⟩ => ⟨S1024x1024, .f32⟩
  | .hbm, ⟨4, _⟩ => ⟨S2x2048x1024, .f32⟩
  | .hbm, ⟨5, _⟩ => ⟨S1024x1024, .f32⟩
  | .hbm, ⟨6, _⟩ => ⟨S1024x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S2x2048x1024 : Shape := ⟨3, ![2, 2048, 1024]⟩
abbrev S2x2048x2724 : Shape := ⟨3, ![2, 2048, 2724]⟩
abbrev S2x2048x1408 : Shape := ⟨3, ![2, 2048, 1408]⟩
abbrev S_ : Shape := ⟨0, ![]⟩
abbrev S2x2048x64 : Shape := ⟨3, ![2, 2048, 64]⟩
abbrev S2x2048x16 : Shape := ⟨3, ![2, 2048, 16]⟩
abbrev S2x2048x512 : Shape := ⟨3, ![2, 2048, 512]⟩
abbrev S2x2048x4 : Shape := ⟨3, ![2, 2048, 4]⟩
abbrev S2x2048x124 : Shape := ⟨3, ![2, 2048, 124]⟩
abbrev S2x2048x1664 : Shape := ⟨3, ![2, 2048, 1664]⟩
abbrev S2x2048x2176 : Shape := ⟨3, ![2, 2048, 2176]⟩
abbrev S2x2048x1536 : Shape := ⟨3, ![2, 2048, 1536]⟩
abbrev S2x2048x3712 : Shape := ⟨3, ![2, 2048, 3712]⟩
abbrev S1x4096x3712 : Shape := ⟨3, ![1, 4096, 3712]⟩
abbrev S1x4096x1024 : Shape := ⟨3, ![1, 4096, 1024]⟩
abbrev S1x1024x3712 : Shape := ⟨3, ![1, 1024, 3712]⟩
abbrev S1x1024x512 : Shape := ⟨3, ![1, 1024, 512]⟩
abbrev S1x512x3712 : Shape := ⟨3, ![1, 512, 3712]⟩
abbrev S512x3712 : Shape := ⟨2, ![512, 3712]⟩
abbrev S1024x512 : Shape := ⟨2, ![1024, 512]⟩
abbrev S1024x3712 : Shape := ⟨2, ![1024, 3712]⟩
abbrev S1024x1408 : Shape := ⟨2, ![1024, 1408]⟩
abbrev S1024x16 : Shape := ⟨2, ![1024, 16]⟩
abbrev S1024x64 : Shape := ⟨2, ![1024, 64]⟩
abbrev S1024x4 : Shape := ⟨2, ![1024, 4]⟩
abbrev S1024x1760 : Shape := ⟨2, ![1024, 1760]⟩
abbrev S1024x964 : Shape := ⟨2, ![1024, 964]⟩
abbrev S1024x2724 : Shape := ⟨2, ![1024, 2724]⟩

abbrev nBuf : Space → Nat
  | .hbm => 84
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2724, .f32⟩
  | .hbm, ⟨2, _⟩ => ⟨S2x2048x1024, .bf16⟩
  | .hbm, ⟨3, _⟩ => ⟨S2x2048x2724, .bf16⟩
  | .hbm, ⟨4, _⟩ => ⟨S2x2048x1408, .bf16⟩
  | .hbm, ⟨5, _⟩ => ⟨S_, .bf16⟩
  | .hbm, ⟨6, _⟩ => ⟨S2x2048x64, .bf16⟩
  | .hbm, ⟨7, _⟩ => ⟨S2x2048x16, .bf16⟩
  | .hbm, ⟨8, _⟩ => ⟨S_, .bf16⟩
  | .hbm, ⟨9, _⟩ => ⟨S2x2048x16, .bf16⟩
  | .hbm, ⟨10, _⟩ => ⟨S2x2048x16, .bf16⟩
  | .hbm, ⟨11, _⟩ => ⟨S_, .bf16⟩
  | .hbm, ⟨12, _⟩ => ⟨S2x2048x16, .bf16⟩
  | .hbm, ⟨13, _⟩ => ⟨S2x2048x64, .bf16⟩
  | .hbm, ⟨14, _⟩ => ⟨S_, .bf16⟩
  | .hbm, ⟨15, _⟩ => ⟨S2x2048x64, .bf16⟩
  | .hbm, ⟨16, _⟩ => ⟨S2x2048x64, .bf16⟩
  | .hbm, ⟨17, _⟩ => ⟨S_, .bf16⟩
  | .hbm, ⟨18, _⟩ => ⟨S2x2048x64, .bf16⟩
  | .hbm, ⟨19, _⟩ => ⟨S2x2048x64, .bf16⟩
  | .hbm, ⟨20, _⟩ => ⟨S_, .bf16⟩
  | .hbm, ⟨21, _⟩ => ⟨S2x2048x64, .bf16⟩
  | .hbm, ⟨22, _⟩ => ⟨S2x2048x64, .bf16⟩
  | .hbm, ⟨23, _⟩ => ⟨S_, .bf16⟩
  | .hbm, ⟨24, _⟩ => ⟨S2x2048x64, .bf16⟩
  | .hbm, ⟨25, _⟩ => ⟨S2x2048x64, .bf16⟩
  | .hbm, ⟨26, _⟩ => ⟨S_, .bf16⟩
  | .hbm, ⟨27, _⟩ => ⟨S2x2048x64, .bf16⟩
  | .hbm, ⟨28, _⟩ => ⟨S2x2048x64, .bf16⟩
  | .hbm, ⟨29, _⟩ => ⟨S_, .bf16⟩
  | .hbm, ⟨30, _⟩ => ⟨S2x2048x64, .bf16⟩
  | .hbm, ⟨31, _⟩ => ⟨S2x2048x64, .bf16⟩
  | .hbm, ⟨32, _⟩ => ⟨S_, .bf16⟩
  | .hbm, ⟨33, _⟩ => ⟨S2x2048x64, .bf16⟩
  | .hbm, ⟨34, _⟩ => ⟨S2x2048x64, .bf16⟩
  | .hbm, ⟨35, _⟩ => ⟨S_, .bf16⟩
  | .hbm, ⟨36, _⟩ => ⟨S2x2048x64, .bf16⟩
  | .hbm, ⟨37, _⟩ => ⟨S2x2048x64, .bf16⟩
  | .hbm, ⟨38, _⟩ => ⟨S_, .bf16⟩
  | .hbm, ⟨39, _⟩ => ⟨S2x2048x64, .bf16⟩
  | .hbm, ⟨40, _⟩ => ⟨S2x2048x64, .bf16⟩
  | .hbm, ⟨41, _⟩ => ⟨S_, .bf16⟩
  | .hbm, ⟨42, _⟩ => ⟨S2x2048x64, .bf16⟩
  | .hbm, ⟨43, _⟩ => ⟨S2x2048x64, .bf16⟩
  | .hbm, ⟨44, _⟩ => ⟨S_, .bf16⟩
  | .hbm, ⟨45, _⟩ => ⟨S2x2048x64, .bf16⟩
  | .hbm, ⟨46, _⟩ => ⟨S2x2048x64, .bf16⟩
  | .hbm, ⟨47, _⟩ => ⟨S_, .bf16⟩
  | .hbm, ⟨48, _⟩ => ⟨S2x2048x64, .bf16⟩
  | .hbm, ⟨49, _⟩ => ⟨S2x2048x512, .bf16⟩
  | .hbm, ⟨50, _⟩ => ⟨S2x2048x4, .bf16⟩
  | .hbm, ⟨51, _⟩ => ⟨S_, .bf16⟩
  | .hbm, ⟨52, _⟩ => ⟨S2x2048x124, .bf16⟩
  | .hbm, ⟨53, _⟩ => ⟨S2x2048x1664, .bf16⟩
  | .hbm, ⟨54, _⟩ => ⟨S2x2048x512, .bf16⟩
  | .hbm, ⟨55, _⟩ => ⟨S2x2048x2176, .bf16⟩
  | .hbm, ⟨56, _⟩ => ⟨S2x2048x512, .bf16⟩
  | .hbm, ⟨57, _⟩ => ⟨S2x2048x1024, .bf16⟩
  | .hbm, ⟨58, _⟩ => ⟨S2x2048x1536, .bf16⟩
  | .hbm, ⟨59, _⟩ => ⟨S2x2048x3712, .bf16⟩
  | .hbm, ⟨60, _⟩ => ⟨S1x4096x3712, .bf16⟩
  | .hbm, ⟨61, _⟩ => ⟨S1x4096x1024, .bf16⟩
  | .hbm, ⟨62, _⟩ => ⟨S1x1024x3712, .bf16⟩
  | .hbm, ⟨63, _⟩ => ⟨S1024x3712, .bf16⟩
  | .hbm, ⟨64, _⟩ => ⟨S1024x1408, .bf16⟩
  | .hbm, ⟨65, _⟩ => ⟨S1024x16, .bf16⟩
  | .hbm, ⟨66, _⟩ => ⟨S1024x16, .bf16⟩
  | .hbm, ⟨67, _⟩ => ⟨S1024x64, .bf16⟩
  | .hbm, ⟨68, _⟩ => ⟨S1024x64, .bf16⟩
  | .hbm, ⟨69, _⟩ => ⟨S1024x64, .bf16⟩
  | .hbm, ⟨70, _⟩ => ⟨S1024x64, .bf16⟩
  | .hbm, ⟨71, _⟩ => ⟨S1024x64, .bf16⟩
  | .hbm, ⟨72, _⟩ => ⟨S1024x64, .bf16⟩
  | .hbm, ⟨73, _⟩ => ⟨S1024x64, .bf16⟩
  | .hbm, ⟨74, _⟩ => ⟨S1024x64, .bf16⟩
  | .hbm, ⟨75, _⟩ => ⟨S1024x64, .bf16⟩
  | .hbm, ⟨76, _⟩ => ⟨S1024x64, .bf16⟩
  | .hbm, ⟨77, _⟩ => ⟨S1024x64, .bf16⟩
  | .hbm, ⟨78, _⟩ => ⟨S1024x64, .bf16⟩
  | .hbm, ⟨79, _⟩ => ⟨S1024x4, .bf16⟩
  | .hbm, ⟨80, _⟩ => ⟨S1024x512, .bf16⟩
  | .hbm, ⟨81, _⟩ => ⟨S1024x1760, .bf16⟩
  | .hbm, ⟨82, _⟩ => ⟨S1024x964, .bf16⟩
  | .hbm, ⟨83, _⟩ => ⟨S1024x2724, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x3712, .bf16⟩
  | .local _ .vmem, ⟨3, _⟩ => ⟨S1x1024x3712, .bf16⟩
  | .local _ .vmem, ⟨4, _⟩ => ⟨S1x512x3712, .bf16⟩
  | .local _ .vmem, ⟨5, _⟩ => ⟨S1x512x3712, .bf16⟩
  | .local _ .vmem, ⟨6, _⟩ => ⟨S512x3712, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩
abbrev main_v28 : Ref sig .tc := ⟨.hbm, 43, rfl⟩
abbrev main_cst_12 : Ref sig .tc := ⟨.hbm, 44, rfl⟩
abbrev main_v29 : Ref sig .tc := ⟨.hbm, 45, rfl⟩
abbrev main_v30 : Ref sig .tc := ⟨.hbm, 46, rfl⟩
abbrev main_cst_13 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_14 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x3712 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2x2048x1024 : Shape := ⟨3, ![2, 2048, 1024]⟩
abbrev S2x2048x2724 : Shape := ⟨3, ![2, 2048, 2724]⟩
abbrev S_ : Shape := ⟨0, ![]⟩
abbrev S1024x2724 : Shape := ⟨2, ![1024, 2724]⟩
abbrev S2724x1024 : Shape := ⟨2, ![2724, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2724, .f32⟩
  | .hbm, ⟨2, _⟩ => ⟨S_, .f32⟩
  | .hbm, ⟨3, _⟩ => ⟨S1024x2724, .f32⟩
  | .hbm, ⟨4, _⟩ => ⟨S2x2048x2724, .f32⟩
  | .hbm, ⟨5, _⟩ => ⟨S2724x1024, .f32⟩
  | .hbm, ⟨6, _⟩ => ⟨S1024x2724, .f32⟩
  | .hbm, ⟨7, _⟩ => ⟨S1024x2724, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.FfnEntry.lean ====
/- The contents of the feed-forward's operand arrays when each of its calls starts, read at an index: the arguments, cast
   and laid out in blocks of 704 columns. -/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

theorem in_h (c : Dev nD) (b : Fin 2) (s : Fin 2048) (k : Fin 1024) :
    (W1 m ρ c (Proc.devRef .tc main_v7) : FVec Ideal S4096x1024 .bf16) (ix2 ⟨b.val * 2048 + s.val, by omega⟩ k)
      = (m ((c : Thread nD τ).loc main_arg0) : FVec Ideal S2x2048x1024 .f32) (ix3 b s k) := by
  unfold W1 W0; entry_read
  pointwise

theorem in_w (c : Dev nD) (a : Fin 2) (g : Fin 4) (j : Fin 704) (k : Fin 1024) :
    (W1 m ρ c (Proc.devRef .tc main_v8) : FVec Ideal S2x4x704x1024 .bf16) (ix4 a g j k)
      = (m ((c : Thread nD τ).loc main_arg1) : FVec Ideal S1024x5632 .f32) (ix2 k ⟨a.val * 2816 + g.val * 704 + j.val, by omega⟩) := by
  unfold W1 W0; entry_read
  pointwise

theorem in_w8 (c : Dev nD) (g : Fin 8) (j : Fin 704) (k : Fin 1024) :
    (W1 m ρ c (Proc.devRef .tc main_v4) : FVec Ideal S8x704x1024 .bf16) (ix3 g j k)
      = (m ((c : Thread nD τ).loc main_arg1) : FVec Ideal S1024x5632 .f32) (ix2 k ⟨g.val * 704 + j.val, by omega⟩) := by
  unfold W1 W0; entry_read
  pointwise

theorem in_wo (c : Dev nD) (g : Fin 4) (j : Fin 704) (k : Fin 1024) :
    (W1 m ρ c (Proc.devRef .tc main_v6) : FVec Ideal S4x704x1024 .bf16) (ix3 g j k)
      = (m ((c : Thread nD τ).loc main_arg2) : FVec Ideal S2816x1024 .f32) (ix2 ⟨g.val * 704 + j.val, by omega⟩ k) := by
  unfold W1 W0; entry_read
  pointwise

theorem in_df (c : Dev nD) (i : S2x2048x1024.Idx) :
    (W1 m ρ c (Proc.devRef .tc main_v1) : FVec Ideal S2x2048x1024 .bf16) i
      = (m ((c : Thread nD τ).loc main_arg3) : FVec Ideal S2x2048x1024 .f32) i := by
  unfold W1 W0; entry_read
  pointwise

theorem mid_f (c : Dev nD) (b : Fin 2) (s : Fin 2048) (k : Fin 1024) :
    (W4 m ρ c (Proc.devRef .tc main_v11) : FVec Ideal S2x2048x1024 .f32) (ix3 b s k)
      = (W3 m ρ c (Proc.devRef .tc main_v10) : FVec Ideal S4096x1024 .f32) (ix2 ⟨b.val * 2048 + s.val, by omega⟩ k) := by
  unfold W4; entry_read
  pointwise

theorem mid_df (c : Dev nD) (b : Fin 2) (s : Fin 2048) (k : Fin 1024) :
    (W4 m ρ c (Proc.devRef .tc main_v12) : FVec Ideal S4096x1024 .bf16) (ix2 ⟨b.val * 2048 + s.val, by omega⟩ k)
      = (W3 m ρ c (Proc.devRef .tc main_v1) : FVec Ideal S2x2048x1024 .bf16) (ix3 b s k) := by
  unfold W4; entry_read
  pointwise

theorem mid_dz (c : Dev nD) (a : Fin 2) (g : Fin 4) (t : Fin 4096) (j : Fin 704) :
    (W6 m ρ c (Proc.devRef .tc main_v14) : FVec Ideal S8x4096x704 .bf16) (ix3 ⟨a.val * 4 + g.val, by omega⟩ t j)
      = (W5 m ρ c (Proc.devRef .tc main_v13) : FVec Ideal S2x4x4096x704 .bf16) (ix4 a g t j) := by
  unfold W6; entry_read
  pointwise

theorem end_dh (c : Dev nD) (b : Fin 2) (s : Fin 2048) (k : Fin 1024) :
    (W8 m ρ c (Proc.devRef .tc main_v16) : FVec Ideal S2x2048x1024 .f32) (ix3 b s k)
      = (W7 m ρ c (Proc.devRef .tc main_v15) : FVec Ideal S4096x1024 .f32) (ix2 ⟨b.val * 2048 + s.val, by omega⟩ k) := by
  unfold W8; entry_read
  pointwise

theorem end_act (c : Dev nD) (b : Fin 2) (s : Fin 2048) (g : Fin 4) (j : Fin 704) :
    (W8 m ρ c (Proc.devRef .tc main_v19) : FVec Ideal S2x2048x2816 .f32) (ix3 b s ⟨g.val * 704 + j.val, by omega⟩)
      = (W7 m ρ c (Proc.devRef .tc main_v9_1) : FVec Ideal S4x4096x704 .bf16) (ix3 g ⟨b.val * 2048 + s.val, by omega⟩ j) := by
  unfold W8; entry_read
  pointwise

theorem end_dz (c : Dev nD) (b : Fin 2) (s : Fin 2048) (g : Fin 8) (j : Fin 704) :
    (W8 m ρ c (Proc.devRef .tc main_v22) : FVec Ideal S2x2048x5632 .f32) (ix3 b s ⟨g.val * 704 + j.val, by omega⟩)
      = (W7 m ρ c (Proc.devRef .tc main_v14) : FVec Ideal S8x4096x704 .bf16) (ix3 g ⟨b.val * 2048 + s.val, by omega⟩ j) := by
  unfold W8; entry_read
  pointwise

end Cert.KernelIdeal.Val

end
-- ==== Proof.FfnFwdBlocks.lean ====
/- What the two forward calls of the SwiGLU feed-forward leave in their result arrays, as a function of the contents
   their operands have when they start, index by index. -/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.KernelIdeal.Val

open Cert.KernelIdeal Cert.KernelIdeal.Gen

variable (V : (c : Dev nD) → (b : Ref sig .tc) → Buf (Elt Ideal) ((c : Thread nD τ).loc b))

/-- One entry of the product of the tokens with the first weight, the weight in its blocked layout. -/
def zAt (h : FVec Ideal S4096x1024 .bf16) (w : FVec Ideal S2x4x704x1024 .bf16) (a : Fin 2) (g : Fin 4) (t : Fin 4096) (j : Fin 704) : EReal :=
  ∑ k : Fin 1024, h (ix2 t k) * w (ix4 a g j k)

theorem idx0 : ∀ t : Fin cfg0.N, win0_0.index t = ![t.val % 4, 0] ∧ win0_1.index t = ![0, t.val / 4, 0, 0]
    ∧ win0_2.index t = ![0, t.val / 4, t.val % 4, 0] ∧ win0_3.index t = ![t.val / 4, t.val % 4, 0] ∧ t.val < 16 :=
  (by decide +kernel : ∀ t : Fin grid0.N, _)

theorem act_arr (c : Dev nD) : (dat0 V c).arrAt 3 cfg0.N
    = (fun i => zAt (V c main_v7) (V c main_v8) 0 (i 0) (i 1) (i 2) * Ideal.logistic (zAt (V c main_v7) (V c main_v8) 0 (i 0) (i 1) (i 2))
        * zAt (V c main_v7) (V c main_v8) 1 (i 0) (i 1) (i 2) : FVec Ideal S4x4096x704 .bf16) := by
  refine (dat0 V c).arrAt_eq_of_covers 3 _ (by decide +kernel) fun t hf y => ?_
  obtain ⟨e0, e1, e2, e3, ht⟩ := idx0 t
  blk_simp
  rw [after0_3]
  frame_out
  pointwise [k0_pay1, k0_pay2, k0_pay3, k0_pay6, zAt]
  blk_point [iblk0, e0, e1, e3]

theorem z_arr (c : Dev nD) : (dat0 V c).arrAt 2 cfg0.N
    = (fun i => zAt (V c main_v7) (V c main_v8) (i 0) (i 1) (i 2) (i 3) : FVec Ideal S2x4x4096x704 .bf16) := by
  refine (dat0 V c).arrAt_eq_of_covers 2 _ (by decide +kernel) fun t hf y => ?_
  obtain ⟨e0, e1, e2, e3, ht⟩ := idx0 t
  blk_simp
  rw [after0_2]
  canon_tiles x h using Gen.cover0_2 ..
  all_goals (open_payloads; pointwise [zAt]; blk_point [iblk0, e0, e1, e2])

theorem idx1 : ∀ t : Fin cfg1.N, win1_0.index t = ![0, t.val, 0] ∧ win1_1.index t = ![0, 0, 0]
    ∧ win1_2.index t = ![t.val, 0] ∧ t.val < 8 :=
  (by decide +kernel : ∀ t : Fin grid1.N, _)

/-- One entry of the activation times the second weight, both in blocks of 704 columns. -/
def fAt (u : FVec Ideal S4x4096x704 .bf16) (w : FVec Ideal S4x704x1024 .bf16) (t : Fin 4096) (d : Fin 1024) : EReal :=
  ∑ g : Fin 4, ∑ j : Fin 704, u (ix3 g t j) * w (ix3 g j d)

theorem f_arr (c : Dev nD) : (dat1 V c).arrAt 2 cfg1.N
    = (fun i => fAt (V c main_v9_1) (V c main_v6) (i 0) (i 1) : FVec Ideal S4096x1024 .f32) := by
  refine (dat1 V c).arrAt_eq_of_covers 2 _ (by decide +kernel) fun t hf y => ?_
  obtain ⟨e0, e1, e2, ht⟩ := idx1 t
  blk_simp
  rw [after1_2]
  frame_out
  pointwise [k1_pay1, fAt]
  rw [Fin.sum_univ_four]
  blk_point [iblk1, e0, e1, e2]

end Cert.KernelIdeal.Val

end
-- ==== Proof.FfnGateBlocks.lean ====
/- What the call that carries the gradient through the gate leaves in its result array, index by index. -/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.KernelIdeal.Val

open Cert.KernelIdeal Cert.KernelIdeal.Gen

variable (V : (c : Dev nD) → (b : Ref sig .tc) → Buf (Elt Ideal) ((c : Thread nD τ).loc b))

theorem idx2 : ∀ t : Fin cfg2.N, win2_0.index t = ![t.val % 4, 0] ∧ win2_1.index t = ![t.val / 4, 0, 0]
    ∧ win2_2.index t = ![0, t.val / 4, t.val % 4, 0] ∧ win2_3.index t = ![0, t.val / 4, t.val % 4, 0] ∧ t.val < 16 :=
  (by decide +kernel : ∀ t : Fin grid2.N, _)

/-- One entry of the cotangent of the activation: the result's cotangent against a row of the second weight. -/
def dAt (d : FVec Ideal S4096x1024 .bf16) (w : FVec Ideal S4x704x1024 .bf16) (g : Fin 4) (t : Fin 4096) (j : Fin 704) : EReal :=
  ∑ k : Fin 1024, d (ix2 t k) * w (ix3 g j k)

/-- The gradient through the gate, as the call computes it: `d` the activation's cotangent, `z` the gate, `u` the other half. -/
def gateGrad (d z u : EReal) : EReal := d * u * (Ideal.logistic z * (1 + z * (1 - Ideal.logistic z)))

/-- The gradient through the other half. -/
def upGrad (d z : EReal) : EReal := d * (z * Ideal.logistic z)

theorem dz_arr (c : Dev nD) : (dat2 V c).arrAt 3 cfg2.N
    = (fun i => if (i 0).val = 0
        then gateGrad (dAt (V c main_v12) (V c main_v6) (i 1) (i 2) (i 3)) ((V c main_v9_0 : FVec Ideal S2x4x4096x704 .bf16) (ix4 0 (i 1) (i 2) (i 3)))
          ((V c main_v9_0 : FVec Ideal S2x4x4096x704 .bf16) (ix4 1 (i 1) (i 2) (i 3)))
        else upGrad (dAt (V c main_v12) (V c main_v6) (i 1) (i 2) (i 3)) ((V c main_v9_0 : FVec Ideal S2x4x4096x704 .bf16) (ix4 0 (i 1) (i 2) (i 3)))
        : FVec Ideal S2x4x4096x704 .bf16) := by
  refine (dat2 V c).arrAt_eq_of_covers 3 _ (by decide +kernel) fun t hf y => ?_
  obtain ⟨e0, e1, e2, e3, ht⟩ := idx2 t
  blk_simp
  rw [after2_3]
  canon_tiles x h using Gen.cover2_3 ..
  · open_payloads
    rw [if_neg (by blk_simp [e3]; omega)]
    pointwise [upGrad, dAt]
    blk_point [iblk2, e0, e1, e2, e3]
  · open_payloads
    rw [if_pos (by blk_simp [e3]; omega)]
    pointwise [gateGrad, dAt]
    blk_point [iblk2, e0, e1, e2, e3]

end Cert.KernelIdeal.Val

end
-- ==== Proof.FfnDxBlocks.lean ====
/- What the last product of the backward pass leaves in its result array, index by index. -/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.KernelIdeal.Val

open Cert.KernelIdeal Cert.KernelIdeal.Gen

variable (V : (c : Dev nD) → (b : Ref sig .tc) → Buf (Elt Ideal) ((c : Thread nD τ).loc b))

theorem idx3 : ∀ t : Fin cfg3.N, win3_0.index t = ![0, t.val, 0] ∧ win3_1.index t = ![0, 0, 0]
    ∧ win3_2.index t = ![t.val, 0] ∧ t.val < 8 :=
  (by decide +kernel : ∀ t : Fin grid3.N, _)

/-- One entry of the gradient of the projection times the first weight, both in blocks of 704 columns. -/
def hAt (u : FVec Ideal S8x4096x704 .bf16) (w : FVec Ideal S8x704x1024 .bf16) (t : Fin 4096) (d : Fin 1024) : EReal :=
  ∑ g : Fin 8, ∑ j : Fin 704, u (ix3 g t j) * w (ix3 g j d)

theorem dh_arr (c : Dev nD) : (dat3 V c).arrAt 2 cfg3.N
    = (fun i => hAt (V c main_v14) (V c main_v4) (i 0) (i 1) : FVec Ideal S4096x1024 .f32) := by
  refine (dat3 V c).arrAt_eq_of_covers 2 _ (by decide +kernel) fun t hf y => ?_
  obtain ⟨e0, e1, e2, ht⟩ := idx3 t
  blk_simp
  rw [after3_2]
  frame_out
  pointwise [k3_pay1, k3_pay2, k3_pay3, hAt]
  rw [Fin.sum_univ_eight]
  blk_point [iblk3, e0, e1, e2]

end Cert.KernelIdeal.Val

end
-- ==== Proof.FfnChain.lean ====
/- The four results of the feed-forward's forward and backward calls, each at an index, in closed form: sums of products
   of the arguments and the gate's two derivatives. -/
module

public import proofs.«01_k».proof.Proof.FfnEntry
public import proofs.«01_k».proof.Proof.FfnFwdBlocks
public import proofs.«01_k».proof.Proof.FfnGateBlocks
public import proofs.«01_k».proof.Proof.FfnDxBlocks

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

/-- The token's `n`-th preactivation: its row of `h` times column `n` of `w_in`. -/
def pre (h : FVec Ideal S2x2048x1024 .f32) (w : FVec Ideal S1024x5632 .f32) (b : Fin 2) (s : Fin 2048) (n : Fin 5632) : EReal :=
  ∑ k : Fin 1024, h (ix3 b s k) * w (ix2 k n)

/-- Column `i` of the gate's half, and of the other half. -/
def lo (i : Fin 2816) : Fin 5632 := ⟨i.val, by omega⟩
def hi (i : Fin 2816) : Fin 5632 := ⟨2816 + i.val, by omega⟩

/-- The activation: `silu(gate) * up`. -/
def act (h : FVec Ideal S2x2048x1024 .f32) (w : FVec Ideal S1024x5632 .f32) (b : Fin 2) (s : Fin 2048) (i : Fin 2816) : EReal :=
  pre h w b s (lo i) * Ideal.logistic (pre h w b s (lo i)) * pre h w b s (hi i)

/-- The output: the activation times `w_out`. -/
def out (h : FVec Ideal S2x2048x1024 .f32) (w : FVec Ideal S1024x5632 .f32) (v : FVec Ideal S2816x1024 .f32)
    (b : Fin 2) (s : Fin 2048) (d : Fin 1024) : EReal :=
  ∑ i : Fin 2816, act h w b s i * v (ix2 i d)

/-- The gradient of the activation. -/
def dact (e : FVec Ideal S2x2048x1024 .f32) (v : FVec Ideal S2816x1024 .f32) (b : Fin 2) (s : Fin 2048) (i : Fin 2816) : EReal :=
  ∑ k : Fin 1024, e (ix3 b s k) * v (ix2 i k)

/-- The gradient of the preactivation, its two halves. -/
def dpre (h : FVec Ideal S2x2048x1024 .f32) (w : FVec Ideal S1024x5632 .f32) (v : FVec Ideal S2816x1024 .f32)
    (e : FVec Ideal S2x2048x1024 .f32) (b : Fin 2) (s : Fin 2048) (n : Fin 5632) : EReal :=
  if q : n.val < 2816 then
    gateGrad (dact e v b s ⟨n.val, q⟩) (pre h w b s n) (pre h w b s (hi ⟨n.val, q⟩))
  else upGrad (dact e v b s ⟨n.val - 2816, by omega⟩) (pre h w b s (lo ⟨n.val - 2816, by omega⟩))

/-- The gradient of `h`. -/
def dh (h : FVec Ideal S2x2048x1024 .f32) (w : FVec Ideal S1024x5632 .f32) (v : FVec Ideal S2816x1024 .f32)
    (e : FVec Ideal S2x2048x1024 .f32) (b : Fin 2) (s : Fin 2048) (d : Fin 1024) : EReal :=
  ∑ n : Fin 5632, dpre h w v e b s n * w (ix2 d n)

variable (m : (ℓ : Loc nD τ sig) → Buf (Elt Ideal) ℓ) (ρ : Dev nD → PrngReg)

abbrev aH (c : Dev nD) : FVec Ideal S2x2048x1024 .f32 := m ((c : Thread nD τ).loc main_arg0)
abbrev aW (c : Dev nD) : FVec Ideal S1024x5632 .f32 := m ((c : Thread nD τ).loc main_arg1)
abbrev aV (c : Dev nD) : FVec Ideal S2816x1024 .f32 := m ((c : Thread nD τ).loc main_arg2)
abbrev aE (c : Dev nD) : FVec Ideal S2x2048x1024 .f32 := m ((c : Thread nD τ).loc main_arg3)

/-- Row of the flattened token axis. -/
abbrev row (b : Fin 2) (s : Fin 2048) : Fin 4096 := ⟨b.val * 2048 + s.val, by omega⟩

theorem z_at (c : Dev nD) (a : Fin 2) (g : Fin 4) (b : Fin 2) (s : Fin 2048) (j : Fin 704) :
    zAt (V1 m ρ c main_v7) (V1 m ρ c main_v8) a g (row b s) j
      = pre (aH m c) (aW m c) b s ⟨a.val * 2816 + g.val * 704 + j.val, by omega⟩ :=
  Finset.sum_congr rfl fun k _ => congrArg₂ (· * ·) (in_h m ρ c b s k) (in_w m ρ c a g j k)

theorem z_lo (c : Dev nD) (g : Fin 4) (b : Fin 2) (s : Fin 2048) (j : Fin 704) :
    zAt (V1 m ρ c main_v7) (V1 m ρ c main_v8) 0 g (row b s) j
      = pre (aH m c) (aW m c) b s (lo ⟨g.val * 704 + j.val, by omega⟩) :=
  (z_at m ρ c 0 g b s j).trans (congrArg _ (Fin.ext (by show 0 * 2816 + _ + _ = _; simp [lo])))

theorem z_hi (c : Dev nD) (g : Fin 4) (b : Fin 2) (s : Fin 2048) (j : Fin 704) :
    zAt (V1 m ρ c main_v7) (V1 m ρ c main_v8) 1 g (row b s) j
      = pre (aH m c) (aW m c) b s (hi ⟨g.val * 704 + j.val, by omega⟩) :=
  (z_at m ρ c 1 g b s j).trans (congrArg _ (Fin.ext (by show 1 * 2816 + _ + _ = _; simp [hi]; omega)))

/-- What the first call leaves: the activation and the preactivations. -/
theorem act_W2 (c : Dev nD) (g : Fin 4) (b : Fin 2) (s : Fin 2048) (j : Fin 704) :
    (W2 m ρ c (Proc.devRef .tc main_v9_1) : FVec Ideal S4x4096x704 .bf16) (ix3 g (row b s) j)
      = act (aH m c) (aW m c) b s ⟨g.val * 704 + j.val, by omega⟩ := by
  refine (congrFun ((W2_arr m ρ c 3).trans (act_arr (V1 m ρ) c)) (ix3 g (row b s) j)).trans ?_
  show zAt _ _ 0 g (row b s) j * Ideal.logistic (zAt _ _ 0 g (row b s) j) * zAt _ _ 1 g (row b s) j = _
  rw [z_lo, z_hi]; rfl

theorem z_W2 (c : Dev nD) (a : Fin 2) (g : Fin 4) (b : Fin 2) (s : Fin 2048) (j : Fin 704) :
    (W2 m ρ c (Proc.devRef .tc main_v9_0) : FVec Ideal S2x4x4096x704 .bf16) (ix4 a g (row b s) j)
      = zAt (V1 m ρ c main_v7) (V1 m ρ c main_v8) a g (row b s) j :=
  congrFun ((W2_arr m ρ c 2).trans (z_arr (V1 m ρ) c)) (ix4 a g (row b s) j)

theorem wo_V2 (c : Dev nD) (g : Fin 4) (j : Fin 704) (d : Fin 1024) :
    (V2 m ρ c main_v6 : FVec Ideal S4x704x1024 .bf16) (ix3 g j d) = aV m c (ix2 ⟨g.val * 704 + j.val, by omega⟩ d) :=
  (congrFun (W2_of m ρ c main_v6 (by decide)) _).trans (in_wo m ρ c g j d)

/-- The output. -/
theorem f_W8 (c : Dev nD) (b : Fin 2) (s : Fin 2048) (d : Fin 1024) :
    (W8 m ρ c (Proc.devRef .tc main_v11) : FVec Ideal S2x2048x1024 .f32) (ix3 b s d)
      = out (aH m c) (aW m c) (aV m c) b s d := by
  refine (congrFun ((W8_of m ρ c main_v11 (by decide)).trans <| (W7_of m ρ c main_v11 (by decide)).trans <|
    (W6_of m ρ c main_v11 (by decide)).trans (W5_of m ρ c main_v11 (by decide))) _).trans ?_
  refine (mid_f m ρ c b s d).trans ?_
  refine (congrFun ((W3_arr m ρ c 2).trans (f_arr (V2 m ρ) c)) (ix2 (row b s) d)).trans ?_
  show fAt (V2 m ρ c main_v9_1) (V2 m ρ c main_v6) (row b s) d = _
  unfold fAt out
  refine Eq.trans ?_ (Fin.sum_univ_tiles 4 704 (by decide) _).symm
  refine Finset.sum_congr rfl fun g _ => Finset.sum_congr rfl fun j _ => ?_
  exact congrArg₂ (· * ·) (act_W2 m ρ c g b s j) (wo_V2 m ρ c g j d)

/-- The activation result. -/
theorem act_W8 (c : Dev nD) (b : Fin 2) (s : Fin 2048) (g : Fin 4) (j : Fin 704) :
    (W8 m ρ c (Proc.devRef .tc main_v19) : FVec Ideal S2x2048x2816 .f32) (ix3 b s ⟨g.val * 704 + j.val, by omega⟩)
      = act (aH m c) (aW m c) b s ⟨g.val * 704 + j.val, by omega⟩ := by
  refine (end_act m ρ c b s g j).trans ?_
  refine (congrFun ((W7_of m ρ c main_v9_1 (by decide)).trans <| (W6_of m ρ c main_v9_1 (by decide)).trans <|
    (W5_of m ρ c main_v9_1 (by decide)).trans <| (W4_of m ρ c main_v9_1 (by decide)).trans
    (W3_of m ρ c main_v9_1 (by decide))) _).trans ?_
  exact act_W2 m ρ c g b s j

theorem df_V4 (c : Dev nD) (b : Fin 2) (s : Fin 2048) (k : Fin 1024) :
    (V4 m ρ c main_v12 : FVec Ideal S4096x1024 .bf16) (ix2 (row b s) k) = aE m c (ix3 b s k) := by
  refine (mid_df m ρ c b s k).trans ?_
  refine (congrFun ((W3_of m ρ c main_v1 (by decide)).trans (W2_of m ρ c main_v1 (by decide))) _).trans ?_
  exact in_df m ρ c _

theorem wo_V4 (c : Dev nD) (g : Fin 4) (j : Fin 704) (k : Fin 1024) :
    (V4 m ρ c main_v6 : FVec Ideal S4x704x1024 .bf16) (ix3 g j k) = aV m c (ix2 ⟨g.val * 704 + j.val, by omega⟩ k) :=
  (congrFun ((W4_of m ρ c main_v6 (by decide)).trans (W3_of m ρ c main_v6 (by decide))) _).trans (wo_V2 m ρ c g j k)

theorem d_at (c : Dev nD) (g : Fin 4) (b : Fin 2) (s : Fin 2048) (j : Fin 704) :
    dAt (V4 m ρ c main_v12) (V4 m ρ c main_v6) g (row b s) j
      = dact (aE m c) (aV m c) b s ⟨g.val * 704 + j.val, by omega⟩ :=
  Finset.sum_congr rfl fun k _ => congrArg₂ (· * ·) (df_V4 m ρ c b s k) (wo_V4 m ρ c g j k)

theorem z_V4 (c : Dev nD) (a : Fin 2) (g : Fin 4) (b : Fin 2) (s : Fin 2048) (j : Fin 704) :
    (V4 m ρ c main_v9_0 : FVec Ideal S2x4x4096x704 .bf16) (ix4 a g (row b s) j)
      = zAt (V1 m ρ c main_v7) (V1 m ρ c main_v8) a g (row b s) j :=
  (congrFun ((W4_of m ρ c main_v9_0 (by decide)).trans (W3_of m ρ c main_v9_0 (by decide))) _).trans (z_W2 m ρ c a g b s j)

/-- The gradient of the preactivations, in blocks. -/
theorem dz_W6 (c : Dev nD) (a : Fin 2) (g : Fin 4) (b : Fin 2) (s : Fin 2048) (j : Fin 704) :
    (W6 m ρ c (Proc.devRef .tc main_v14) : FVec Ideal S8x4096x704 .bf16) (ix3 ⟨a.val * 4 + g.val, by omega⟩ (row b s) j)
      = dpre (aH m c) (aW m c) (aV m c) (aE m c) b s ⟨(a.val * 4 + g.val) * 704 + j.val, by omega⟩ := by
  refine (mid_dz m ρ c a g (row b s) j).trans ?_
  refine (congrFun ((W5_arr m ρ c 3).trans (dz_arr (V4 m ρ) c)) (ix4 a g (row b s) j)).trans ?_
  show (if a.val = 0 then gateGrad (dAt _ _ g (row b s) j) ((V4 m ρ c main_v9_0 : FVec Ideal S2x4x4096x704 .bf16) (ix4 0 g (row b s) j))
      ((V4 m ρ c main_v9_0 : FVec Ideal S2x4x4096x704 .bf16) (ix4 1 g (row b s) j))
    else upGrad (dAt _ _ g (row b s) j) ((V4 m ρ c main_v9_0 : FVec Ideal S2x4x4096x704 .bf16) (ix4 0 g (row b s) j))) = _
  rw [d_at, z_V4, z_V4, z_lo, z_hi]
  have ha : a = 0 ∨ a = 1 := by omega
  unfold dpre
  rcases ha with rfl | rfl
  · rw [if_pos (by rfl), dif_pos (by show (0 * 4 + g.val) * 704 + j.val < 2816; omega)]
    have e : (0 * 4 + g.val) * 704 + j.val = g.val * 704 + j.val := by omega
    simp only [lo, Fin.val_zero, e]
  · rw [if_neg (by decide), dif_neg (by show ¬ (1 * 4 + g.val) * 704 + j.val < 2816; omega)]
    have e : (1 * 4 + g.val) * 704 + j.val - 2816 = g.val * 704 + j.val := by omega
    simp only [lo, Fin.val_one, e]

theorem dz_W6' (c : Dev nD) (g : Fin 8) (b : Fin 2) (s : Fin 2048) (j : Fin 704) :
    (W6 m ρ c (Proc.devRef .tc main_v14) : FVec Ideal S8x4096x704 .bf16) (ix3 g (row b s) j)
      = dpre (aH m c) (aW m c) (aV m c) (aE m c) b s ⟨g.val * 704 + j.val, by omega⟩ := by
  have h := dz_W6 m ρ c ⟨g.val / 4, by omega⟩ ⟨g.val % 4, by omega⟩ b s j
  have e : g.val / 4 * 4 + g.val % 4 = g.val := by omega
  simpa only [e] using h

/-- The gradient of the preactivations. -/
theorem dz_W8 (c : Dev nD) (b : Fin 2) (s : Fin 2048) (g : Fin 8) (j : Fin 704) :
    (W8 m ρ c (Proc.devRef .tc main_v22) : FVec Ideal S2x2048x5632 .f32) (ix3 b s ⟨g.val * 704 + j.val, by omega⟩)
      = dpre (aH m c) (aW m c) (aV m c) (aE m c) b s ⟨g.val * 704 + j.val, by omega⟩ :=
  (end_dz m ρ c b s g j).trans
    ((congrFun (W7_of m ρ c main_v14 (by decide)) _).trans (dz_W6' m ρ c g b s j))

/-- The gradient of `h`. -/
theorem dh_W8 (c : Dev nD) (b : Fin 2) (s : Fin 2048) (d : Fin 1024) :
    (W8 m ρ c (Proc.devRef .tc main_v16) : FVec Ideal S2x2048x1024 .f32) (ix3 b s d)
      = dh (aH m c) (aW m c) (aV m c) (aE m c) b s d := by
  refine (end_dh m ρ c b s d).trans ?_
  refine (congrFun ((W7_arr m ρ c 2).trans (dh_arr (V6 m ρ) c)) (ix2 (row b s) d)).trans ?_
  show hAt (V6 m ρ c main_v14) (V6 m ρ c main_v4) (row b s) d = _
  unfold hAt dh
  refine Eq.trans ?_ (Fin.sum_univ_tiles 8 704 (by decide) _).symm
  refine Finset.sum_congr rfl fun g _ => Finset.sum_congr rfl fun j _ => ?_
  refine congrArg₂ (· * ·) (dz_W6' m ρ c g b s j) ?_
  exact (congrFun ((W6_of m ρ c main_v4 (by decide)).trans <| (W5_of m ρ c main_v4 (by decide)).trans <|
    (W4_of m ρ c main_v4 (by decide)).trans <| (W3_of m ρ c main_v4 (by decide)).trans
    (W2_of m ρ c main_v4 (by decide))) _).trans (in_w8 m ρ c g j d)

end Cert.KernelIdeal.Val

end
-- ==== Proof.FfnFinite.lean ====
/- Finite arguments: what the precondition says of them, and the gate's derivative over the reals. -/
module

public import proofs.«01_k».proof.Defs
public import proofs.«01_k».proof.Proof.FfnChain
public import proofs.«01_k».proof.Proof.Gen.Pre_finite
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.KernelIdeal.Val

open Cert.KernelIdeal Cert.KernelIdeal.Gen

/-- An extended real that is a real. -/
def Fine (x : EReal) : Prop := ∃ r : ℝ, x = (r : EReal)

theorem Fine.mul {x y : EReal} : Fine x → Fine y → Fine (x * y)
  | ⟨r, hr⟩, ⟨s, hs⟩ => ⟨r * s, by rw [hr, hs, EReal.coe_mul]⟩

theorem Fine.add {x y : EReal} : Fine x → Fine y → Fine (x + y)
  | ⟨r, hr⟩, ⟨s, hs⟩ => ⟨r + s, by rw [hr, hs, EReal.coe_add]⟩

theorem Fine.sum {ι : Type} (t : Finset ι) (f : ι → EReal) (h : ∀ i, Fine (f i)) : Fine (∑ i ∈ t, f i) := by
  classical
  induction t using Finset.induction_on with
  | empty => exact ⟨0, by simp⟩
  | insert a t ha ih => rw [Finset.sum_insert ha]; exact (h a).add ih

/-- The word of infinity stands for infinity. -/
theorem inf_word : Ideal.ofBits .f32 2139095040#32 = ⊤ := by simp [Ideal.ofBits, Ideal.ieee]

/-- An absolute value below infinity belongs to a real. -/
theorem Fine.of_abs {x : EReal}
    (h : BitVec.ofBool (decide (FloatOps.absf (F := Ideal) (φ := .f32) x < Ideal.ofBits .f32 2139095040#32)) = 1#1) : Fine x := by
  rw [inf_word] at h
  have h' : max x (-x) < ⊤ := by
    by_contra hn
    have : decide (FloatOps.absf (F := Ideal) (φ := .f32) x < (⊤ : EReal)) = false := decide_eq_false hn
    rw [this] at h
    exact absurd h (by decide)
  induction x with
  | bot => simp at h'
  | coe r => exact ⟨r, rfl⟩
  | top => simp at h'

theorem all_of_fold {ι : Type} [Fintype ι] (f : ι → BitVec 1) (h : Finset.univ.fold IntOp.andi (1#1) f = 1#1) (k : ι) :
    f k = 1#1 := by
  classical
  have key : ∀ t : Finset ι, t.fold IntOp.andi (1#1) f = 1#1 → ∀ k ∈ t, f k = 1#1 := by
    intro t
    induction t using Finset.induction_on with
    | empty => simp
    | insert a t ha ih =>
      intro h k hk
      rw [Finset.fold_insert ha] at h
      have hh : f a = 1#1 ∧ t.fold IntOp.andi (1#1) f = 1#1 := by
        revert h; generalize f a = p; generalize t.fold IntOp.andi (1#1) f = q
        revert p q; decide
      rcases Finset.mem_insert.mp hk with rfl | hk
      · exact hh.1
      · exact ih hh.2 k hk
  exact key _ h k (Finset.mem_univ k)

theorem and_one {p q : BitVec 1} (h : IntOp.andi p q = 1#1) : p = 1#1 ∧ q = 1#1 := by
  revert p q; decide

/-- The product rule's two spellings of the gate's gradient agree at reals. -/
theorem gate_eq {d u z : EReal} (hd : Fine d) (hu : Fine u) (hz : Fine z) :
    d * u * Ideal.logistic z + z * (d * u) * (Ideal.logistic z * (1 - Ideal.logistic z)) = gateGrad d z u := by
  obtain ⟨d, rfl⟩ := hd; obtain ⟨u, rfl⟩ := hu; obtain ⟨z, rfl⟩ := hz
  unfold gateGrad
  rw [Ideal.logistic_coe]
  generalize (1 + Real.exp (-z))⁻¹ = s
  rw [← EReal.coe_one]
  norm_cast
  ring

theorem fine_args (x0 : FVec Ideal S2x2048x1024 .f32) (x1 : FVec Ideal S1024x5632 .f32) (x2 : FVec Ideal S2816x1024 .f32)
    (x3 : FVec Ideal S2x2048x1024 .f32) (h : Cert.Pre_finite.fn (F := Ideal) x0 x1 x2 x3 = fun _ => 1#1) :
    (∀ i, Fine (x0 i)) ∧ (∀ i, Fine (x1 i)) ∧ (∀ i, Fine (x2 i)) ∧ (∀ i, Fine (x3 i)) := by
  have h0 := congrFun h (fun a => a.elim0)
  pointwise [Cert.Pre_finite.fn, Cert.Pre_finite.fn_part1] at h0
  obtain ⟨h012, h3⟩ := and_one h0
  obtain ⟨h01, h2⟩ := and_one h012
  obtain ⟨h0, h1⟩ := and_one h01
  refine ⟨fun i => ?_, fun i => ?_, fun i => ?_, fun i => ?_⟩
  · rw [eq_ix3 i]; exact Fine.of_abs (all_of_fold _ h0 (i 0, i 1, i 2))
  · rw [eq_ix2 i]; exact Fine.of_abs (all_of_fold _ h1 (i 0, i 1))
  · rw [eq_ix2 i]; exact Fine.of_abs (all_of_fold _ h2 (i 0, i 1))
  · rw [eq_ix3 i]; exact Fine.of_abs (all_of_fold _ h3 (i 0, i 1, i 2))

end Cert.KernelIdeal.Val

end
-- ==== Proof.FfnRef.lean ====
/- The plain feed-forward and its derivative, each result read at an index. -/
module

public import proofs.«01_k».proof.Proof.FfnFinite
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Read Cert.KernelIdeal.Val

variable (h : FVec Ideal S2x2048x1024 .f32) (w : FVec Ideal S1024x5632 .f32) (v : FVec Ideal S2816x1024 .f32)
  (e : FVec Ideal S2x2048x1024 .f32)

theorem act_ref (b : Fin 2) (s : Fin 2048) (i : Fin 2816) :
    (val_main_v4 (F := Ideal) h w) (ix3 b s i) = act h w b s i := by
  pointwise [val_main_v4, val_main_v3, val_main_v2, val_main_v1, val_main_v0, val_main_call0_v5, val_main_call0_v4, val_main_call0_v3,
    val_main_call0_v2, val_main_call0_v1, val_main_call0_v0, val_main_call0_cst, val_main_call0_cst_0]
  rfl

/-- The derivative's own copy of the activation. -/
theorem act_ref' (b : Fin 2) (s : Fin 2048) (i : Fin 2816) :
    (val_main_v8 (F := Ideal) h w) (ix3 b s i) = act h w b s i := by
  pointwise [val_main_v8, val_main_v7_0, val_main_v7_2, val_main_v6, val_main_v5, val_main_v0, val_main_call1_v4, val_main_call1_v3, val_main_call1_v2, val_main_call1_v1, val_main_call1_v0, val_main_call1_cst, val_main_call1_cst_0]
  rfl

theorem out_ref (b : Fin 2) (s : Fin 2048) (d : Fin 1024) :
    (val_main_v9 (F := Ideal) h w v) (ix3 b s d) = out h w v b s d := by
  pointwise [val_main_v9]
  exact Finset.sum_congr rfl fun i _ => congrArg (· * _) (act_ref' h w b s i)

/-- The gradient of the second half. -/
theorem up_ref (b : Fin 2) (s : Fin 2048) (i : Fin 2816) :
    (val_main_v11 (F := Ideal) h w v e) (ix3 b s i) = upGrad (dact e v b s i) (pre h w b s (lo i)) := by
  pointwise [val_main_v11, val_main_v10, val_main_v7_0, val_main_v7_2, val_main_v5, val_main_v0, val_main_call1_v4, val_main_call1_v3, val_main_call1_v2, val_main_call1_v1, val_main_call1_v0, val_main_call1_cst, val_main_call1_cst_0]
  exact mul_comm _ _

/-- The gradient of the gate's half, by the product rule. -/
theorem gate_ref (b : Fin 2) (s : Fin 2048) (i : Fin 2816) :
    (val_main_v13 (F := Ideal) h w v e) (ix3 b s i)
      = dact e v b s i * pre h w b s (hi i) * Ideal.logistic (pre h w b s (lo i))
        + pre h w b s (lo i) * (dact e v b s i * pre h w b s (hi i))
          * (Ideal.logistic (pre h w b s (lo i)) * (1 - Ideal.logistic (pre h w b s (lo i)))) := by
  pointwise [val_main_v13, val_main_call2_v2, val_main_call2_v1, val_main_call2_v0, val_main_v12, val_main_v10, val_main_v7_1, val_main_v7_2,
    val_main_v6, val_main_v5, val_main_v0, val_main_call1_v7, val_main_call1_v6, val_main_call1_cst_1, val_main_call1_v4, val_main_call1_v3, val_main_call1_v2, val_main_call1_v1, val_main_call1_v0, val_main_call1_cst, val_main_call1_cst_0]
  rfl

variable (fh : ∀ i, Fine (h i)) (fw : ∀ i, Fine (w i)) (fv : ∀ i, Fine (v i)) (fe : ∀ i, Fine (e i))

include fh fw in
theorem fine_pre (b : Fin 2) (s : Fin 2048) (n : Fin 5632) : Fine (pre h w b s n) :=
  Fine.sum _ _ fun k => (fh _).mul (fw _)

include fv fe in
theorem fine_dact (b : Fin 2) (s : Fin 2048) (i : Fin 2816) : Fine (dact e v b s i) :=
  Fine.sum _ _ fun k => (fe _).mul (fv _)

include fh fw fv fe in
theorem dz_ref (b : Fin 2) (s : Fin 2048) (n : Fin 5632) :
    (val_main_v14 (F := Ideal) h w v e) (ix3 b s n) = dpre h w v e b s n := by
  pointwise [val_main_v14]
  unfold dpre
  by_cases q : n.val < 2816
  · rw [dif_pos q, dif_pos q, gate_ref]
    exact gate_eq (fine_dact v e fv fe b s _) (fine_pre h w fh fw b s _) (fine_pre h w fh fw b s _)
  · rw [dif_neg q, dif_neg q, up_ref]

include fh fw fv fe in
theorem dh_ref (b : Fin 2) (s : Fin 2048) (d : Fin 1024) :
    (val_main_v16 (F := Ideal) h w v e) (ix3 b s d) = dh h w v e b s d := by
  pointwise [val_main_v16]
  exact Finset.sum_congr rfl fun n _ => congrArg (· * _) (dz_ref h w v e fh fw fv fe b s n)

end Cert.ReferenceIdeal.Val

end
-- ==== Proof.FfnRun.lean ====
/- The launch of the feed-forward's four calls: every weakly fair run ends with each result array at the contents the last
   host stretch leaves, the arguments unchanged and every counter at zero. -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, each result at the last boundary's contents. -/
theorem run_main : θ_run defs (onTc (τ := τ) (main (F := F))) ⟨m, fun _ => 0, ρ⟩ (fun r => (∀ c : Dev nD,
      r.2.mem ((c.tc : Thread nD τ).loc main_v11) = W8 m ρ c (Proc.devRef .tc main_v11)
      ∧ r.2.mem ((c.tc : Thread nD τ).loc main_v19) = W8 m ρ c (Proc.devRef .tc main_v19)
      ∧ r.2.mem ((c.tc : Thread nD τ).loc main_v22) = W8 m ρ c (Proc.devRef .tc main_v22)
      ∧ r.2.mem ((c.tc : Thread nD τ).loc main_v16) = W8 m ρ c (Proc.devRef .tc main_v16)
      ∧      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v11 (by decide)), h c _ (mem_uc main_v19 (by decide)),
       h c _ (mem_uc main_v22 (by decide)), h c _ (mem_uc main_v16 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩), funext fun g => hz g (.inr (no_unscoped g.2))⟩)

end Cert.KernelIdeal.Val

end
-- ==== Proof.FfnOutDw.lean ====
/- The gradient of the feed-forward's second weight: what the kernel's accumulated product leaves in the result array is
   the reference's contraction over the two token axes. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Val

open Cert.Kernel2Ideal Cert.Kernel2Ideal.Gen

variable (m : (ℓ : Loc nD τ sig) → Buf (Elt Ideal) ℓ)

/-- The reference's term: the contraction over batch and position, transposed, in the call's layout. -/
abbrev REF (A : FVec Ideal S2x2048x2816 .f32) (D : FVec Ideal S2x2048x1024 .f32) : FVec Ideal S4x704x1024 .bf16 :=
  shapeCast _ (truncf .bf16 (transpose Cert.Reference2Ideal.S2816x1024 [1, 0]
    (Host.dotGeneral (F := Ideal) Cert.Reference2Ideal.dot_S2x2048x1024_S2x2048x2816_S1024x2816_01_01_2_2_n_n none D A)
    Cert.Reference2Ideal.Gen.transposes_S1024x2816_S2816x1024_1_0) Cert.Reference2Ideal.Gen.bitsLt_bf16_f32)
    Cert.Reference2Ideal.Gen.shapeCasts_S2816x1024_S4x704x1024

theorem idx : ∀ t : Fin cfg0.N, win0_0.index t = ![t.val / 2, t.val % 2, 0] ∧ win0_1.index t = ![0, t.val % 2, 0]
    ∧ win0_2.index t = ![t.val / 2, 0, 0] ∧ t.val < 8 :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2, outsAt0_B m c t (by omega) hm hm]
  have hA := outsAt0_A m c ⟨t.val - 1, Nat.lt_of_le_of_lt (Nat.sub_le _ _) t.isLt⟩
    (by show (t.val - 1) % 2 = 0; omega) (by show ¬ (t.val - 1) % 2 = 1; omega) (by show ¬ (t.val - 1) % 2 = 1; omega)
  rw [hA]
  dsimp only
  frame_out
  rw [show ∀ (h : (scM0_0).IsWhole) (v : Vec Ideal S704x1024 .f32), View.read (Elt Ideal)
    (View.whole cc0_scratch0) (h.unread v) = v from fun h v => h.read_unread (Val := Elt Ideal) v]
  pointwise [k0_pay1, k0_pay2, k0_pay3, k0_pay4, REF]
  rw [Fin.sum_univ_two]
  obtain ⟨e0, e1, e2, e3⟩ := idx t
  obtain ⟨f0, f1, f2, f3⟩ := idx ⟨t.val - 1, Nat.lt_of_le_of_lt (Nat.sub_le _ _) t.isLt⟩
  have g0 : (t.val - 1) / 2 = t.val / 2 := by omega
  have g1 : (t.val - 1) % 2 = 0 := by omega
  simp only [g0, g1] at f0 f1
  rw [hm] at e0 e1
  refine congrArg₂ (· + ·) (Finset.sum_congr rfl fun x _ => (mul_comm _ _).trans ?_)
    (Finset.sum_congr rfl fun x _ => (mul_comm _ _).trans ?_) <;>
    blk_point [iblk, e0, e1, e2, f0, f1]

end Cert.Kernel2Ideal.Val

end
-- ==== Proof.FfnInDw.lean ====
/- The gradient of the feed-forward's first weight: what the kernel's accumulated product leaves in the result array is
   the reference's contraction over the two token axes. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Val

open Cert.Kernel3Ideal Cert.Kernel3Ideal.Gen

variable (m : (ℓ : Loc nD τ sig) → Buf (Elt Ideal) ℓ)

/-- The reference's term: the contraction over batch and position, in the call's layout. -/
abbrev REF (H : FVec Ideal S2x2048x1024 .f32) (Z : FVec Ideal S2x2048x5632 .f32) : FVec Ideal S8x704x1024 .bf16 :=
  shapeCast _ (truncf .bf16 (transpose Cert.Reference3Ideal.S5632x1024 [1, 0] (transpose Cert.Reference3Ideal.S1024x5632 [1, 0]
    (Host.dotGeneral (F := Ideal) Cert.Reference3Ideal.dot_S2x2048x5632_S2x2048x1024_S5632x1024_01_01_2_2_n_n none Z H)
    Cert.Reference3Ideal.Gen.transposes_S5632x1024_S1024x5632_1_0)
    Cert.Reference3Ideal.Gen.transposes_S1024x5632_S5632x1024_1_0) Cert.Reference3Ideal.Gen.bitsLt_bf16_f32)
    Cert.Reference3Ideal.Gen.shapeCasts_S5632x1024_S8x704x1024

theorem idx : ∀ t : Fin cfg0.N, win0_0.index t = ![t.val / 2, t.val % 2, 0] ∧ win0_1.index t = ![0, t.val % 2, 0]
    ∧ win0_2.index t = ![t.val / 2, 0, 0] ∧ t.val < 16 :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hm : t.val % 2 = 1 := (flush0_2 t).mp hf
  blk_simp
  rw [after0_2, outsAt0_B m c t (by omega) hm hm]
  have hA := outsAt0_A m c ⟨t.val - 1, Nat.lt_of_le_of_lt (Nat.sub_le _ _) t.isLt⟩
    (by show (t.val - 1) % 2 = 0; omega) (by show ¬ (t.val - 1) % 2 = 1; omega) (by show ¬ (t.val - 1) % 2 = 1; omega)
  rw [hA]
  dsimp only
  frame_out
  rw [show ∀ (h : (scM0_0).IsWhole) (v : Vec Ideal S704x1024 .f32), View.read (Elt Ideal)
    (View.whole cc0_scratch0) (h.unread v) = v from fun h v => h.read_unread (Val := Elt Ideal) v]
  pointwise [k0_pay1, k0_pay2, k0_pay3, k0_pay4, REF]
  rw [Fin.sum_univ_two]
  obtain ⟨e0, e1, e2, e3⟩ := idx t
  obtain ⟨f0, f1, f2, f3⟩ := idx ⟨t.val - 1, Nat.lt_of_le_of_lt (Nat.sub_le _ _) t.isLt⟩
  have g0 : (t.val - 1) / 2 = t.val / 2 := by omega
  have g1 : (t.val - 1) % 2 = 0 := by omega
  simp only [g0, g1] at f0 f1
  rw [hm] at e0 e1
  refine congrArg₂ (· + ·) (Finset.sum_congr rfl fun x _ => ?_)
    (Finset.sum_congr rfl fun x _ => ?_) <;>
    blk_point [iblk, e0, e1, e2, f0, f1]

end Cert.Kernel3Ideal.Val

end
-- ==== Proof.FfnClaims.lean ====
/- The claims about the feed-forward's calls: the runs and the equalities with the plain feed-forward and its derivative. -/
module

public import proofs.«01_k».proof.Proof.FfnRef
public import proofs.«01_k».proof.Proof.FfnRun
public import proofs.«01_k».proof.Proof.FfnOutDw
public import proofs.«01_k».proof.Proof.FfnInDw
public import proofs.«01_k».proof.Proof.Gen.Reference2Ideal.Run
public import proofs.«01_k».proof.Proof.Gen.Reference3Ideal.Run

@[expose] public section

set_option maxRecDepth 16384

noncomputable section

open Idealize.ShloMosaic Idealize.ShloMosaic.TcCoe Idealize.SL.Sem

namespace Cert.Ffn

/-- Every column of a blocked axis lies in a block. -/
theorem tile_of {J T N : ℕ} (hN : J * T = N) (hT : 0 < T) (n : Fin N) :
    ∃ (g : Fin J) (j : Fin T) (h : g.val * T + j.val < N), n = ⟨g.val * T + j.val, h⟩ := by
  have e : n.val / T * T + n.val % T = n.val := Nat.div_add_mod' n.val T
  exact ⟨⟨n.val / T, Nat.div_lt_of_lt_mul (by rw [Nat.mul_comm, hN]; exact n.isLt)⟩, ⟨n.val % T, Nat.mod_lt _ hT⟩,
    lt_of_eq_of_lt e n.isLt, Fin.ext e.symm⟩

section Results

open Cert.KernelIdeal Cert.KernelIdeal.Gen Cert.KernelIdeal.Val Cert.ReferenceIdeal.Read Cert.ReferenceIdeal.Val

variable (m : (ℓ : Loc nD τ sig) → Buf (Elt Ideal) ℓ) (ρ : Dev nD → PrngReg) (c : Dev nD)

theorem f_eq : W8 m ρ c (Proc.devRef .tc main_v11) = val_main_v9 (F := Ideal) (aH m c) (aW m c) (aV m c) := by
  funext i
  rw [eq_ix3 i]
  exact (f_W8 m ρ c _ _ _).trans (out_ref _ _ _ _ _ _).symm

theorem act_eq : W8 m ρ c (Proc.devRef .tc main_v19) = val_main_v4 (F := Ideal) (aH m c) (aW m c) := by
  funext i
  rw [eq_ix3 i]
  obtain ⟨g, j, hl, e⟩ := tile_of (J := 4) (T := 704) (N := 2816) (by decide) (by decide) (i 2)
  rw [show (i 2 : Fin 2816) = _ from e]
  exact (act_W8 m ρ c _ _ g j).trans (act_ref _ _ _ _ _).symm

variable (fh : ∀ i, Fine (aH m c i)) (fw : ∀ i, Fine (aW m c i)) (fv : ∀ i, Fine (aV m c i)) (fe : ∀ i, Fine (aE m c i))

include fh fw fv fe in
theorem dz_eq : W8 m ρ c (Proc.devRef .tc main_v22) = val_main_v14 (F := Ideal) (aH m c) (aW m c) (aV m c) (aE m c) := by
  funext i
  rw [eq_ix3 i]
  obtain ⟨g, j, hl, e⟩ := tile_of (J := 8) (T := 704) (N := 5632) (by decide) (by decide) (i 2)
  rw [show (i 2 : Fin 5632) = _ from e]
  exact (dz_W8 m ρ c _ _ g j).trans (dz_ref _ _ _ _ fh fw fv fe _ _ _).symm

include fh fw fv fe in
theorem dh_eq : W8 m ρ c (Proc.devRef .tc main_v16) = val_main_v16 (F := Ideal) (aH m c) (aW m c) (aV m c) (aE m c) := by
  funext i
  rw [eq_ix3 i]
  exact (dh_W8 m ρ c _ _ _).trans (dh_ref _ _ _ _ fh fw fv fe _ _ _).symm

end Results

section Ref

open Cert.ReferenceIdeal Cert.ReferenceIdeal.Read

/-- The reference's run, each result under its name. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = val_main_v9 (F := Ideal) (m ((c.tc : Thread nD τ).loc main_arg0)) (m ((c.tc : Thread nD τ).loc main_arg1)) (m ((c.tc : Thread nD τ).loc main_arg2))
      ∧ r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_v14) = val_main_v14 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v16) = val_main_v16 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v9_eq _ _ _), (h c).2.1.trans (val_main_v4_eq _ _),
    (h c).2.2.1.trans (val_main_v14_eq _ _ _ _), (h c).2.2.2.1.trans (val_main_v16_eq _ _ _ _), (h c).2.2.2.2⟩)
    (Cert.ReferenceIdeal.Value.run (F := Ideal) m ρ)

end Ref

/-- The forward call, the gate's gradient and the gradient of `h`, against the plain feed-forward. -/
theorem algebraic : Cert.algebraic_KernelIdeal_ReferenceIdeal_pre_finite := by
  intro m g m' g' hpre hagree
  refine ⟨fun c => Cert.KernelIdeal.Gen.W8 m g c (Proc.devRef .tc Cert.KernelIdeal.main_v11), fun c => Cert.KernelIdeal.Gen.W8 m g c (Proc.devRef .tc Cert.KernelIdeal.main_v19),
    fun c => Cert.KernelIdeal.Gen.W8 m g c (Proc.devRef .tc Cert.KernelIdeal.main_v22), fun c => Cert.KernelIdeal.Gen.W8 m g c (Proc.devRef .tc Cert.KernelIdeal.main_v16),
    (θ_run Cert.KernelIdeal.defs _ _).mono (fun r h => h.1) (Cert.KernelIdeal.Val.run_main (F := Ideal) m g),
    (θ_run Cert.ReferenceIdeal.defs _ _).mono (fun r h c => ?_) (ref_run m' g')⟩
  obtain ⟨h0, h1, h2, h3⟩ := hagree c
  obtain ⟨fh, fw, fv, fe⟩ := Cert.KernelIdeal.Val.fine_args _ _ _ _ (hpre c)
  obtain ⟨r0, r1, r2, r3, rest⟩ := h c
  rw [h0, h1, h2] at r0
  rw [h0, h1] at r1
  rw [h0, h1, h2, h3] at r2 r3
  exact ⟨r0.trans (f_eq m g c).symm, r1.trans (act_eq m g c).symm, r2.trans (dz_eq m g c fh fw fv fe).symm,
    r3.trans (dh_eq m g c fh fw fv fe).symm, rest⟩

/-- The weight gradient of `w_out`. -/
theorem algebraic2 : Cert.algebraic_Kernel2Ideal_Reference2Ideal := by
  pair_intro
  · run_from Cert.Kernel2Ideal.Gen.run_main m g
  · run_from Cert.Reference2Ideal.Value.run m' g'
    exact (Cert.Kernel2Ideal.Val.final m c).symm

/-- The weight gradient of `w_in`. -/
theorem algebraic3 : Cert.algebraic_Kernel3Ideal_Reference3Ideal := by
  pair_intro
  · run_from Cert.Kernel3Ideal.Gen.run_main m g
  · run_from Cert.Reference3Ideal.Value.run m' g'
    exact (Cert.Kernel3Ideal.Val.final m c).symm

theorem frameR : Cert.quiescent_ReferenceIdeal := by
  intro m g _
  exact (θ_run Cert.ReferenceIdeal.defs _ _).mono (fun r h => ⟨fun c => ⟨(h c).2.2.2.2.1, (h c).2.2.2.2.2.1, (h c).2.2.2.2.2.2.1, (h c).2.2.2.2.2.2.2⟩,
      sem_eq_zero_of_no_sems (by decide) r.2⟩) (Cert.ReferenceIdeal.Value.run (F := Ideal) m g)

theorem frameR2 : Cert.quiescent_Reference2Ideal := by
  intro m g _
  exact (θ_run Cert.Reference2Ideal.defs _ _).mono (fun r h => ⟨fun c => (h c).2,
      sem_eq_zero_of_no_sems (by decide) r.2⟩) (Cert.Reference2Ideal.Value.run (F := Ideal) m g)

theorem frameR3 : Cert.quiescent_Reference3Ideal := by
  intro m g _
  exact (θ_run Cert.Reference3Ideal.defs _ _).mono (fun r h => ⟨fun c => (h c).2,
      sem_eq_zero_of_no_sems (by decide) r.2⟩) (Cert.Reference3Ideal.Value.run (F := Ideal) m g)

end Cert.Ffn

end
-- ==== Proof.FoxMath.lean ====
/- Causal attention over the reals, and the running softmax over the extended reals: no program here. -/
module

public import Idealize.ShloMosaic.Lib.Pointwise

@[expose] public section

noncomputable section

open Idealize.ShloMosaic

namespace Cert.Proof.Fox

theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-! ### The weight of a logit -/

/-- The exponential of a logit below infinity, a real: zero at minus infinity. -/
def wt (x : EReal) : ℝ := (Ideal.exp x).toReal

@[simp] theorem wt_bot : wt ⊥ = 0 := by simp [wt]
@[simp] theorem wt_coe (r : ℝ) : wt (r : EReal) = Real.exp r := by simp [wt]

theorem exp_sub_coe {x : EReal} (hx : x ≠ ⊤) (μ : ℝ) : Ideal.exp (x - (μ : EReal)) = ((Real.exp (-μ) * wt x : ℝ) : EReal) := by
  induction x with
  | bot => simp
  | coe r =>
    rw [← EReal.coe_sub, Ideal.exp_coe, wt_coe, ← Real.exp_add]
    congr 2; ring
  | top => exact absurd rfl hx

/-! ### The running state -/

/-- The running state after some logits: nothing yet, or a real maximum and the sum scaled by its exponential. -/
def Run (m a : EReal) (B : ℝ) : Prop :=
  (m = ⊥ ∧ a = 0 ∧ B = 0) ∨ ∃ μ : ℝ, m = (μ : EReal) ∧ a = ((Real.exp (-μ) * B : ℝ) : EReal)

theorem Run.init : Run ⊥ 0 0 := .inl ⟨rfl, rfl, rfl⟩

theorem fold_max_eq {n : ℕ} (L : Fin n → EReal) : Finset.univ.fold max ⊥ L = Finset.univ.sup L := rfl

/-- One tile of logits folded into the running state. -/
theorem Run.step {n : ℕ} {m a : EReal} {B : ℝ} (h : Run m a B) (L : Fin n → EReal) (hT : ∀ j, L j ≠ ⊤)
    (hB : ∃ j, L j ≠ ⊥) (w : Fin n → ℝ) :
    Run (max m (Finset.univ.fold max ⊥ L))
      (Ideal.exp (m - max m (Finset.univ.fold max ⊥ L)) * a +
        ∑ j, Ideal.exp (L j - max m (Finset.univ.fold max ⊥ L)) * ((w j : ℝ) : EReal))
      (B + ∑ j, wt (L j) * w j) := by
  have hm : m ≠ ⊤ := by
    rcases h with ⟨rfl, -, -⟩ | ⟨μ, rfl, -⟩
    · exact bot_ne_top
    · exact EReal.coe_ne_top μ
  obtain ⟨μ, hμ⟩ : ∃ μ : ℝ, max m (Finset.univ.fold max ⊥ L) = (μ : EReal) := by
    have ht : max m (Finset.univ.fold max ⊥ L) ≠ ⊤ := by
      refine ne_of_lt (max_lt (lt_top_iff_ne_top.2 hm) ?_)
      rw [fold_max_eq, Finset.sup_lt_iff (by simp)]
      exact fun j _ => lt_top_iff_ne_top.2 (hT j)
    have hb : max m (Finset.univ.fold max ⊥ L) ≠ ⊥ := by
      obtain ⟨j, hj⟩ := hB
      have h1 : L j ≤ Finset.univ.fold max ⊥ L := by rw [fold_max_eq]; exact Finset.le_sup (Finset.mem_univ j)
      intro h0
      have := (h1.trans (le_max_right m _)).trans_eq h0
      exact hj (le_bot_iff.1 this)
    exact ⟨_, (EReal.coe_toReal ht hb).symm⟩
  rw [hμ]
  refine .inr ⟨μ, rfl, ?_⟩
  have hs : ∑ j, Ideal.exp (L j - (μ : EReal)) * ((w j : ℝ) : EReal) = ((Real.exp (-μ) * ∑ j, wt (L j) * w j : ℝ) : EReal) := by
    rw [Finset.mul_sum, ← coe_sum]
    refine Finset.sum_congr rfl fun j _ => ?_
    rw [exp_sub_coe (hT j), ← EReal.coe_mul, mul_assoc]
  have ha : Ideal.exp (m - (μ : EReal)) * a = ((Real.exp (-μ) * B : ℝ) : EReal) := by
    rcases h with ⟨rfl, rfl, rfl⟩ | ⟨ν, rfl, rfl⟩
    · simp
    · rw [← EReal.coe_sub, Ideal.exp_coe, ← EReal.coe_mul, ← mul_assoc, ← Real.exp_add]
      congr 3; ring
  rw [hs, ha, ← EReal.coe_add, mul_add]

/-- The same for the plain sum of exponentials. -/
theorem Run.step_one {n : ℕ} {m l : EReal} {A : ℝ} (h : Run m l A) (L : Fin n → EReal) (hT : ∀ j, L j ≠ ⊤)
    (hB : ∃ j, L j ≠ ⊥) :
    Run (max m (Finset.univ.fold max ⊥ L))
      (Ideal.exp (m - max m (Finset.univ.fold max ⊥ L)) * l +
        ∑ j, Ideal.exp (L j - max m (Finset.univ.fold max ⊥ L)))
      (A + ∑ j, wt (L j)) := by
  simpa using h.step L hT hB (fun _ => 1)

/-- The quotient of two running sums is the quotient of the sums. -/
theorem Run.div {m l a : EReal} {A B : ℝ} (hl : Run m l A) (ha : Run m a B) (hA : 0 < A) :
    Ideal.div a l = ((B / A : ℝ) : EReal) := by
  rcases hl with ⟨-, -, h0⟩ | ⟨μ, hm, rfl⟩
  · exact absurd h0 hA.ne'
  rcases ha with ⟨hm', -, -⟩ | ⟨ν, hm', rfl⟩
  · rw [hm'] at hm; exact absurd hm (EReal.bot_ne_coe μ)
  have : ν = μ := EReal.coe_injective (hm'.symm.trans hm)
  subst this
  have he := (Real.exp_pos (-ν)).ne'
  rw [Ideal.div_coe (mul_ne_zero he hA.ne'), ← EReal.coe_mul]
  congr 1
  field_simp

/-- The maximum plus the logarithm of the running sum is the logarithm of the sum. -/
theorem Run.log {m l : EReal} {A : ℝ} (hl : Run m l A) (hA : 0 < A) : m + Ideal.log l = ((Real.log A : ℝ) : EReal) := by
  rcases hl with ⟨-, -, h0⟩ | ⟨μ, rfl, rfl⟩
  · exact absurd h0 hA.ne'
  have he := Real.exp_pos (-μ)
  rw [Ideal.log_coe, if_neg (not_le.2 (mul_pos he hA)), ← EReal.coe_add, Real.log_mul he.ne' hA.ne', Real.log_exp]
  congr 1; ring

/-! ### One head -/

/-- One attention head of one sequence: queries, keys, values and the output's cotangent (in 128 lanes), and the
cumulative gate as the query side and the key side read it. -/
structure Head where
  q : Fin 2048 → Fin 128 → ℝ
  k : Fin 2048 → Fin 128 → ℝ
  v : Fin 2048 → Fin 128 → ℝ
  d : Fin 2048 → Fin 128 → ℝ
  f : Fin 2048 → ℝ
  g : Fin 2048 → ℝ

/-- Row `r` of tile `j`. -/
def row (j : Fin 2) (r : Fin 1024) : Fin 2048 := ⟨j * 1024 + r, by omega⟩

theorem sum_rows (f : Fin 2048 → ℝ) : ∑ s, f s = ∑ r, f (row 0 r) + ∑ r, f (row 1 r) := by
  rw [Fin.sum_univ_tiles 2 1024 (by norm_num) f, Fin.sum_univ_two]
  rfl

namespace Head

variable (H : Head)

/-- The logit of query `t` at key `s`. -/
def S (t s : Fin 2048) : ℝ := ∑ l, H.q t l * (1 / 8) * H.k s l + (H.f t - H.g s)

/-- Its weight under the causal mask. -/
def E (t s : Fin 2048) : ℝ := if s ≤ t then Real.exp (H.S t s) else 0

/-- The masked logit. -/
def lg (t s : Fin 2048) : EReal := if s ≤ t then ((H.S t s : ℝ) : EReal) else ⊥

def Z (t : Fin 2048) : ℝ := ∑ s, H.E t s
def P (t s : Fin 2048) : ℝ := H.E t s / H.Z t
/-- The output. -/
def O (t : Fin 2048) (l : Fin 128) : ℝ := (∑ s, H.E t s * H.v s l) / H.Z t
def L (t : Fin 2048) : ℝ := Real.log (H.Z t)
/-- The cotangent of a weight. -/
def dP (t s : Fin 2048) : ℝ := ∑ l, H.d t l * H.v s l
def Δ (t : Fin 2048) : ℝ := ∑ l, H.d t l * H.O t l
/-- The cotangent of a logit. -/
def DS (t s : Fin 2048) : ℝ := H.P t s * (H.dP t s - H.Δ t)
def DQ (t : Fin 2048) (l : Fin 128) : ℝ := (∑ s, H.DS t s * H.k s l) * (1 / 8)
def DK (s : Fin 2048) (l : Fin 128) : ℝ := ∑ t, H.DS t s * (H.q t l * (1 / 8))
def DV (s : Fin 2048) (l : Fin 128) : ℝ := ∑ t, H.P t s * H.d t l
def DFQ (t : Fin 2048) : ℝ := ∑ s, H.DS t s
def DFK (s : Fin 2048) : ℝ := -∑ t, H.DS t s

theorem lg_ne_top (t s : Fin 2048) : H.lg t s ≠ ⊤ := by
  unfold lg; split
  · exact EReal.coe_ne_top _
  · exact bot_ne_top

theorem wt_lg (t s : Fin 2048) : wt (H.lg t s) = H.E t s := by
  unfold lg E; split <;> simp

theorem lg_self (t : Fin 2048) : H.lg t t ≠ ⊥ := by simp [lg]

theorem E_nonneg (t s : Fin 2048) : 0 ≤ H.E t s := by
  unfold E; split
  · exact (Real.exp_pos _).le
  · exact le_rfl

theorem Z_pos (t : Fin 2048) : 0 < H.Z t :=
  Finset.sum_pos' (fun s _ => H.E_nonneg t s) ⟨t, Finset.mem_univ t, by simp [E, Real.exp_pos]⟩

theorem exp_lg (t s : Fin 2048) : Ideal.exp (H.lg t s - ((H.L t : ℝ) : EReal)) = ((H.P t s : ℝ) : EReal) := by
  rw [exp_sub_coe (H.lg_ne_top t s), wt_lg, L, Real.exp_neg, Real.exp_log (H.Z_pos t), P, div_eq_inv_mul]

/-- A key of an earlier tile is never masked. -/
theorem lg_10 (r s : Fin 1024) : H.lg (row 1 r) (row 0 s) = ((H.S (row 1 r) (row 0 s) : ℝ) : EReal) := by
  unfold lg; rw [if_pos]; show (row 0 s).val ≤ (row 1 r).val; simp [row]; omega

/-- A key of a later tile always is. -/
theorem E_01 (r s : Fin 1024) : H.E (row 0 r) (row 1 s) = 0 := by
  unfold E; rw [if_neg]; show ¬(row 1 s).val ≤ (row 0 r).val; simp [row]; omega

theorem P_01 (r s : Fin 1024) : H.P (row 0 r) (row 1 s) = 0 := by simp [P, E_01]
theorem DS_01 (r s : Fin 1024) : H.DS (row 0 r) (row 1 s) = 0 := by simp [DS, P_01]

/-- The sums over keys, tile by tile. -/
theorem EV0 (w : Fin 2048 → ℝ) (r : Fin 1024) :
    ∑ s, H.E (row 0 r) s * w s = ∑ s, H.E (row 0 r) (row 0 s) * w (row 0 s) := by
  rw [sum_rows]; simp [E_01]
theorem EV1 (w : Fin 2048 → ℝ) (r : Fin 1024) :
    ∑ s, H.E (row 1 r) s * w s = ∑ s, H.E (row 1 r) (row 0 s) * w (row 0 s) + ∑ s, H.E (row 1 r) (row 1 s) * w (row 1 s) := by
  rw [sum_rows]
theorem Z0 (r : Fin 1024) : H.Z (row 0 r) = ∑ s, H.E (row 0 r) (row 0 s) := by
  rw [Z, sum_rows]; simp [E_01]
theorem Z1 (r : Fin 1024) : H.Z (row 1 r) = ∑ s, H.E (row 1 r) (row 0 s) + ∑ s, H.E (row 1 r) (row 1 s) := by
  rw [Z, sum_rows]

theorem row_le (j : Fin 2) (r s : Fin 1024) : row j s ≤ row j r ↔ s.val ≤ r.val := by
  show (row j s).val ≤ (row j r).val ↔ _
  simp [row]

/-- The masked logit inside one diagonal tile. -/
theorem lg_diag (j : Fin 2) (r s : Fin 1024) :
    H.lg (row j r) (row j s) = if s.val ≤ r.val then ((H.S (row j r) (row j s) : ℝ) : EReal) else ⊥ := by
  unfold lg; simp only [row_le]

theorem dP_O (t : Fin 2048) : ∑ s, H.E t s * H.dP t s = H.Z t * H.Δ t := by
  have hz := (H.Z_pos t).ne'
  simp only [dP, Δ, O, Finset.mul_sum, ]
  rw [Finset.sum_comm]
  refine Finset.sum_congr rfl fun l _ => ?_
  rw [show H.Z t * (H.d t l * ((∑ s, H.E t s * H.v s l) / H.Z t)) = H.d t l * ∑ s, H.E t s * H.v s l by field_simp,
    Finset.mul_sum]
  exact Finset.sum_congr rfl fun s _ => by ring

end Head

end Cert.Proof.Fox
-- ==== Proof.FoxFwdPay.lean ====
/- What the forward call of the attention computes on one tile of queries, as values of its head. -/
module

public import proofs.«01_k».proof.Proof.Gen.Kernel4Ideal.Skeleton
public import proofs.«01_k».proof.Proof.FoxMath
public import Idealize.ShloMosaic.Lib.Pointwise
public import Idealize.ShloMosaic.Lib.WordCmp

@[expose] public section

set_option maxRecDepth 16384

noncomputable section

open Idealize.ShloMosaic Idealize.SL.Sem
open Cert.Kernel4Ideal Cert.Kernel4Ideal.Gen

namespace Cert.Proof.Fox

/-- The word of one eighth. -/
theorem w_eighth : Ideal.ofBits .f32 1040187392#32 = ((1 / 8 : ℝ) : EReal) := by
  simp [Ideal.ofBits, Ideal.ieee]
  rw [← EReal.coe_mul]
  norm_num

/-- The word of minus infinity. -/
theorem w_ninf : Ideal.ofBits .f32 4286578688#32 = ⊥ := by simp [Ideal.ofBits, Ideal.ieee]

/-- The named mask. -/
theorem w_mask : (Named.named κ "mask" 4048155338#32 : Ideal .f32) = (⊥ : EReal) := by
  simp [Named.named, κ]

/-- The sum over a one-hot selection is the selected entry. -/
theorem pick {n : ℕ} (hn : n ≤ 128) (h : ℕ) (hh : h < n) (f : Fin n → EReal) :
    ∑ x : Fin n, Scalar.select (IntOp.cmpi .eq (BitVec.ofNat 32 ↑x) (BitVec.ofNat 32 h)) (f x) 0 = f ⟨h, hh⟩ := by
  rw [Finset.sum_eq_single ⟨h, hh⟩]
  · simp [Scalar.select, IntOp.cmpi]
  · intro x _ hx
    have hne : x.val ≠ h := fun e => hx (Fin.ext e)
    have : ¬(BitVec.ofNat 32 x.val = BitVec.ofNat 32 h) := by
      intro e
      have e' := congrArg BitVec.toNat e
      simp only [BitVec.toNat_ofNat] at e'
      omega
    have h2 : (BitVec.ofNat 32 x.val == BitVec.ofNat 32 h) = false := beq_eq_false_iff_ne.2 this
    simp [Scalar.select, IntOp.cmpi, h2]
  · exact fun h => absurd (Finset.mem_univ _) h

/-- A block of a projection whose rows are tile `a` of a head's rows. -/
def IsTile (x : Vec Ideal S1x1024x128 .f32) (w : Fin 2048 → Fin 128 → ℝ) (a : Fin 2) : Prop :=
  ∀ r l, x (ix3 0 r l) = ((w (row a r) l : ℝ) : EReal)

/-- A block of gates whose lane `h` holds tile `a` of the query side. -/
def IsGate (x : Vec Ideal S1x1024x128 .f32) (h : ℕ) (f : Fin 2048 → ℝ) (a : Fin 2) : Prop :=
  ∀ (hh : h < 128) r, x (ix3 0 r ⟨h, hh⟩) = ((f (row a r) : ℝ) : EReal)

/-- A block of gates whose row `h` holds tile `b` of the key side. -/
def IsRow (x : Vec Ideal S1x8x1024 .f32) (h : ℕ) (g : Fin 2048 → ℝ) (b : Fin 2) : Prop :=
  ∀ (hh : h < 8) s, x (ix3 0 ⟨h, hh⟩ s) = ((g (row b s) : ℝ) : EReal)

theorem S_eq (H : Head) (t s : Fin 2048) :
    ∑ l, ((H.q t l : ℝ) : EReal) * ((1 / 8 : ℝ) : EReal) * ((H.k s l : ℝ) : EReal) + (((H.f t : ℝ) : EReal) - ((H.g s : ℝ) : EReal))
      = ((H.S t s : ℝ) : EReal) := by
  simp only [← EReal.coe_mul, coe_sum, ← EReal.coe_sub, ← EReal.coe_add]
  rfl

section
variable (H : Head) (i : grid0.Coords) (a b : Fin 2)
  {v0 v8 v87 v121 : Vec Ideal S1x1024x128 .f32} {v95 : Vec Ideal S1x8x1024 .f32}

theorem hd_lt : (i 1).val < 4 := (i 1).isLt

theorem p7 (hq : IsTile v0 H.q a) (hf : IsGate v8 (i 1).val H.f a) (hk : IsTile v87 H.k b) (hg : IsRow v95 (i 1).val H.g b)
    (r s : Fin 1024) : k0_pay7 i v0 v8 v87 v95 (ix2 r s) = ((H.S (row a r) (row b s) : ℝ) : EReal) := by
  have h4 := hd_lt i
  pointwise [k0_pay7, k0_pay2, k0_pay3]
  rw [pick (by norm_num) _ (by omega) (fun x : Fin 128 => v8 (ix3 0 r x)), pick (by norm_num) _ (by omega) (fun x : Fin 8 => v95 (ix3 0 x s)),
    hf, hg, w_eighth, ← S_eq]
  simp only [hq _ _, hk _ _]

/-- The running maximum, sum and output of a tile of queries, row by row. -/
def IsRun (m l : FVec Ideal S1024x1 .f32) (acc : FVec Ideal S1024x128 .f32) (A : Fin 1024 → ℝ) (B : Fin 1024 → Fin 128 → ℝ) : Prop :=
  (∀ r, Run (m (ix2 r 0)) (l (ix2 r 0)) (A r)) ∧ ∀ r x, Run (m (ix2 r 0)) (acc (ix2 r x)) (B r x)

theorem run0 : IsRun k0_pay4 k0_pay5 k0_pay6 (fun _ => 0) (fun _ _ => 0) := by
  have h4 (y) : k0_pay4 (F := Ideal) y = ⊥ := by
    pointwise [k0_pay4]
    exact w_mask
  have h5 (y) : k0_pay5 (F := Ideal) y = 0 := by pointwise [k0_pay5]
  have h6 (y) : k0_pay6 (F := Ideal) y = 0 := by pointwise [k0_pay6]
  exact ⟨fun r => by rw [h4, h5]; exact Run.init, fun r x => by rw [h4, h6]; exact Run.init⟩

variable {m l : FVec Ideal S1024x1 .f32} {acc : FVec Ideal S1024x128 .f32} {A : Fin 1024 → ℝ} {B : Fin 1024 → Fin 128 → ℝ}

/-- One trip over an earlier tile of keys. -/
theorem trip (h : IsRun m l acc A B) (hq : IsTile v0 H.q 1) (hf : IsGate v8 (i 1).val H.f 1) (hk : IsTile v87 H.k 0)
    (hg : IsRow v95 (i 1).val H.g 0) (hv : IsTile v121 H.v 0) :
    IsRun (k0_pay8 i v0 v8 m v87 v95) (k0_pay11 i v0 v8 m l v87 v95) (k0_pay12 i v0 v8 m acc v87 v95 v121)
      (fun r => A r + ∑ s, H.E (row 1 r) (row 0 s)) (fun r x => B r x + ∑ s, H.E (row 1 r) (row 0 s) * H.v (row 0 s) x) := by
  have h7 := p7 H i 1 0 hq hf hk hg
  have h8 (r) (z : Fin 1) : k0_pay8 i v0 v8 m v87 v95 (ix2 r z) = max (m (ix2 r 0)) (Finset.univ.fold max ⊥ fun s => H.lg (row 1 r) (row 0 s)) := by
    obtain rfl : z = 0 := Subsingleton.elim _ _
    pointwise [k0_pay8]
    simp only [h7, w_ninf, H.lg_10]
  refine ⟨fun r => ?_, fun r x => ?_⟩
  · have := (h.1 r).step_one (fun s => H.lg (row 1 r) (row 0 s)) (fun s => H.lg_ne_top _ _) ⟨0, by rw [H.lg_10]; exact EReal.coe_ne_bot _⟩
    simp only [H.wt_lg] at this
    rw [h8]
    convert this using 1
    pointwise [k0_pay11, k0_pay9, k0_pay10]
    simp only [h7, h8, H.lg_10]
  · have := (h.2 r x).step (fun s => H.lg (row 1 r) (row 0 s)) (fun s => H.lg_ne_top _ _) ⟨0, by rw [H.lg_10]; exact EReal.coe_ne_bot _⟩
      (fun s => H.v (row 0 s) x)
    simp only [H.wt_lg] at this
    rw [h8]
    convert this using 1
    pointwise [k0_pay12, k0_pay9, k0_pay10]
    simp only [h7, h8, H.lg_10, hv _ _]

variable {v27 v66 : Vec Ideal S1x1024x128 .f32} {v35 : Vec Ideal S1x8x1024 .f32}

theorem sel_le (r s : Fin 1024) (x y : EReal) :
    Scalar.select (IntOp.cmpi .sle (BitVec.ofNat 32 s.val) (BitVec.ofNat 32 r.val)) x y = if s.val ≤ r.val then x else y := by
  unfold Scalar.select
  congr 1
  rw [eq_iff_iff]
  exact WordCmp.cmpi_sle_ofNat_eq_one_iff (by omega) (by omega)

/-- The masked logit on the diagonal tile. -/
theorem p21 (hq : IsTile v0 H.q a) (hf : IsGate v8 (i 1).val H.f a) (hk : IsTile v27 H.k a) (hg : IsRow v35 (i 1).val H.g a)
    (r s : Fin 1024) : k0_pay21 (k0_pay3 i v8) (k0_pay19 v0 v27) (k0_pay20 i) v35 (ix2 r s) = H.lg (row a r) (row a s) := by
  have h4 := hd_lt i
  pointwise [k0_pay21, k0_pay19, k0_pay20, k0_pay2, k0_pay3]
  rw [pick (by norm_num) _ (by omega) (fun x : Fin 128 => v8 (ix3 0 r x)), pick (by norm_num) _ (by omega) (fun x : Fin 8 => v35 (ix3 0 x s)),
    hf, hg, w_eighth, w_mask, sel_le, H.lg_diag, ← S_eq]
  simp only [hq _ _, hk _ _]

/-- The last step of a tile of queries: the output and the logarithm of the normaliser. -/
theorem fin (h : IsRun m l acc A B) (hq : IsTile v0 H.q a) (hf : IsGate v8 (i 1).val H.f a) (hk : IsTile v27 H.k a)
    (hg : IsRow v35 (i 1).val H.g a) (hv : IsTile v66 H.v a)
    (hA : ∀ r, A r + ∑ s, H.E (row a r) (row a s) = H.Z (row a r))
    (hB : ∀ r x, B r x + ∑ s, H.E (row a r) (row a s) * H.v (row a s) x = ∑ s, H.E (row a r) s * H.v s x) (r : Fin 1024) (x : Fin 128) :
    k0_pay26 (k0_pay3 i v8) m l acc (k0_pay19 v0 v27) (k0_pay20 i) v35 v66 (ix3 0 r x) = ((H.O (row a r) x : ℝ) : EReal) ∧
      k0_pay27 (k0_pay3 i v8) m l (k0_pay19 v0 v27) (k0_pay20 i) v35 (ix2 r x) = ((H.L (row a r) : ℝ) : EReal) := by
  have h21 := p21 H i a hq hf hk hg
  have hne : ∃ s, H.lg (row a r) (row a s) ≠ ⊥ := ⟨r, H.lg_self _⟩
  have e1 := (h.1 r).step_one (fun s => H.lg (row a r) (row a s)) (fun s => H.lg_ne_top _ _) hne
  have e2 := (h.2 r x).step (fun s => H.lg (row a r) (row a s)) (fun s => H.lg_ne_top _ _) hne (fun s => H.v (row a s) x)
  simp only [H.wt_lg, hA] at e1
  simp only [H.wt_lg, hB] at e2
  constructor
  · refine Eq.trans ?_ (e1.div e2 (H.Z_pos _))
    pointwise [k0_pay26, k0_pay25, k0_pay24, k0_pay23, k0_pay22]
    simp only [h21, w_ninf, hv _ _]
  · refine Eq.trans ?_ (e1.log (H.Z_pos _))
    pointwise [k0_pay27, k0_pay25, k0_pay24, k0_pay23, k0_pay22]
    simp only [h21, w_ninf]

end

end Cert.Proof.Fox
-- ==== Proof.FoxTiles.lean ====
/- The arrays of the attention calls, the head they hold, and the tiles loaded from a whole staged array. -/
module

public import proofs.«01_k».proof.Proof.FoxFwdPay
public import Idealize.ShloMosaic.Lib.Pipeline.ValueKit

@[expose] public section

set_option maxRecDepth 16384

noncomputable section

open Idealize.ShloMosaic Idealize.ShloMosaic.TcCoe Idealize.SL.Sem
open Cert.Kernel4Ideal Cert.Kernel4Ideal.Gen

namespace Cert.Proof.Fox

/-- Every entry of an array is a real. -/
def Reals {S : Shape} {φ : FTy} (x : FVec Ideal S φ) : Prop := ∀ i, x i = (((x i : EReal).toReal : ℝ) : EReal)

/-- Head `h` of sequence `b`, as the packed arrays of the calls hold it. -/
def hd (p : FVec Ideal S2x2048x3712 .f32) (d : FVec Ideal S2x2048x1536 .f32) (f : FVec Ideal S2x2048x128 .f32)
    (g : FVec Ideal S2x8x2048 .f32) (b : Fin 2) (h : Fin 4) : Head where
  q t l := (p (ix3 b t ⟨128 * (12 + h) + l, by omega⟩) : EReal).toReal
  k s l := (p (ix3 b s ⟨128 * (16 + 2 * h) + l, by omega⟩) : EReal).toReal
  v s l := (p (ix3 b s ⟨128 * (17 + 2 * h) + l, by omega⟩) : EReal).toReal
  d t l := (d (ix3 b t ⟨128 * (6 + h) + l, by omega⟩) : EReal).toReal
  f t := (f (ix3 b t ⟨h, by omega⟩) : EReal).toReal
  g s := (g (ix3 b ⟨h, by omega⟩ s) : EReal).toReal

/-- A staged array whose rows are all of a head's rows. -/
def IsFull (x : Vec Ideal S1x2048x128 .f32) (w : Fin 2048 → Fin 128 → ℝ) : Prop :=
  ∀ s l, x (ix3 0 s l) = ((w s l : ℝ) : EReal)

def IsFullRow (x : Vec Ideal S1x8x2048 .f32) (h : ℕ) (g : Fin 2048 → ℝ) : Prop :=
  ∀ (hh : h < 8) s, x (ix3 0 ⟨h, hh⟩ s) = ((g s : ℝ) : EReal)

theorem ld_tile {x : Vec Ideal S1x2048x128 .f32} {w} (hx : IsFull x w) (j : Fin 2) (off : Fin 3 → ℕ)
    (ho : off = ![0, j.val * 1024, 0]) (inb) : IsTile (View.ld x (Rect.unit (s := S1x2048x128) off ![1, 1024, 128] inb)) w j := by
  subst ho
  intro r l
  rw [← hx]
  show x _ = x _
  congr 1
  funext a
  apply Fin.ext
  fin_cases a <;> simp [Rect.unit, Rect.emb, ix3, row]

theorem ld_row {x : Vec Ideal S1x8x2048 .f32} {h g} (hx : IsFullRow x h g) (j : Fin 2) (off : Fin 3 → ℕ)
    (ho : off = ![0, 0, j.val * 1024]) (inb) : IsRow (View.ld x (Rect.unit (s := S1x8x2048) off ![1, 8, 1024] inb)) h g j := by
  subst ho
  intro hh s
  rw [← hx hh]
  show x _ = x _
  congr 1
  funext a
  apply Fin.ext
  fin_cases a <;> simp [Rect.unit, Rect.emb, ix3, row]

end Cert.Proof.Fox
-- ==== Proof.FoxFwd.lean ====
/- What the forward call of the attention leaves in its two result arrays. -/
module

public import proofs.«01_k».proof.Proof.Gen.Kernel4Ideal.Frame
public import proofs.«01_k».proof.Proof.FoxTiles
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Proof.Fox

variable (V : (c : Dev nD) → (b : Ref sig .tc) → Buf (Elt Ideal) ((c : Thread nD τ).loc b)) (c : Dev nD)

/-- The head of a sequence, from the contents of the arrays when a call starts. -/
abbrev hdV : Fin 2 → Fin 4 → Head := hd (V c main_v13) (V c main_v19) (V c main_v20) (V c main_v22)

theorem idx0 : ∀ t : Fin cfg0.N, win0_0.index t = ![t.val / 8, t.val % 2, 12 + t.val / 2 % 4]
    ∧ win0_1.index t = ![t.val / 8, 0, 16 + 2 * (t.val / 2 % 4)] ∧ win0_2.index t = ![t.val / 8, 0, 17 + 2 * (t.val / 2 % 4)]
    ∧ win0_3.index t = ![t.val / 8, t.val % 2, 0] ∧ win0_4.index t = ![t.val / 8, 0, 0]
    ∧ win0_5.index t = ![t.val / 8, t.val % 2, 6 + t.val / 2 % 4] ∧ win0_6.index t = ![t.val / 8, t.val / 2 % 4, t.val % 2, 0]
    ∧ (grid0.coords t 1).val = t.val / 2 % 4 ∧ t.val < 16 :=
  (by decide +kernel : ∀ t : Fin grid0.N, _)

theorem off0 : ∀ t : Fin cfg0.N, k0_off5 (grid0.coords t) = ![0, t.val % 2 * 1024, 0] ∧ k0_off6 (grid0.coords t) = ![0, 0, t.val % 2 * 1024]
    ∧ (k0_t1_loop (grid0.coords t)).trips = t.val % 2 ∧ (k0_t2_loop (grid0.coords t)).trips = 0 :=
  (by decide +kernel : ∀ t : Fin grid0.N, _)

theorem offT0 : ∀ (t : Fin cfg0.N) (k : Fin (k0_t1_loop (grid0.coords t)).trips), k0_off1 (grid0.coords t) k = ![0, 0, 0]
    ∧ k0_off2 (grid0.coords t) k = ![0, 0, 0] :=
  (by decide +kernel : ∀ (t : Fin grid0.N) (k : Fin (k0_t1_loop (grid0.coords t)).trips), _)

theorem eta3 (y : S1x1024x128.Idx) : y = ix3 0 (y 1) (y 2) := by
  funext a; fin_cases a
  · exact Subsingleton.elim (α := Fin 1) _ _
  · rfl
  · rfl

theorem eta4 (y : S1x1x1024x128.Idx) : y = ix4 0 0 (y 2) (y 3) := by
  funext a; fin_cases a
  · exact Subsingleton.elim (α := Fin 1) _ _
  · exact Subsingleton.elim (α := Fin 1) _ _
  · rfl
  · rfl

theorem pay1_at (v : FVec Ideal S1024x128 .f32) (r : Fin 1024) (l : Fin 128) : k0_pay1 v (ix4 0 0 r l) = v (ix2 r l) := by
  pointwise [k0_pay1]

/-- The heads' outputs, each in its own 128 columns. -/
def oAt (H : Fin 2 → Fin 4 → Head) : FVec Ideal S2x2048x1536 .bf16 := fun i =>
  (((H (i 0) ⟨((i 2).val / 128 - 6) % 4, Nat.mod_lt _ (by norm_num)⟩).O (i 1) ⟨(i 2).val % 128, Nat.mod_lt _ (by norm_num)⟩ : ℝ) : EReal)

/-- The logarithms of the normalisers, copied along the lanes. -/
def lseAt (H : Fin 2 → Fin 4 → Head) : FVec Ideal S2x4x2048x128 .f32 := fun i => (((H (i 0) (i 1)).L (i 2) : ℝ) : EReal)

theorem oAt_at (H : Fin 2 → Fin 4 → Head) (b : Fin 2) (h : Fin 4) (t : Fin 2048) (l : Fin 128) :
    oAt H (ix3 b t ⟨128 * (6 + h.val) + l.val, by omega⟩) = (((H b h).O t l : ℝ) : EReal) := by
  have h1 : ((128 * (6 + h.val) + l.val) / 128 - 6) % 4 = h.val := by omega
  have h2 : (128 * (6 + h.val) + l.val) % 128 = l.val := by omega
  simp only [oAt, ix3_0, ix3_1, ix3_2, h1, h2]

/-- The trips of the two loops at a tile of queries. -/
theorem trips0 (t : Fin cfg0.N) :
    Scf.trips (0#32) (Scalar.addi (0#32) (Scalar.muli (Scalar.divsi (Scalar.subi (BitVec.ofNat 32 ↑(grid0.coords t 2)) 0#32) 1#32) 1#32)) 1#32
        = t.val % 2
      ∧ Scf.trips (Scalar.addi (0#32) (Scalar.muli (Scalar.divsi (Scalar.subi (BitVec.ofNat 32 ↑(grid0.coords t 2)) 0#32) 1#32) 1#32))
          (Scalar.addi (0#32) (Scalar.subi (BitVec.ofNat 32 ↑(grid0.coords t 2)) 0#32)) 1#32 = 0 :=
  (off0 t).2.2

section
variable (hp : Reals (S := S2x2048x3712) (φ := .f32) (V c main_v13)) (hf : Reals (S := S2x2048x128) (φ := .f32) (V c main_v20))
  (hg : Reals (S := S2x8x2048) (φ := .f32) (V c main_v22))
include hp hf hg

theorem blk0 (t : Fin cfg0.N) (b : Fin 2) (h : Fin 4) (a : Fin 2) (hb : t.val / 8 = b) (hh : t.val / 2 % 4 = h) (ha : t.val % 2 = a) :
    IsTile (iblk0 V c 0 t) (hdV V c b h).q a ∧ IsFull (iblk0 V c 1 t) (hdV V c b h).k ∧ IsFull (iblk0 V c 2 t) (hdV V c b h).v
      ∧ IsGate (iblk0 V c 3 t) h (hdV V c b h).f a ∧ IsFullRow (iblk0 V c 4 t) h (hdV V c b h).g := by
  obtain ⟨e0, e1, e2, e3, e4, -, -, -, ht⟩ := idx0 t
  rw [hb, hh, ha] at e0
  rw [hb, hh] at e1 e2
  rw [hb, ha] at e3
  rw [hb] at e4
  refine ⟨fun r l => ?_, fun s l => ?_, fun s l => ?_, fun hh r => ?_, fun hh s => ?_⟩
  · refine Eq.trans ?_ (hp _)
    blk_point [iblk0, e0, row]
  · refine Eq.trans ?_ (hp _)
    blk_point [iblk0, e1, row]
  · refine Eq.trans ?_ (hp _)
    blk_point [iblk0, e2, row]
  · refine Eq.trans ?_ (hf _)
    blk_point [iblk0, e3, row]
  · refine Eq.trans ?_ (hg _)
    blk_point [iblk0, e4, row]

theorem o_val (t : Fin cfg0.N) (b : Fin 2) (h : Fin 4) (a : Fin 2) (hb : t.val / 8 = b) (hh : t.val / 2 % 4 = h) (ha : t.val % 2 = a)
    (r : Fin 1024) (l : Fin 128) : (outsAt0 V c t).1 (ix3 0 r l) = (((hdV V c b h).O (row a r) l : ℝ) : EReal) := by
  obtain ⟨bq, bk, bv, bf, bg⟩ := blk0 V c hp hf hg t b h a hb hh ha
  have e7 := (idx0 t).2.2.2.2.2.2.2.1
  obtain ⟨o5, o6, -, -⟩ := off0 t
  have oT := offT0 t
  rw [ha] at o5 o6
  rw [hh] at e7
  have bf' : IsGate (iblk0 V c 3 t) (grid0.coords t 1).val (hdV V c b h).f a := by rw [e7]; exact bf
  have bg' : IsFullRow (iblk0 V c 4 t) (grid0.coords t 1).val (hdV V c b h).g := by rw [e7]; exact bg
  unfold outsAt0
  frame_out
  rw [(trips0 t).2, (trips0 t).1]
  rw [ha]
  obtain rfl | rfl : a = 0 ∨ a = 1 := by omega
  · unfold st_k0_t2
    dsimp only
    unfold st_k0_t1
    dsimp only
    refine (fin _ (grid0.coords t) 0 run0 bq bf' (ld_tile bk 0 _ o5 _) (ld_row bg' 0 _ o6 _) (ld_tile bv 0 _ o5 _) ?_ ?_ r l).1
    · exact fun r => by rw [zero_add, (hdV V c b h).Z0]
    · exact fun r x => by rw [zero_add, (hdV V c b h).EV0 fun s => (hdV V c b h).v s x]
  · have hpos : 0 < (k0_t1_loop (grid0.coords t)).trips := by rw [(off0 t).2.2.1, ha]; decide
    unfold st_k0_t2
    dsimp only
    unfold st_k0_t1 st_k0_t1Step tripR_k0_t1 trip_k0_t1
    dsimp only
    simp only [dif_pos hpos, View.readAt_eq_ld, Memref.IsWhole.read_unread]
    unfold st_k0_t1
    dsimp only
    refine (fin _ (grid0.coords t) 1 (trip _ (grid0.coords t) run0 bq bf' (ld_tile bk 0 _ (oT _).1 _) (ld_row bg' 0 _ (oT _).2 _) (ld_tile bv 0 _ (oT _).1 _))
      bq bf' (ld_tile bk 1 _ o5 _) (ld_row bg' 1 _ o6 _) (ld_tile bv 1 _ o5 _) ?_ ?_ r l).1
    · exact fun r => by rw [zero_add, (hdV V c b h).Z1]
    · exact fun r x => by rw [zero_add, (hdV V c b h).EV1 fun s => (hdV V c b h).v s x]

theorem lse_val (t : Fin cfg0.N) (b : Fin 2) (h : Fin 4) (a : Fin 2) (hb : t.val / 8 = b) (hh : t.val / 2 % 4 = h) (ha : t.val % 2 = a)
    (r : Fin 1024) (l : Fin 128) : (outsAt0 V c t).2 (ix4 0 0 r l) = (((hdV V c b h).L (row a r) : ℝ) : EReal) := by
  obtain ⟨bq, bk, bv, bf, bg⟩ := blk0 V c hp hf hg t b h a hb hh ha
  have e7 := (idx0 t).2.2.2.2.2.2.2.1
  obtain ⟨o5, o6, -, -⟩ := off0 t
  have oT := offT0 t
  rw [ha] at o5 o6
  rw [hh] at e7
  have bf' : IsGate (iblk0 V c 3 t) (grid0.coords t 1).val (hdV V c b h).f a := by rw [e7]; exact bf
  have bg' : IsFullRow (iblk0 V c 4 t) (grid0.coords t 1).val (hdV V c b h).g := by rw [e7]; exact bg
  unfold outsAt0
  frame_out
  rw [pay1_at]
  rw [(trips0 t).2, (trips0 t).1]
  rw [ha]
  obtain rfl | rfl : a = 0 ∨ a = 1 := by omega
  · unfold st_k0_t2
    dsimp only
    unfold st_k0_t1
    dsimp only
    refine (fin _ (grid0.coords t) 0 run0 bq bf' (ld_tile bk 0 _ o5 _) (ld_row bg' 0 _ o6 _) (ld_tile bv 0 ![0, 0, 0] rfl (by decide)) ?_ ?_ r l).2
    · exact fun r => by rw [zero_add, (hdV V c b h).Z0]
    · exact fun r x => by rw [zero_add, (hdV V c b h).EV0 fun s => (hdV V c b h).v s x]
  · have hpos : 0 < (k0_t1_loop (grid0.coords t)).trips := by rw [(off0 t).2.2.1, ha]; decide
    unfold st_k0_t2
    dsimp only
    unfold st_k0_t1 st_k0_t1Step tripR_k0_t1 trip_k0_t1
    dsimp only
    simp only [dif_pos hpos, View.readAt_eq_ld, Memref.IsWhole.read_unread]
    unfold st_k0_t1
    dsimp only
    refine (fin _ (grid0.coords t) 1 (trip _ (grid0.coords t) run0 bq bf' (ld_tile bk 0 _ (oT _).1 _) (ld_row bg' 0 _ (oT _).2 _) (ld_tile bv 0 ![0, 0, 0] rfl (by decide)))
      bq bf' (ld_tile bk 1 _ o5 _) (ld_row bg' 1 _ o6 _) (ld_tile bv 1 ![0, 1024, 0] rfl (by decide)) ?_ ?_ r l).2
    · exact fun r => by rw [zero_add, (hdV V c b h).Z1]
    · exact fun r x => by rw [zero_add, (hdV V c b h).EV1 fun s => (hdV V c b h).v s x]

theorem o_arr : (dat0 V c).arrAt 5 cfg0.N
    = (fun i => if 6 ≤ (i 2).val / 128 ∧ (i 2).val / 128 < 10 then oAt (hdV V c) i else V c main_v24_0 i : FVec Ideal S2x2048x1536 .bf16) := by
  refine (dat0 V c).arrAt_eq_of_coversWhere 5 _ (fun β => 6 ≤ β (2 : Fin _) ∧ β (2 : Fin _) < 10) (by decide +kernel) (fun t hfl y => ?_) (fun j => Iff.rfl)
  obtain ⟨-, -, -, -, -, e5, -, -, ht⟩ := idx0 t
  blk_simp
  rw [after0_5]
  obtain ⟨r, l, rfl⟩ : ∃ r l, y = ix3 0 r l := ⟨y 1, y 2, eta3 y⟩
  rw [o_val V c hp hf hg t ⟨t.val / 8, by omega⟩ ⟨t.val / 2 % 4, by omega⟩ ⟨t.val % 2, by omega⟩ rfl rfl rfl r l]
  have he : (win0_5.blk t).view.emb (ix3 0 r l)
      = (ix3 ⟨t.val / 8, by omega⟩ (row ⟨t.val % 2, by omega⟩ r) ⟨128 * (6 + t.val / 2 % 4) + l.val, by omega⟩ : S2x2048x1536.Idx) := by
    funext a; apply Fin.ext
    fin_cases a <;> (blk_simp [e5, row]; first | rfl | exact congrArg (· + l.val) (Nat.mul_comm _ _))
  rw [he]; exact (oAt_at (hdV V c) _ ⟨t.val / 2 % 4, by omega⟩ _ _).symm

theorem lse_arr : (dat0 V c).arrAt 6 cfg0.N = lseAt (hdV V c) := by
  refine (dat0 V c).arrAt_eq_of_covers 6 _ (by decide +kernel) fun t hfl y => ?_
  obtain ⟨-, -, -, -, -, -, e6, -, ht⟩ := idx0 t
  blk_simp
  rw [after0_6]
  obtain ⟨r, l, rfl⟩ : ∃ r l, y = ix4 0 0 r l := ⟨y 2, y 3, eta4 y⟩
  rw [lse_val V c hp hf hg t ⟨t.val / 8, by omega⟩ ⟨t.val / 2 % 4, by omega⟩ ⟨t.val % 2, by omega⟩ rfl rfl rfl r l]
  have he : (win0_6.blk t).view.emb (ix4 0 0 r l)
      = (ix4 ⟨t.val / 8, by omega⟩ ⟨t.val / 2 % 4, by omega⟩ (row ⟨t.val % 2, by omega⟩ r) l : S2x4x2048x128.Idx) := by
    funext a; apply Fin.ext
    fin_cases a <;> (blk_simp [e6, row]; rfl)
  rw [he]; rfl

end

end Cert.Proof.Fox
-- ==== Proof.FoxEntry.lean ====
/- The packed operands of the attention calls when the first of them starts: 64 lanes of each head's row and 64 zeros. -/
module

public import proofs.«01_k».proof.Proof.FoxFwd
public import proofs.«01_k».proof.Proof.Gen.Kernel4Ideal.Frame
public import Idealize.ShloMosaic.Lib.Claim
public import Idealize.ShloMosaic.Lib.KernelVsHost

@[expose] public section

set_option maxRecDepth 16384

noncomputable section

open Idealize.ShloMosaic Idealize.ShloMosaic.TcCoe Idealize.SL.Sem
open Cert.Kernel4Ideal Cert.Kernel4Ideal.Gen

namespace Cert.Proof.Fox

/-- Row `t` of head `h` of an argument, 64 lanes of it and zeros after them. -/
def lanes (a : FVec Ideal S2x2048x256 .f32) (b : Fin 2) (t : Fin 2048) (h : Fin 4) (l : Fin 128) : EReal :=
  if hl : l.val < 64 then a (ix3 b t ⟨h.val * 64 + l.val, by omega⟩) else 0

/-- A sequence's gates, four lanes of them and zeros after them. -/
def gate (a : FVec Ideal S2x2048x4 .f32) (b : Fin 2) (t : Fin 2048) (l : Fin 128) : EReal :=
  if hl : l.val < 4 then a (ix3 b t ⟨l.val, hl⟩) else 0

variable (m : (ℓ : Loc nD τ sig) → Buf (Elt Ideal) ℓ) (ρ : Dev nD → PrngReg) (c : Dev nD)

abbrev aQ : FVec Ideal S2x2048x256 .f32 := m ((c : Thread nD τ).loc main_arg0)
abbrev aK : FVec Ideal S2x2048x256 .f32 := m ((c : Thread nD τ).loc main_arg1)
abbrev aV : FVec Ideal S2x2048x256 .f32 := m ((c : Thread nD τ).loc main_arg2)
abbrev aF : FVec Ideal S2x2048x4 .f32 := m ((c : Thread nD τ).loc main_arg3)
abbrev aD : FVec Ideal S2x2048x256 .f32 := m ((c : Thread nD τ).loc main_arg4)

/-- A head padded to 128 lanes. -/
theorem pad_h (x : FVec Ideal S2x2048x4x64 .f32) (b : Fin 2) (t : Fin 2048) (h : Fin 4) (l : Fin 128) :
    pad S2x2048x4x128 ![0, 0, 0, 0] ![0, 0, 0, 64] ![0, 0, 0, 0] x (sitofp (F := Ideal) .f32 (constantI S_ 32 0#32))
        pads_S2x2048x4x64_S2x2048x4x128_000_000_000_0640 h_S_ (ix4 b t h l)
      = if hl : l.val < 64 then x (ix4 b t h ⟨l.val, hl⟩) else 0 := by
  by_cases hl : l.val < 64
  · rw [dif_pos hl]
    refine pad_apply_of_inside _ _ _ _ _ _ _ _ (ix4 b t h ⟨l.val, hl⟩) fun a => ?_
    fin_cases a <;> simp [ix4] <;> rfl
  · rw [dif_neg hl]
    refine (pad_apply_of_not_inside _ _ _ _ _ _ _ _ 3 fun hin => hl ?_).trans ?_
    · simpa using hin.2.2
    · show ((((0#32).toInt : ℤ) : ℝ) : EReal) = 0
      simp

theorem pad_g (x : FVec Ideal S2x2048x4 .f32) (b : Fin 2) (t : Fin 2048) (l : Fin 128) :
    pad S2x2048x128 ![0, 0, 0] ![0, 0, 124] ![0, 0, 0] x (sitofp (F := Ideal) .f32 (constantI S_ 32 0#32))
        pads_S2x2048x4_S2x2048x128_000_000_01240 h_S_ (ix3 b t l)
      = if hl : l.val < 4 then x (ix3 b t ⟨l.val, hl⟩) else 0 := by
  by_cases hl : l.val < 4
  · rw [dif_pos hl]
    refine pad_apply_of_inside _ _ _ _ _ _ _ _ (ix3 b t ⟨l.val, hl⟩) fun a => ?_
    fin_cases a <;> simp [ix3] <;> rfl
  · rw [dif_neg hl]
    refine (pad_apply_of_not_inside _ _ _ _ _ _ _ _ 2 fun hin => hl ?_).trans ?_
    · simpa using hin.2.2
    · show ((((0#32).toInt : ℤ) : ℝ) : EReal) = 0
      simp

theorem in_kpad (b : Fin 2) (t : Fin 2048) (h : Fin 4) (l : Fin 128) :
    (W2 m ρ c (Proc.devRef .tc main_v1) : FVec Ideal S2x2048x4x128 .f32) (ix4 b t h l) = lanes (aK m c) b t h l := by
  unfold W2 W1 W0; entry_read
  refine (pad_h _ b t h l).trans ?_
  unfold lanes
  split
  · show shapeCast _ _ _ _ = _
    pointwise
  · rfl

theorem in_gate (b : Fin 2) (t : Fin 2048) (l : Fin 128) :
    (W11 m ρ c (Proc.devRef .tc main_v20) : FVec Ideal S2x2048x128 .f32) (ix3 b t l) = gate (aF m c) b t l := by
  rw [W11_of m ρ c main_v20 (by decide)]
  unfold W10; entry_read
  exact (pad_g _ b t l).trans rfl

theorem in_vpad (b : Fin 2) (t : Fin 2048) (h : Fin 4) (l : Fin 128) :
    (W4 m ρ c (Proc.devRef .tc main_v3) : FVec Ideal S2x2048x4x128 .f32) (ix4 b t h l) = lanes (aV m c) b t h l := by
  unfold W4 W3; entry_read
  refine (pad_h _ b t h l).trans ?_
  unfold lanes
  split
  · show shapeCast _ _ _ _ = _
    pointwise
  · rfl

theorem in_qpad (b : Fin 2) (t : Fin 2048) (h : Fin 4) (l : Fin 128) :
    (W6 m ρ c (Proc.devRef .tc main_v10) : FVec Ideal S2x2048x4x128 .f32) (ix4 b t h l) = lanes (aQ m c) b t h l := by
  unfold W6 W5; entry_read
  refine (pad_h _ b t h l).trans ?_
  unfold lanes
  split
  · show shapeCast _ _ _ _ = _
    pointwise
  · rfl

section
variable (V : Valuation τ sig (Elt Ideal))

theorem in_dpad (b : Fin 2) (t : Fin 2048) (h : Fin 4) (l : Fin 128) :
    (W8 m ρ c (Proc.devRef .tc main_v16) : FVec Ideal S2x2048x4x128 .f32) (ix4 b t h l) = lanes (aD m c) b t h l := by
  have e : (W7 m ρ c (Proc.devRef .tc main_v15) : FVec Ideal S2x2048x4x64 .f32)
      = shapeCast S2x2048x4x64 (aD m c) shapeCasts_S2x2048x256_S2x2048x4x64 := by
    refine Eq.trans ?_ (congrArg (fun x : FVec Ideal S2x2048x256 .f32 => shapeCast S2x2048x4x64 x shapeCasts_S2x2048x256_S2x2048x4x64)
      (W6_args m ρ c main_arg4 (by decide)))
    unfold W7
    generalize W6 m ρ c = V
    entry_read
    rfl
  have e2 : (W8 m ρ c (Proc.devRef .tc main_v16) : FVec Ideal S2x2048x4x128 .f32)
      = pad S2x2048x4x128 ![0, 0, 0, 0] ![0, 0, 0, 64] ![0, 0, 0, 0] (W7 m ρ c (Proc.devRef .tc main_v15) : FVec Ideal S2x2048x4x64 .f32)
          (sitofp (F := Ideal) .f32 (W7 m ρ c (Proc.devRef .tc main_c_4) : IVec S_ 32)) pads_S2x2048x4x64_S2x2048x4x128_000_000_000_0640 h_S_ := by
    unfold W8
    generalize W7 m ρ c = V
    entry_read
    rfl
  have e3 : (W7 m ρ c (Proc.devRef .tc main_c_4) : IVec S_ 32) = constantI S_ 32 0#32 := by
    unfold W7
    generalize W6 m ρ c = V
    entry_read
    rfl
  rw [e2, e3, e, pad_h]
  unfold lanes
  split
  · pointwise
  · rfl

theorem merge_at (x : FVec Ideal S2x2048x4x128 .f32) (b : Fin 2) (t : Fin 2048) (h : Fin 4) (l : Fin 128) :
    shapeCast S2x2048x512 x shapeCasts_S2x2048x4x128_S2x2048x512 (ix3 b t ⟨128 * h + l, by omega⟩) = x (ix4 b t h l) := by
  pointwise

theorem kv_at (b : Fin 2) (t : Fin 2048) (h : Fin 4) (e : Fin 2) (l : Fin 128) :
    (StableHlo.after hostOps0_4 V (Proc.devRef .tc main_v7) : FVec Ideal S2x2048x1024 .f32) (ix3 b t ⟨256 * h + 128 * e + l, by omega⟩)
      = if e.val < 1 then (V (Proc.devRef .tc main_v1) : FVec Ideal S2x2048x4x128 .f32) (ix4 b t h l)
        else (V (Proc.devRef .tc main_v3) : FVec Ideal S2x2048x4x128 .f32) (ix4 b t h l) := by
  entry_read
  pointwise
  rfl

theorem zeros8 : (StableHlo.after hostOps0_4 V (Proc.devRef .tc main_v8) : FVec Ideal S2x2048x1536 .f32) = fun _ => (0 : EReal) := by
  entry_read
  funext i
  pointwise

theorem cat_p (x8 : FVec Ideal S2x2048x1536 .f32) (x11 : FVec Ideal S2x2048x512 .f32) (x7 : FVec Ideal S2x2048x1024 .f32)
    (x12 : FVec Ideal S2x2048x640 .f32) (b : Fin 2) (t : Fin 2048) (l : Fin 3712) :
    concatenate S2x2048x3712 2 [⟨S2x2048x1536, x8⟩, ⟨S2x2048x512, x11⟩, ⟨S2x2048x1024, x7⟩, ⟨S2x2048x640, x12⟩]
        concatenates_S2x2048x1536_S2x2048x512_S2x2048x1024_S2x2048x640_S2x2048x3712_d2 (ix3 b t l)
      = if h1 : l.val < 1536 then x8 (ix3 b t ⟨l.val, h1⟩)
        else if h2 : l.val - 1536 < 512 then x11 (ix3 b t ⟨l.val - 1536, h2⟩)
        else if h3 : l.val - 1536 - 512 < 1024 then x7 (ix3 b t ⟨l.val - 1536 - 512, h3⟩)
        else x12 (ix3 b t ⟨l.val - 1536 - 512 - 1024, by omega⟩) := by
  pointwise

theorem cat_d (x14 : FVec Ideal S2x2048x768 .f32) (x17 : FVec Ideal S2x2048x512 .f32) (x18 : FVec Ideal S2x2048x256 .f32)
    (b : Fin 2) (t : Fin 2048) (l : Fin 1536) :
    concatenate S2x2048x1536 2 [⟨S2x2048x768, x14⟩, ⟨S2x2048x512, x17⟩, ⟨S2x2048x256, x18⟩]
        concatenates_S2x2048x768_S2x2048x512_S2x2048x256_S2x2048x1536_d2 (ix3 b t l)
      = if h1 : l.val < 768 then x14 (ix3 b t ⟨l.val, h1⟩)
        else if h2 : l.val - 768 < 512 then x17 (ix3 b t ⟨l.val - 768, h2⟩)
        else x18 (ix3 b t ⟨l.val - 768 - 512, by omega⟩) := by
  pointwise

theorem v13_eq :
    (StableHlo.after hostOps0_6 V (Proc.devRef .tc main_v13) : FVec Ideal S2x2048x3712 .f32)
      = concatenate S2x2048x3712 2 [⟨S2x2048x1536, (V (Proc.devRef .tc main_v8) : FVec Ideal S2x2048x1536 .f32)⟩,
          ⟨S2x2048x512, shapeCast S2x2048x512 (V (Proc.devRef .tc main_v10) : FVec Ideal S2x2048x4x128 .f32) shapeCasts_S2x2048x4x128_S2x2048x512⟩,
          ⟨S2x2048x1024, (V (Proc.devRef .tc main_v7) : FVec Ideal S2x2048x1024 .f32)⟩,
          ⟨S2x2048x640, broadcastInDim S2x2048x640 ![] bcast_S_S2x2048x640 (constant (F := Ideal) S_ .f32 0x00000000#32)⟩]
          concatenates_S2x2048x1536_S2x2048x512_S2x2048x1024_S2x2048x640_S2x2048x3712_d2 := by
  rw [StableHlo.after_cons, StableHlo.after_cons, StableHlo.after_cons, StableHlo.after_cons, StableHlo.after_cons,
    StableHlo.after_cons, StableHlo.after_cons, StableHlo.after_cons, StableHlo.after_nil]
  rw [StableHlo.nullary_result_ne _ _ _ _ (by decide), StableHlo.reshape_result_ne _ _ _ _ _ _ _ (by decide),
    StableHlo.unary_result_ne _ _ _ _ _ _ (by decide), StableHlo.nullary_result_ne _ _ _ _ (by decide), StableHlo.nary_result]
  congr 1

theorem zeros14 : (StableHlo.after hostOps0_6 V (Proc.devRef .tc main_v14) : FVec Ideal S2x2048x768 .f32) = fun _ => (0 : EReal) := by
  entry_read
  funext i
  pointwise

theorem v19_eq :
    (StableHlo.after hostOps0_8 V (Proc.devRef .tc main_v19) : FVec Ideal S2x2048x1536 .f32)
      = concatenate S2x2048x1536 2 [⟨S2x2048x768, (V (Proc.devRef .tc main_v14) : FVec Ideal S2x2048x768 .f32)⟩,
          ⟨S2x2048x512, shapeCast S2x2048x512 (V (Proc.devRef .tc main_v16) : FVec Ideal S2x2048x4x128 .f32) shapeCasts_S2x2048x4x128_S2x2048x512⟩,
          ⟨S2x2048x256, broadcastInDim S2x2048x256 ![] bcast_S_S2x2048x256 (constant (F := Ideal) S_ .f32 0x00000000#32)⟩]
          concatenates_S2x2048x768_S2x2048x512_S2x2048x256_S2x2048x1536_d2 := by
  rw [StableHlo.after_cons, StableHlo.after_cons, StableHlo.after_cons, StableHlo.after_cons, StableHlo.after_cons, StableHlo.after_nil]
  rw [StableHlo.nullary_result_ne _ _ _ _ (by decide), StableHlo.nary_result]
  congr 1

theorem v22_at (b : Fin 2) (l : Fin 8) (t : Fin 2048) :
    (StableHlo.after hostOps0_10 V (Proc.devRef .tc main_v22) : FVec Ideal S2x8x2048 .f32) (ix3 b l t)
      = (V (Proc.devRef .tc main_v20) : FVec Ideal S2x2048x128 .f32) (ix3 b t ⟨l.val, by omega⟩) := by
  entry_read
  pointwise

end

end Cert.Proof.Fox
-- ==== Proof.FoxIn.lean ====
/- The head each of the three calls works on, from the arguments: its packed operands are reals, 64 lanes of each row and zeros. -/
module

public import proofs.«01_k».proof.Proof.FoxEntry

@[expose] public section

set_option maxRecDepth 16384

noncomputable section

open Idealize.ShloMosaic Idealize.ShloMosaic.TcCoe Idealize.SL.Sem
open Cert.Kernel4Ideal Cert.Kernel4Ideal.Gen

namespace Cert.Proof.Fox

variable (m : (ℓ : Loc nD τ sig) → Buf (Elt Ideal) ℓ) (ρ : Dev nD → PrngReg) (c : Dev nD)

theorem W7_v8 : (W7 m ρ c (Proc.devRef .tc main_v8) : FVec Ideal S2x2048x1536 .f32) = fun _ => (0 : EReal) :=
  (W7_of m ρ c main_v8 (by decide)).trans ((W6_of m ρ c main_v8 (by decide)).trans (zeros8 (W4 m ρ c)))

theorem W6_v8 : (W6 m ρ c (Proc.devRef .tc main_v8) : FVec Ideal S2x2048x1536 .f32) = fun _ => (0 : EReal) :=
  (W6_of m ρ c main_v8 (by decide)).trans (zeros8 (W4 m ρ c))

theorem W4_v1 (b : Fin 2) (t : Fin 2048) (h : Fin 4) (l : Fin 128) :
    (W4 m ρ c (Proc.devRef .tc main_v1) : FVec Ideal S2x2048x4x128 .f32) (ix4 b t h l) = lanes (aK m c) b t h l :=
  (congrFun ((W4_of m ρ c main_v1 (by decide)).trans (W3_of m ρ c main_v1 (by decide))) _).trans (in_kpad m ρ c b t h l)

/-- The packed projections by column. -/
theorem W11_v13 : (W11 m ρ c (Proc.devRef .tc main_v13) : FVec Ideal S2x2048x3712 .f32) = W7 m ρ c (Proc.devRef .tc main_v13) :=
  (W11_of m ρ c main_v13 (by decide)).trans ((W10_of m ρ c main_v13 (by decide)).trans
    ((W9_of m ρ c main_v13 (by decide)).trans (W8_of m ρ c main_v13 (by decide))))

theorem p_q (b : Fin 2) (t : Fin 2048) (h : Fin 4) (l : Fin 128) (j : Fin 3712) (hj : j.val = 128 * (12 + h.val) + l.val) :
    (W11 m ρ c (Proc.devRef .tc main_v13) : FVec Ideal S2x2048x3712 .f32) (ix3 b t j) = lanes (aQ m c) b t h l := by
  rw [W11_v13, show W7 m ρ c (Proc.devRef .tc main_v13) = _ from v13_eq (W6 m ρ c), cat_p, dif_neg (by omega), dif_pos (by omega),
    show (⟨j.val - 1536, by omega⟩ : Fin 512) = ⟨128 * h + l, by omega⟩ from Fin.ext (by show j.val - 1536 = 128 * h.val + l.val; omega), merge_at, in_qpad]

theorem p_kv (b : Fin 2) (t : Fin 2048) (h : Fin 4) (e : Fin 2) (l : Fin 128) (j : Fin 3712) (hj : j.val = 128 * (16 + 2 * h.val + e.val) + l.val) :
    (W11 m ρ c (Proc.devRef .tc main_v13) : FVec Ideal S2x2048x3712 .f32) (ix3 b t j)
      = if e.val < 1 then lanes (aK m c) b t h l else lanes (aV m c) b t h l := by
  rw [W11_v13, show W7 m ρ c (Proc.devRef .tc main_v13) = _ from v13_eq (W6 m ρ c), cat_p, dif_neg (by omega), dif_neg (by omega),
    dif_pos (by omega), show (⟨j.val - 1536 - 512, by omega⟩ : Fin 1024) = ⟨256 * h + 128 * e + l, by omega⟩ from
      Fin.ext (by show j.val - 1536 - 512 = 256 * h.val + 128 * e.val + l.val; omega)]
  refine (congrFun (W6_of m ρ c main_v7 (by decide)) _).trans ((kv_at (W4 m ρ c) b t h e l).trans ?_)
  rw [W4_v1, in_vpad]

theorem p_0 (b : Fin 2) (t : Fin 2048) (j : Fin 3712) (hj : j.val < 1536 ∨ 3072 ≤ j.val) :
    (W11 m ρ c (Proc.devRef .tc main_v13) : FVec Ideal S2x2048x3712 .f32) (ix3 b t j) = (0 : EReal) := by
  rw [W11_v13, show W7 m ρ c (Proc.devRef .tc main_v13) = _ from v13_eq (W6 m ρ c), cat_p]
  by_cases h1 : j.val < 1536
  · rw [dif_pos h1, W6_v8]
  · rw [dif_neg h1, dif_neg (by omega), dif_neg (by omega)]
    pointwise

theorem W11_v19 : (W11 m ρ c (Proc.devRef .tc main_v19) : FVec Ideal S2x2048x1536 .f32) = W9 m ρ c (Proc.devRef .tc main_v19) :=
  (W11_of m ρ c main_v19 (by decide)).trans (W10_of m ρ c main_v19 (by decide))

theorem W8_v14 : (W8 m ρ c (Proc.devRef .tc main_v14) : FVec Ideal S2x2048x768 .f32) = fun _ => (0 : EReal) :=
  (W8_of m ρ c main_v14 (by decide)).trans (zeros14 (W6 m ρ c))

theorem d_d (b : Fin 2) (t : Fin 2048) (h : Fin 4) (l : Fin 128) (j : Fin 1536) (hj : j.val = 128 * (6 + h.val) + l.val) :
    (W11 m ρ c (Proc.devRef .tc main_v19) : FVec Ideal S2x2048x1536 .f32) (ix3 b t j) = lanes (aD m c) b t h l := by
  rw [W11_v19, show W9 m ρ c (Proc.devRef .tc main_v19) = _ from v19_eq (W8 m ρ c), cat_d, dif_neg (by omega), dif_pos (by omega),
    show (⟨j.val - 768, by omega⟩ : Fin 512) = ⟨128 * h + l, by omega⟩ from Fin.ext (by show j.val - 768 = 128 * h.val + l.val; omega), merge_at, in_dpad]

theorem d_0 (b : Fin 2) (t : Fin 2048) (j : Fin 1536) (hj : j.val < 768 ∨ 1280 ≤ j.val) :
    (W11 m ρ c (Proc.devRef .tc main_v19) : FVec Ideal S2x2048x1536 .f32) (ix3 b t j) = (0 : EReal) := by
  rw [W11_v19, show W9 m ρ c (Proc.devRef .tc main_v19) = _ from v19_eq (W8 m ρ c), cat_d]
  by_cases h1 : j.val < 768
  · rw [dif_pos h1, W8_v14]
  · rw [dif_neg h1, dif_neg (by omega)]
    pointwise

theorem g_at (b : Fin 2) (l : Fin 8) (t : Fin 2048) :
    (W11 m ρ c (Proc.devRef .tc main_v22) : FVec Ideal S2x8x2048 .f32) (ix3 b l t) = gate (aF m c) b t ⟨l.val, by omega⟩ :=
  (v22_at (W10 m ρ c) b l t).trans ((congrFun (W11_of m ρ c main_v20 (by decide)) _).symm.trans (in_gate m ρ c b t _))

/-- Head `h` of sequence `b`, from the arguments. -/
def H (b : Fin 2) (h : Fin 4) : Head where
  q t l := (lanes (aQ m c) b t h l).toReal
  k t l := (lanes (aK m c) b t h l).toReal
  v t l := (lanes (aV m c) b t h l).toReal
  d t l := (lanes (aD m c) b t h l).toReal
  f t := (aF m c (ix3 b t h) : EReal).toReal
  g t := (aF m c (ix3 b t h) : EReal).toReal

theorem gate_at (a : FVec Ideal S2x2048x4 .f32) (b : Fin 2) (t : Fin 2048) (h : Fin 4) (l : Fin 128) (hl : l.val = h.val) :
    gate a b t l = a (ix3 b t h) := by
  unfold gate
  rw [dif_pos (by omega)]
  congr 2
  exact Fin.ext hl

theorem hdV_eq : hdV (V11 m ρ) c = H m c := by
  funext b h
  unfold hdV hd H
  congr 1
  · funext t l; exact congrArg EReal.toReal (p_q m ρ c b t h l _ rfl)
  · funext t l; exact congrArg EReal.toReal (p_kv m ρ c b t h 0 l _ rfl)
  · funext t l; exact congrArg EReal.toReal (p_kv m ρ c b t h 1 l _ (by show 128 * (17 + 2 * h.val) + l.val = 128 * (16 + 2 * h.val + 1) + l.val; omega))
  · funext t l; exact congrArg EReal.toReal (d_d m ρ c b t h l _ rfl)
  · funext t; exact congrArg EReal.toReal ((in_gate m ρ c b t _).trans (gate_at _ b t h _ rfl))
  · funext t; exact congrArg EReal.toReal ((g_at m ρ c b _ t).trans (gate_at _ b t h _ rfl))

/-- A real entry. -/
def IsReal (x : EReal) : Prop := x = ((x.toReal : ℝ) : EReal)

theorem isReal_zero : IsReal 0 := by simp [IsReal]

theorem lanes_real {a : FVec Ideal S2x2048x256 .f32} (ha : Reals a) (b t h l) : IsReal (lanes a b t h l) := by
  unfold lanes
  split
  · exact ha _
  · exact isReal_zero

theorem gate_real {a : FVec Ideal S2x2048x4 .f32} (ha : Reals a) (b t l) : IsReal (gate a b t l) := by
  unfold gate
  split
  · exact ha _
  · exact isReal_zero

variable (hq : Reals (aQ m c)) (hk : Reals (aK m c)) (hv : Reals (aV m c)) (hf : Reals (aF m c)) (hd : Reals (aD m c))

include hq hk hv in
theorem real_p : Reals (S := S2x2048x3712) (φ := .f32) (V11 m ρ c main_v13) := by
  intro i
  obtain ⟨b, t, j, rfl⟩ : ∃ b t j, i = ix3 b t j := ⟨i 0, i 1, i 2, eq_ix3 i⟩
  show IsReal ((W11 m ρ c (Proc.devRef .tc main_v13) : FVec Ideal S2x2048x3712 .f32) (ix3 b t j))
  by_cases h0 : j.val < 1536 ∨ 3072 ≤ j.val
  · rw [p_0 m ρ c b t j h0]; exact isReal_zero
  by_cases h1 : j.val < 2048
  · rw [p_q m ρ c b t ⟨(j.val - 1536) / 128, by omega⟩ ⟨j.val % 128, by omega⟩ j (by simp; omega)]
    exact lanes_real hq _ _ _ _
  · rw [p_kv m ρ c b t ⟨(j.val - 2048) / 256, by omega⟩ ⟨j.val / 128 % 2, by omega⟩ ⟨j.val % 128, by omega⟩ j (by simp; omega)]
    split
    · exact lanes_real hk _ _ _ _
    · exact lanes_real hv _ _ _ _

include hd in
theorem real_d : Reals (S := S2x2048x1536) (φ := .f32) (V11 m ρ c main_v19) := by
  intro i
  obtain ⟨b, t, j, rfl⟩ : ∃ b t j, i = ix3 b t j := ⟨i 0, i 1, i 2, eq_ix3 i⟩
  show IsReal ((W11 m ρ c (Proc.devRef .tc main_v19) : FVec Ideal S2x2048x1536 .f32) (ix3 b t j))
  by_cases h0 : j.val < 768 ∨ 1280 ≤ j.val
  · rw [d_0 m ρ c b t j h0]; exact isReal_zero
  · rw [d_d m ρ c b t ⟨(j.val - 768) / 128, by omega⟩ ⟨j.val % 128, by omega⟩ j (by simp; omega)]
    exact lanes_real hd _ _ _ _

include hf in
theorem real_f : Reals (S := S2x2048x128) (φ := .f32) (V11 m ρ c main_v20) := by
  intro i
  obtain ⟨b, t, j, rfl⟩ : ∃ b t j, i = ix3 b t j := ⟨i 0, i 1, i 2, eq_ix3 i⟩
  show IsReal ((W11 m ρ c (Proc.devRef .tc main_v20) : FVec Ideal S2x2048x128 .f32) (ix3 b t j))
  rw [in_gate]
  exact gate_real hf _ _ _

include hf in
theorem real_g : Reals (S := S2x8x2048) (φ := .f32) (V11 m ρ c main_v22) := by
  intro i
  obtain ⟨b, t, j, rfl⟩ : ∃ b t j, i = ix3 b t j := ⟨i 0, i 1, i 2, eq_ix3 i⟩
  show IsReal ((W11 m ρ c (Proc.devRef .tc main_v22) : FVec Ideal S2x8x2048 .f32) (ix3 b t j))
  rw [g_at]
  exact gate_real hf _ _ _

end Cert.Proof.Fox
-- ==== Proof.FoxBwdQPay.lean ====
/- What the query side of the backward of the attention computes on one tile of queries, as values of its head. -/
module

public import proofs.«01_k».proof.Proof.FoxFwdPay

@[expose] public section

set_option maxRecDepth 16384

noncomputable section

open Idealize.ShloMosaic Idealize.SL.Sem
open Cert.Kernel4Ideal Cert.Kernel4Ideal.Gen

namespace Cert.Proof.Fox

/-- A block of saved outputs: tile `a` of the head's. -/
def IsOut (x : Vec Ideal S1x1024x128 .bf16) (w : Fin 2048 → Fin 128 → ℝ) (a : Fin 2) : Prop :=
  ∀ r l, x (ix3 0 r l) = ((w (row a r) l : ℝ) : EReal)

/-- A column of saved logarithms of normalisers. -/
def IsCol (x : Vec Ideal S1x1x1024x1 .f32) (w : Fin 2048 → ℝ) (a : Fin 2) : Prop :=
  ∀ r, x (ix4 0 0 r 0) = ((w (row a r) : ℝ) : EReal)

section
variable (H : Head) (i : grid1.Coords) (a : Fin 2)
  {v0 v8 v14 : Vec Ideal S1x1024x128 .f32} {v17 : Vec Ideal S1x1024x128 .bf16} {v23 : Vec Ideal S1x1x1024x1 .f32}

theorem hd_lt1 : (i 1).val < 4 := (i 1).isLt

theorem delta1 (hd : IsTile v14 H.d a) (ho : IsOut v17 H.O a) (r : Fin 1024) (z : Fin 1) : k1_pay8 v14 v17 (ix2 r z) = ((H.Δ (row a r) : ℝ) : EReal) := by
  pointwise [k1_pay8, k1_pay6]
  simp only [hd _ _, ho _ _, ← EReal.coe_mul, coe_sum]
  rfl

/-- The cotangent of a logit, from the saved values. -/
theorem ds_eq (t s : Fin 2048) :
    Ideal.exp (H.lg t s - ((H.L t : ℝ) : EReal)) * (∑ l, ((H.d t l : ℝ) : EReal) * ((H.v s l : ℝ) : EReal) - ((H.Δ t : ℝ) : EReal))
      = ((H.DS t s : ℝ) : EReal) := by
  rw [H.exp_lg]
  simp only [← EReal.coe_mul, coe_sum, ← EReal.coe_sub]
  rfl

variable {vk vv vk' : Vec Ideal S1x1024x128 .f32} {vr : Vec Ideal S1x8x1024 .f32}

/-- A tile of cotangents of logits before the diagonal. -/
theorem ds12 (hq : IsTile v0 H.q 1) (hf : IsGate v8 (i 1).val H.f 1) (hd : IsTile v14 H.d 1) (ho : IsOut v17 H.O 1) (hl : IsCol v23 H.L 1)
    (hk : IsTile vk H.k 0) (hg : IsRow vr (i 1).val H.g 0) (hv : IsTile vv H.v 0) (r s : Fin 1024) :
    k1_pay12 (BitVec.ofNat 32 (i 1)) (k1_pay4 v0) (k1_pay5 i v8) (k1_pay7 v14) (k1_pay8 v14 v17) (k1_pay9 v23) vk vr vv (ix2 r s)
      = ((H.DS (row 1 r) (row 0 s) : ℝ) : EReal) := by
  have h4 := hd_lt1 i
  have h8 := delta1 H 1 hd ho
  pointwise [k1_pay12, k1_pay4, k1_pay5, k1_pay7, k1_pay9, k1_pay6]
  rw [pick (by norm_num) _ (by omega) (fun x : Fin 128 => v8 (ix3 0 r x)), pick (by norm_num) _ (by omega) (fun x : Fin 8 => vr (ix3 0 x s)),
    hf, hg, w_eighth, h8, hl r, ← ds_eq, H.lg_10, ← S_eq]
  simp only [hq _ _, hk _ _, hd _ _, hv _ _]

/-- The tile on the diagonal. -/
theorem ds18 (hq : IsTile v0 H.q a) (hf : IsGate v8 (i 1).val H.f a) (hd : IsTile v14 H.d a) (ho : IsOut v17 H.O a) (hl : IsCol v23 H.L a)
    (hk : IsTile vk H.k a) (hg : IsRow vr (i 1).val H.g a) (hv : IsTile vv H.v a) (r s : Fin 1024) :
    k1_pay18 (BitVec.ofNat 32 (i 1)) (k1_pay4 v0) (k1_pay5 i v8) (k1_pay7 v14) (k1_pay8 v14 v17) (k1_pay9 v23) vk vr vv (ix2 r s)
      = ((H.DS (row a r) (row a s) : ℝ) : EReal) := by
  have h4 := hd_lt1 i
  have h8 := delta1 H a hd ho
  pointwise [k1_pay18, k1_pay4, k1_pay5, k1_pay7, k1_pay9, k1_pay6]
  rw [pick (by norm_num) _ (by omega) (fun x : Fin 128 => v8 (ix3 0 r x)), pick (by norm_num) _ (by omega) (fun x : Fin 8 => vr (ix3 0 x s)),
    hf, hg, w_eighth, w_mask, sel_le, h8, hl r, ← ds_eq, H.lg_diag, ← S_eq]
  simp only [hq _ _, hk _ _, hd _ _, hv _ _]

/-- The running gradients of a tile of queries. -/
def IsAcc1 (x : FVec Ideal S1024x128 .f32) (y : FVec Ideal S1024x1 .f32) (A : Fin 1024 → Fin 128 → ℝ) (B : Fin 1024 → ℝ) : Prop :=
  (∀ r l, x (ix2 r l) = ((A r l : ℝ) : EReal)) ∧ ∀ r, y (ix2 r 0) = ((B r : ℝ) : EReal)

theorem acc0 : IsAcc1 k1_pay10 k1_pay11 (fun _ _ => 0) (fun _ => 0) :=
  ⟨fun r l => by pointwise [k1_pay10]; exact EReal.coe_zero.symm, fun r => by pointwise [k1_pay11]; exact EReal.coe_zero.symm⟩

variable {x : FVec Ideal S1024x128 .f32} {y : FVec Ideal S1024x1 .f32} {A : Fin 1024 → Fin 128 → ℝ} {B : Fin 1024 → ℝ}

theorem trip1 (h : IsAcc1 x y A B) (hq : IsTile v0 H.q 1) (hf : IsGate v8 (i 1).val H.f 1) (hd : IsTile v14 H.d 1) (ho : IsOut v17 H.O 1)
    (hl : IsCol v23 H.L 1) (hk : IsTile vk H.k 0) (hg : IsRow vr (i 1).val H.g 0) (hv : IsTile vv H.v 0) (hk' : IsTile vk' H.k 0) :
    IsAcc1 (k1_pay13 (BitVec.ofNat 32 (i 1)) (k1_pay4 v0) (k1_pay5 i v8) (k1_pay7 v14) (k1_pay8 v14 v17) (k1_pay9 v23) x vk vr vv vk')
      (k1_pay14 (BitVec.ofNat 32 (i 1)) (k1_pay4 v0) (k1_pay5 i v8) (k1_pay7 v14) (k1_pay8 v14 v17) (k1_pay9 v23) y vk vr vv)
      (fun r l => A r l + ∑ s, H.DS (row 1 r) (row 0 s) * H.k (row 0 s) l) (fun r => B r + ∑ s, H.DS (row 1 r) (row 0 s)) := by
  have hs := ds12 H i hq hf hd ho hl hk hg hv
  refine ⟨fun r l => ?_, fun r => ?_⟩
  · pointwise [k1_pay13]
    simp only [hs, h.1 r l, hk' _ _, ← EReal.coe_mul, coe_sum, ← EReal.coe_add]
  · pointwise [k1_pay14]
    simp only [hs, h.2 r, coe_sum, ← EReal.coe_add]

theorem fin1 (h : IsAcc1 x y A B) (hq : IsTile v0 H.q a) (hf : IsGate v8 (i 1).val H.f a) (hd : IsTile v14 H.d a) (ho : IsOut v17 H.O a)
    (hl : IsCol v23 H.L a) (hk : IsTile vk H.k a) (hg : IsRow vr (i 1).val H.g a) (hv : IsTile vv H.v a) (hk' : IsTile vk' H.k a)
    (hA : ∀ r l, A r l + ∑ s, H.DS (row a r) (row a s) * H.k (row a s) l = ∑ s, H.DS (row a r) s * H.k s l) (r : Fin 1024) (l : Fin 128) :
    k1_pay1 x (k1_pay19 (BitVec.ofNat 32 (i 1)) (k1_pay4 v0) (k1_pay5 i v8) (k1_pay7 v14) (k1_pay8 v14 v17) (k1_pay9 v23) vk vr vv)
        (k1_pay20 vk') (constant S1024x128 .f32 0x00000000#32) (ix3 0 r l) = ((H.DQ (row a r) l : ℝ) : EReal) := by
  have hs := ds18 H i a hq hf hd ho hl hk hg hv
  pointwise [k1_pay1, k1_pay19, k1_pay20]
  simp only [hs, h.1 r l, hk' _ _, w_eighth, ← EReal.coe_mul, coe_sum, ← EReal.coe_add, hA]
  rfl

theorem finf1 (h : IsAcc1 x y A B) (hq : IsTile v0 H.q a) (hf : IsGate v8 (i 1).val H.f a) (hd : IsTile v14 H.d a) (ho : IsOut v17 H.O a)
    (hl : IsCol v23 H.L a) (hk : IsTile vk H.k a) (hg : IsRow vr (i 1).val H.g a) (hv : IsTile vv H.v a)
    (hB : ∀ r, B r + ∑ s, H.DS (row a r) (row a s) = H.DFQ (row a r)) (r : Fin 1024) (l : Fin 128) :
    k1_pay3 y (k1_pay18 (BitVec.ofNat 32 (i 1)) (k1_pay4 v0) (k1_pay5 i v8) (k1_pay7 v14) (k1_pay8 v14 v17) (k1_pay9 v23) vk vr vv)
        (ix4 0 0 r l) = ((H.DFQ (row a r) : ℝ) : EReal) := by
  have hs := ds18 H i a hq hf hd ho hl hk hg hv
  pointwise [k1_pay3]
  simp only [hs, h.2 r, coe_sum, ← EReal.coe_add, hB]

theorem find1 (hd : IsTile v14 H.d a) (ho : IsOut v17 H.O a) (r : Fin 1024) (l : Fin 128) :
    k1_pay2 (k1_pay8 v14 v17) (ix4 0 0 r l) = ((H.Δ (row a r) : ℝ) : EReal) := by
  have h8 := delta1 H a hd ho
  pointwise [k1_pay2]
  exact h8 _ _

end

end Cert.Proof.Fox
-- ==== Proof.FoxBwdQ.lean ====
/- What the query side of the backward of the attention leaves in its three result arrays. -/
module

public import proofs.«01_k».proof.Proof.FoxFwd
public import proofs.«01_k».proof.Proof.FoxBwdQPay

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Proof.Fox

variable (V : (c : Dev nD) → (b : Ref sig .tc) → Buf (Elt Ideal) ((c : Thread nD τ).loc b)) (c : Dev nD)

theorem idx1 : ∀ t : Fin cfg1.N, win1_0.index t = ![t.val / 8, t.val % 2, 12 + t.val / 2 % 4]
    ∧ win1_1.index t = ![t.val / 8, 0, 16 + 2 * (t.val / 2 % 4)] ∧ win1_2.index t = ![t.val / 8, 0, 17 + 2 * (t.val / 2 % 4)]
    ∧ win1_3.index t = ![t.val / 8, t.val % 2, 6 + t.val / 2 % 4] ∧ win1_4.index t = ![t.val / 8, t.val % 2, 6 + t.val / 2 % 4]
    ∧ win1_5.index t = ![t.val / 8, t.val / 2 % 4, t.val % 2, 0] ∧ win1_6.index t = ![t.val / 8, t.val % 2, 0] ∧ win1_7.index t = ![t.val / 8, 0, 0]
    ∧ win1_8.index t = ![t.val / 8, t.val % 2, 12 + t.val / 2 % 4] ∧ win1_9.index t = ![t.val / 8, t.val / 2 % 4, t.val % 2, 0]
    ∧ win1_10.index t = ![t.val / 8, t.val / 2 % 4, t.val % 2, 0]
    ∧ (grid1.coords t 1).val = t.val / 2 % 4 ∧ t.val < 16 :=
  (by decide +kernel : ∀ t : Fin grid1.N, _)

theorem off1 : ∀ t : Fin cfg1.N, k1_off5 (grid1.coords t) = ![0, t.val % 2 * 1024, 0] ∧ k1_off6 (grid1.coords t) = ![0, 0, t.val % 2 * 1024]
    ∧ (k1_t1_loop (grid1.coords t)).trips = t.val % 2 ∧ (k1_t2_loop (grid1.coords t)).trips = 0 :=
  (by decide +kernel : ∀ t : Fin grid1.N, _)

theorem offT1 : ∀ (t : Fin cfg1.N) (k : Fin (k1_t1_loop (grid1.coords t)).trips), k1_off1 (grid1.coords t) k = ![0, 0, 0]
    ∧ k1_off2 (grid1.coords t) k = ![0, 0, 0] :=
  (by decide +kernel : ∀ (t : Fin grid1.N) (k : Fin (k1_t1_loop (grid1.coords t)).trips), _)

/-- The trips of the two loops at a tile of queries. -/
theorem trips1 (t : Fin cfg1.N) :
    Scf.trips (0#32) (Scalar.addi (0#32) (Scalar.muli (Scalar.divsi (Scalar.subi (BitVec.ofNat 32 ↑(grid1.coords t 2)) 0#32) 1#32) 1#32)) 1#32
        = t.val % 2
      ∧ Scf.trips (Scalar.addi (0#32) (Scalar.muli (Scalar.divsi (Scalar.subi (BitVec.ofNat 32 ↑(grid1.coords t 2)) 0#32) 1#32) 1#32))
          (Scalar.addi (0#32) (Scalar.subi (BitVec.ofNat 32 ↑(grid1.coords t 2)) 0#32)) 1#32 = 0 :=
  (off1 t).2.2

/-- The queries' gradients, each head's in its own 128 columns. -/
def dqAt (H : Fin 2 → Fin 4 → Head) : FVec Ideal S2x2048x3712 .bf16 := fun i =>
  (((H (i 0) ⟨((i 2).val / 128 - 12) % 4, Nat.mod_lt _ (by norm_num)⟩).DQ (i 1) ⟨(i 2).val % 128, Nat.mod_lt _ (by norm_num)⟩ : ℝ) : EReal)

/-- The products of outputs with their cotangents, copied along the lanes. -/
def deltaAt (H : Fin 2 → Fin 4 → Head) : FVec Ideal S2x4x2048x128 .f32 := fun i => (((H (i 0) (i 1)).Δ (i 2) : ℝ) : EReal)

/-- The gradients of the query side of the gates, copied along the lanes. -/
def dfqAt (H : Fin 2 → Fin 4 → Head) : FVec Ideal S2x4x2048x128 .f32 := fun i => (((H (i 0) (i 1)).DFQ (i 2) : ℝ) : EReal)

theorem dqAt_at (H : Fin 2 → Fin 4 → Head) (b : Fin 2) (h : Fin 4) (t : Fin 2048) (l : Fin 128) :
    dqAt H (ix3 b t ⟨128 * (12 + h.val) + l.val, by omega⟩) = (((H b h).DQ t l : ℝ) : EReal) := by
  have h1 : ((128 * (12 + h.val) + l.val) / 128 - 12) % 4 = h.val := by omega
  have h2 : (128 * (12 + h.val) + l.val) % 128 = l.val := by omega
  simp only [dqAt, ix3_0, ix3_1, ix3_2, h1, h2]

theorem ld_col {x : Vec Ideal S1x1x1024x128 .f32} {w : Fin 2048 → ℝ} {a : Fin 2} (hx : ∀ r l, x (ix4 0 0 r l) = ((w (row a r) : ℝ) : EReal)) (inb) :
    IsCol (View.ld x (Rect.unit (s := S1x1x1024x128) ![0, 0, 0, 0] ![1, 1, 1024, 1] inb)) w a := by
  intro r
  rw [← hx r 0]
  show x _ = x _
  congr 1
  funext a
  apply Fin.ext
  fin_cases a <;> simp [Rect.unit, Rect.emb, ix4]

theorem DQ0 (H : Head) (r : Fin 1024) (l : Fin 128) : ∑ s, H.DS (row 0 r) s * H.k s l = ∑ s, H.DS (row 0 r) (row 0 s) * H.k (row 0 s) l := by
  rw [sum_rows]; simp [H.DS_01]

theorem DQ1 (H : Head) (r : Fin 1024) (l : Fin 128) : ∑ s, H.DS (row 1 r) s * H.k s l
    = ∑ s, H.DS (row 1 r) (row 0 s) * H.k (row 0 s) l + ∑ s, H.DS (row 1 r) (row 1 s) * H.k (row 1 s) l := by
  rw [sum_rows]

theorem DFQ0 (H : Head) (r : Fin 1024) : H.DFQ (row 0 r) = ∑ s, H.DS (row 0 r) (row 0 s) := by
  rw [Head.DFQ, sum_rows]; simp [H.DS_01]

theorem DFQ1 (H : Head) (r : Fin 1024) : H.DFQ (row 1 r) = ∑ s, H.DS (row 1 r) (row 0 s) + ∑ s, H.DS (row 1 r) (row 1 s) := by
  rw [Head.DFQ, sum_rows]

/-- The column of a head's lane in the forward call's output. -/
def oCol (h : Fin 4) (l : Fin 128) : Fin 1536 := ⟨128 * (6 + h.val) + l.val, by omega⟩

section
variable (hp : Reals (S := S2x2048x3712) (φ := .f32) (V c main_v13)) (hd : Reals (S := S2x2048x1536) (φ := .f32) (V c main_v19))
  (hf : Reals (S := S2x2048x128) (φ := .f32) (V c main_v20)) (hg : Reals (S := S2x8x2048) (φ := .f32) (V c main_v22))
  (ho : ∀ (b : Fin 2) (h : Fin 4) (t : Fin 2048) (l : Fin 128), (V c main_v24_0 : FVec Ideal S2x2048x1536 .bf16) (ix3 b t (oCol h l))
    = (((hdV V c b h).O t l : ℝ) : EReal))
  (hl : (V c main_v24_1 : FVec Ideal S2x4x2048x128 .f32) = lseAt (hdV V c))
include hp hd hf hg ho hl

theorem blk1 (t : Fin cfg1.N) (b : Fin 2) (h : Fin 4) (a : Fin 2) (hb : t.val / 8 = b) (hh : t.val / 2 % 4 = h) (ha : t.val % 2 = a) :
    IsTile (iblk1 V c 0 t) (hdV V c b h).q a ∧ IsFull (iblk1 V c 1 t) (hdV V c b h).k ∧ IsFull (iblk1 V c 2 t) (hdV V c b h).v
      ∧ IsOut (iblk1 V c 3 t) (hdV V c b h).O a ∧ IsTile (iblk1 V c 4 t) (hdV V c b h).d a
      ∧ (∀ r l, (iblk1 V c 5 t : Vec Ideal S1x1x1024x128 .f32) (ix4 0 0 r l) = (((hdV V c b h).L (row a r) : ℝ) : EReal))
      ∧ IsGate (iblk1 V c 6 t) (grid1.coords t 1).val (hdV V c b h).f a ∧ IsFullRow (iblk1 V c 7 t) (grid1.coords t 1).val (hdV V c b h).g := by
  obtain ⟨e0, e1, e2, e3, e4, e5, e6, e7, -, -, -, ec, ht⟩ := idx1 t
  rw [ec]
  rw [hb, hh, ha] at e0 e3 e4 e5
  rw [hb, hh] at e1 e2
  rw [hb, ha] at e6
  rw [hb] at e7
  rw [hh]
  refine ⟨fun r l => ?_, fun s l => ?_, fun s l => ?_, fun r l => ?_, fun r l => ?_, fun r l => ?_, fun hh r => ?_, fun hh s => ?_⟩
  · refine Eq.trans ?_ (hp _)
    blk_point [iblk1, e0, row]
  · refine Eq.trans ?_ (hp _)
    blk_point [iblk1, e1, row]
  · refine Eq.trans ?_ (hp _)
    blk_point [iblk1, e2, row]
  · refine Eq.trans ?_ (ho _ _ _ _)
    blk_point [iblk1, e3, row]
    show (6 + h.val) * 128 + l.val = 128 * (6 + h.val) + l.val
    omega
  · refine Eq.trans ?_ (hd _)
    blk_point [iblk1, e4, row]
  · refine Eq.trans ?_ (congrFun hl (ix4 b h (row a r) l))
    blk_point [iblk1, e5, row]
  · refine Eq.trans ?_ (hf _)
    blk_point [iblk1, e6, row]
  · refine Eq.trans ?_ (hg _)
    blk_point [iblk1, e7, row]

theorem dq_val (t : Fin cfg1.N) (b : Fin 2) (h : Fin 4) (a : Fin 2) (hb : t.val / 8 = b) (hh : t.val / 2 % 4 = h) (ha : t.val % 2 = a)
    (r : Fin 1024) (l : Fin 128) : (outsAt1 V c t).1 (ix3 0 r l) = (((hdV V c b h).DQ (row a r) l : ℝ) : EReal) := by
  obtain ⟨bq, bk, bv, bo, bd, bl, bf, bg⟩ := blk1 V c hp hd hf hg ho hl t b h a hb hh ha
  obtain ⟨o5, o6, -, -⟩ := off1 t
  have oT := offT1 t
  rw [ha] at o5 o6
  unfold outsAt1
  frame_out
  rw [(trips1 t).2, (trips1 t).1]
  rw [ha]
  obtain rfl | rfl : a = 0 ∨ a = 1 := by omega
  · unfold st_k1_t2
    dsimp only
    unfold st_k1_t1
    dsimp only
    refine fin1 _ (grid1.coords t) 0 acc0 bq bf bd bo (ld_col bl _) (ld_tile bk 0 _ o5 _) (ld_row bg 0 _ o6 _) (ld_tile bv 0 _ o5 _)
      (ld_tile bk 0 _ o5 _) ?_ r l
    exact fun r x => by rw [zero_add, DQ0]
  · have hpos : 0 < (k1_t1_loop (grid1.coords t)).trips := by rw [(off1 t).2.2.1, ha]; decide
    unfold st_k1_t2
    dsimp only
    unfold st_k1_t1 st_k1_t1Step tripR_k1_t1 trip_k1_t1
    dsimp only
    simp only [dif_pos hpos, View.readAt_eq_ld, Memref.IsWhole.read_unread]
    unfold st_k1_t1
    dsimp only
    refine fin1 _ (grid1.coords t) 1 (trip1 _ (grid1.coords t) acc0 bq bf bd bo (ld_col bl _) (ld_tile bk 0 _ (oT _).1 _) (ld_row bg 0 _ (oT _).2 _)
      (ld_tile bv 0 _ (oT _).1 _) (ld_tile bk 0 _ (oT _).1 _)) bq bf bd bo (ld_col bl _) (ld_tile bk 1 _ o5 _) (ld_row bg 1 _ o6 _)
      (ld_tile bv 1 _ o5 _) (ld_tile bk 1 _ o5 _) ?_ r l
    exact fun r x => by rw [zero_add, DQ1]

theorem dfq_val (t : Fin cfg1.N) (b : Fin 2) (h : Fin 4) (a : Fin 2) (hb : t.val / 8 = b) (hh : t.val / 2 % 4 = h) (ha : t.val % 2 = a)
    (r : Fin 1024) (l : Fin 128) : (outsAt1 V c t).2.2 (ix4 0 0 r l) = (((hdV V c b h).DFQ (row a r) : ℝ) : EReal) := by
  obtain ⟨bq, bk, bv, bo, bd, bl, bf, bg⟩ := blk1 V c hp hd hf hg ho hl t b h a hb hh ha
  obtain ⟨o5, o6, -, -⟩ := off1 t
  have oT := offT1 t
  rw [ha] at o5 o6
  unfold outsAt1
  frame_out
  rw [(trips1 t).2, (trips1 t).1]
  rw [ha]
  obtain rfl | rfl : a = 0 ∨ a = 1 := by omega
  · unfold st_k1_t2
    dsimp only
    unfold st_k1_t1
    dsimp only
    refine finf1 _ (grid1.coords t) 0 acc0 bq bf bd bo (ld_col bl _) (ld_tile bk 0 _ o5 _) (ld_row bg 0 _ o6 _) (ld_tile bv 0 _ o5 _) ?_ r l
    exact fun r => by rw [zero_add, DFQ0]
  · have hpos : 0 < (k1_t1_loop (grid1.coords t)).trips := by rw [(off1 t).2.2.1, ha]; decide
    unfold st_k1_t2
    dsimp only
    unfold st_k1_t1 st_k1_t1Step tripR_k1_t1 trip_k1_t1
    dsimp only
    simp only [dif_pos hpos, View.readAt_eq_ld, Memref.IsWhole.read_unread]
    unfold st_k1_t1
    dsimp only
    refine finf1 _ (grid1.coords t) 1 (trip1 _ (grid1.coords t) acc0 bq bf bd bo (ld_col bl _) (ld_tile bk 0 _ (oT _).1 _) (ld_row bg 0 _ (oT _).2 _)
      (ld_tile bv 0 _ (oT _).1 _) (ld_tile bk 0 ![0, 0, 0] rfl (by decide))) bq bf bd bo (ld_col bl _) (ld_tile bk 1 _ o5 _) (ld_row bg 1 _ o6 _)
      (ld_tile bv 1 _ o5 _) ?_ r l
    exact fun r => by rw [zero_add, DFQ1]

theorem delta_val (t : Fin cfg1.N) (b : Fin 2) (h : Fin 4) (a : Fin 2) (hb : t.val / 8 = b) (hh : t.val / 2 % 4 = h) (ha : t.val % 2 = a)
    (r : Fin 1024) (l : Fin 128) : (outsAt1 V c t).2.1 (ix4 0 0 r l) = (((hdV V c b h).Δ (row a r) : ℝ) : EReal) := by
  obtain ⟨bq, bk, bv, bo, bd, bl, bf, bg⟩ := blk1 V c hp hd hf hg ho hl t b h a hb hh ha
  unfold outsAt1
  frame_out
  exact find1 _ a bd bo r l

theorem dq_arr : (dat1 V c).arrAt 8 cfg1.N
    = (fun i => if 12 ≤ (i 2).val / 128 ∧ (i 2).val / 128 < 16 then dqAt (hdV V c) i else V c main_v26_0 i : FVec Ideal S2x2048x3712 .bf16) := by
  refine (dat1 V c).arrAt_eq_of_coversWhere 8 _ (fun β => 12 ≤ β (2 : Fin _) ∧ β (2 : Fin _) < 16) (by decide +kernel) (fun t hfl y => ?_) (fun j => Iff.rfl)
  obtain ⟨-, -, -, -, -, -, -, -, e8, -, -, -, ht⟩ := idx1 t
  blk_simp
  rw [after1_8]
  obtain ⟨r, l, rfl⟩ : ∃ r l, y = ix3 0 r l := ⟨y 1, y 2, eta3 y⟩
  rw [dq_val V c hp hd hf hg ho hl t ⟨t.val / 8, by omega⟩ ⟨t.val / 2 % 4, by omega⟩ ⟨t.val % 2, by omega⟩ rfl rfl rfl r l]
  have he : (win1_8.blk t).view.emb (ix3 0 r l)
      = (ix3 ⟨t.val / 8, by omega⟩ (row ⟨t.val % 2, by omega⟩ r) ⟨128 * (12 + t.val / 2 % 4) + l.val, by omega⟩ : S2x2048x3712.Idx) := by
    funext a; apply Fin.ext
    fin_cases a <;> (blk_simp [e8, row]; first | rfl | exact congrArg (· + l.val) (Nat.mul_comm _ _))
  rw [he]; exact (dqAt_at (hdV V c) _ ⟨t.val / 2 % 4, by omega⟩ _ _).symm

theorem delta_arr : (dat1 V c).arrAt 9 cfg1.N = deltaAt (hdV V c) := by
  refine (dat1 V c).arrAt_eq_of_covers 9 _ (by decide +kernel) fun t hfl y => ?_
  obtain ⟨-, -, -, -, -, -, -, -, -, e9, -, -, ht⟩ := idx1 t
  blk_simp
  rw [after1_9]
  obtain ⟨r, l, rfl⟩ : ∃ r l, y = ix4 0 0 r l := ⟨y 2, y 3, eta4 y⟩
  rw [delta_val V c hp hd hf hg ho hl t ⟨t.val / 8, by omega⟩ ⟨t.val / 2 % 4, by omega⟩ ⟨t.val % 2, by omega⟩ rfl rfl rfl r l]
  have he : (win1_9.blk t).view.emb (ix4 0 0 r l)
      = (ix4 ⟨t.val / 8, by omega⟩ ⟨t.val / 2 % 4, by omega⟩ (row ⟨t.val % 2, by omega⟩ r) l : S2x4x2048x128.Idx) := by
    funext a; apply Fin.ext
    fin_cases a <;> (blk_simp [e9, row]; rfl)
  rw [he]; rfl

theorem dfq_arr : (dat1 V c).arrAt 10 cfg1.N = dfqAt (hdV V c) := by
  refine (dat1 V c).arrAt_eq_of_covers 10 _ (by decide +kernel) fun t hfl y => ?_
  obtain ⟨-, -, -, -, -, -, -, -, -, -, e10, -, ht⟩ := idx1 t
  blk_simp
  rw [after1_10]
  obtain ⟨r, l, rfl⟩ : ∃ r l, y = ix4 0 0 r l := ⟨y 2, y 3, eta4 y⟩
  rw [dfq_val V c hp hd hf hg ho hl t ⟨t.val / 8, by omega⟩ ⟨t.val / 2 % 4, by omega⟩ ⟨t.val % 2, by omega⟩ rfl rfl rfl r l]
  have he : (win1_10.blk t).view.emb (ix4 0 0 r l)
      = (ix4 ⟨t.val / 8, by omega⟩ ⟨t.val / 2 % 4, by omega⟩ (row ⟨t.val % 2, by omega⟩ r) l : S2x4x2048x128.Idx) := by
    funext a; apply Fin.ext
    fin_cases a <;> (blk_simp [e10, row]; rfl)
  rw [he]; rfl

end

end Cert.Proof.Fox
-- ==== Proof.FoxBwdKVPay.lean ====
/- What the key side of the backward of the attention computes on one tile of keys, as values of its head. -/
module

public import proofs.«01_k».proof.Proof.FoxBwdQPay

@[expose] public section

set_option maxRecDepth 16384

noncomputable section

open Idealize.ShloMosaic Idealize.SL.Sem
open Cert.Kernel4Ideal Cert.Kernel4Ideal.Gen

namespace Cert.Proof.Fox

section
variable (H : Head) (i : grid2.Coords) (a : Fin 2)
  {v0 v3 v22 v31 v53 : Vec Ideal S1x1024x128 .f32} {v9 : Vec Ideal S1x8x1024 .f32} {v47 v58 : Vec Ideal S1x1x1024x1 .f32}

theorem hd_lt2 : (i 1).val < 4 := (i 1).isLt

/-- The weights of the tile on the diagonal. -/
theorem p29 (hk : IsTile v0 H.k a) (hg : IsRow v9 (i 1).val H.g a) (hq : IsTile v22 H.q a) (hf : IsGate v31 (i 1).val H.f a) (hl : IsCol v47 H.L a)
    (r s : Fin 1024) : k2_pay29 (k2_pay22 i v9) (k2_pay27 v0 v22) (k2_pay28 i v31) v47 (ix2 r s) = ((H.P (row a r) (row a s) : ℝ) : EReal) := by
  have h4 := hd_lt2 i
  pointwise [k2_pay29, k2_pay22, k2_pay27, k2_pay28, k2_pay26, k2_pay20]
  rw [pick (by norm_num) _ (by omega) (fun x : Fin 128 => v31 (ix3 0 r x)), pick (by norm_num) _ (by omega) (fun x : Fin 8 => v9 (ix3 0 x s)),
    hf, hg, w_eighth, w_mask, sel_le, hl r, ← H.exp_lg, H.lg_diag, ← S_eq]
  simp only [hq _ _, hk _ _]

/-- The cotangents of its logits. -/
theorem ds31 (hk : IsTile v0 H.k a) (hv : IsTile v3 H.v a) (hg : IsRow v9 (i 1).val H.g a) (hq : IsTile v22 H.q a) (hf : IsGate v31 (i 1).val H.f a)
    (hl : IsCol v47 H.L a) (hd : IsTile v53 H.d a) (hD : IsCol v58 H.Δ a) (r s : Fin 1024) :
    k2_pay31 (k2_pay21 v3) (k2_pay22 i v9) (k2_pay27 v0 v22) (k2_pay28 i v31) v47 v53 v58 (ix2 r s) = ((H.DS (row a r) (row a s) : ℝ) : EReal) := by
  have hP := p29 H i a hk hg hq hf hl r s
  rw [← ds_eq, H.exp_lg, ← hP]
  generalize k2_pay22 i v9 = A at *
  generalize k2_pay27 v0 v22 = B at *
  generalize k2_pay28 i v31 = C at *
  pointwise [k2_pay31, k2_pay21, k2_pay30]
  simp only [hd _ _, hv _ _, hD r]

/-- The running gradients of a tile of keys, of its values and of its gates. -/
def IsAcc2 (x y : FVec Ideal S1024x128 .f32) (z : FVec Ideal S1x1024 .f32) (A B : Fin 1024 → Fin 128 → ℝ) (C : Fin 1024 → ℝ) : Prop :=
  (∀ s l, x (ix2 s l) = ((A s l : ℝ) : EReal)) ∧ (∀ s l, y (ix2 s l) = ((B s l : ℝ) : EReal)) ∧ ∀ s, z (ix2 0 s) = ((C s : ℝ) : EReal)

theorem diag2 (hk : IsTile v0 H.k a) (hv : IsTile v3 H.v a) (hg : IsRow v9 (i 1).val H.g a) (hq : IsTile v22 H.q a) (hf : IsGate v31 (i 1).val H.f a)
    (hl : IsCol v47 H.L a) (hd : IsTile v53 H.d a) (hD : IsCol v58 H.Δ a) :
    IsAcc2 (k2_pay33 (k2_pay21 v3) (k2_pay22 i v9) k2_pay23 (k2_pay26 v22) (k2_pay27 v0 v22) (k2_pay28 i v31) v47 v53 v58)
      (k2_pay32 (k2_pay22 i v9) k2_pay24 (k2_pay27 v0 v22) (k2_pay28 i v31) v47 v53)
      (k2_pay34 (k2_pay21 v3) (k2_pay22 i v9) k2_pay25 (k2_pay27 v0 v22) (k2_pay28 i v31) v47 v53 v58)
      (fun s l => ∑ r, H.DS (row a r) (row a s) * (H.q (row a r) l * (1 / 8))) (fun s l => ∑ r, H.P (row a r) (row a s) * H.d (row a r) l)
      (fun s => -∑ r, H.DS (row a r) (row a s)) := by
  have hP := p29 H i a hk hg hq hf hl
  have hs := ds31 H i a hk hv hg hq hf hl hd hD
  generalize k2_pay22 i v9 = A at *
  generalize k2_pay27 v0 v22 = B at *
  generalize k2_pay28 i v31 = C at *
  refine ⟨fun s l => ?_, fun s l => ?_, fun s => ?_⟩
  · pointwise [k2_pay33, k2_pay23, k2_pay26]
    simp only [hs, hq _ _, w_eighth, ← EReal.coe_mul, coe_sum, zero_add]
  · pointwise [k2_pay32, k2_pay24, k2_pay30]
    simp only [hP, hd _ _, ← EReal.coe_mul, coe_sum, zero_add]
  · pointwise [k2_pay34, k2_pay25]
    simp only [hs, coe_sum, EReal.coe_neg, zero_sub]

variable {v94 v103 v120 : Vec Ideal S1x1024x128 .f32} {v114 v125 : Vec Ideal S1x1x1024x1 .f32}

/-- The weights of a tile of later queries. -/
theorem p11 (hk : IsTile v0 H.k 0) (hg : IsRow v9 (i 1).val H.g 0) (hq : IsTile v94 H.q 1) (hf : IsGate v103 (i 1).val H.f 1) (hl : IsCol v114 H.L 1)
    (r s : Fin 1024) : k2_pay11 (BitVec.ofNat 32 (i 1)) (k2_pay20 v0) (k2_pay22 i v9) (iota .tc S1024x128 32 [1] iota_S1024x128_d1_w32) v94 v103 v114 (ix2 r s)
      = ((H.P (row 1 r) (row 0 s) : ℝ) : EReal) := by
  have h4 := hd_lt2 i
  pointwise [k2_pay11, k2_pay22, k2_pay10, k2_pay20]
  rw [pick (by norm_num) _ (by omega) (fun x : Fin 128 => v103 (ix3 0 r x)), pick (by norm_num) _ (by omega) (fun x : Fin 8 => v9 (ix3 0 x s)),
    hf, hg, w_eighth, hl r, ← H.exp_lg, H.lg_10, ← S_eq]
  simp only [hq _ _, hk _ _]

theorem ds13 (hk : IsTile v0 H.k 0) (hv : IsTile v3 H.v 0) (hg : IsRow v9 (i 1).val H.g 0) (hq : IsTile v94 H.q 1) (hf : IsGate v103 (i 1).val H.f 1)
    (hl : IsCol v114 H.L 1) (hd : IsTile v120 H.d 1) (hD : IsCol v125 H.Δ 1) (r s : Fin 1024) :
    k2_pay13 (BitVec.ofNat 32 (i 1)) (k2_pay20 v0) (k2_pay21 v3) (k2_pay22 i v9) (iota .tc S1024x128 32 [1] iota_S1024x128_d1_w32) v94 v103 v114 v120 v125 (ix2 r s)
      = ((H.DS (row 1 r) (row 0 s) : ℝ) : EReal) := by
  have hP := p11 H i hk hg hq hf hl r s
  rw [← ds_eq, H.exp_lg, ← hP]
  generalize k2_pay22 i v9 = A at *
  generalize k2_pay20 v0 = B at *
  generalize iota .tc S1024x128 32 [1] iota_S1024x128_d1_w32 = C at *
  pointwise [k2_pay13, k2_pay21, k2_pay12]
  simp only [hd _ _, hv _ _, hD r]

variable {x y : FVec Ideal S1024x128 .f32} {z : FVec Ideal S1x1024 .f32} {A B : Fin 1024 → Fin 128 → ℝ} {C : Fin 1024 → ℝ}

theorem trip2 (h : IsAcc2 x y z A B C) (hk : IsTile v0 H.k 0) (hv : IsTile v3 H.v 0) (hg : IsRow v9 (i 1).val H.g 0) (hq : IsTile v94 H.q 1)
    (hf : IsGate v103 (i 1).val H.f 1) (hl : IsCol v114 H.L 1) (hd : IsTile v120 H.d 1) (hD : IsCol v125 H.Δ 1) :
    IsAcc2
      (k2_pay2 x (k2_pay10 v94) (k2_pay13 (BitVec.ofNat 32 (i 1)) (k2_pay20 v0) (k2_pay21 v3) (k2_pay22 i v9) (iota .tc S1024x128 32 [1] iota_S1024x128_d1_w32) v94 v103 v114 v120 v125))
      (k2_pay1 y (k2_pay12 v120) (k2_pay14 (BitVec.ofNat 32 (i 1)) (k2_pay20 v0) (k2_pay22 i v9) (iota .tc S1024x128 32 [1] iota_S1024x128_d1_w32) v94 v103 v114)
        (constant S1024x128 .f32 0x00000000#32))
      (k2_pay3 z (k2_pay13 (BitVec.ofNat 32 (i 1)) (k2_pay20 v0) (k2_pay21 v3) (k2_pay22 i v9) (iota .tc S1024x128 32 [1] iota_S1024x128_d1_w32) v94 v103 v114 v120 v125))
      (fun s l => A s l + ∑ r, H.DS (row 1 r) (row 0 s) * (H.q (row 1 r) l * (1 / 8))) (fun s l => B s l + ∑ r, H.P (row 1 r) (row 0 s) * H.d (row 1 r) l)
      (fun s => C s - ∑ r, H.DS (row 1 r) (row 0 s)) := by
  have hP := p11 H i hk hg hq hf hl
  have hs := ds13 H i hk hv hg hq hf hl hd hD
  generalize k2_pay22 i v9 = A at *
  generalize k2_pay20 v0 = B at *
  generalize k2_pay21 v3 = B' at *
  generalize iota .tc S1024x128 32 [1] iota_S1024x128_d1_w32 = C at *
  refine ⟨fun s l => ?_, fun s l => ?_, fun s => ?_⟩
  · pointwise [k2_pay2, k2_pay10]
    simp only [hs, hq _ _, h.1 _ _, w_eighth, ← EReal.coe_mul, coe_sum, ← EReal.coe_add]
  · pointwise [k2_pay1, k2_pay12, k2_pay14]
    simp only [hP, hd _ _, h.2.1 _ _, ← EReal.coe_mul, coe_sum, ← EReal.coe_add]
  · pointwise [k2_pay3]
    simp only [hs, h.2.2 _, coe_sum, ← EReal.coe_sub]

end

end Cert.Proof.Fox
-- ==== Proof.FoxBwdKVBlk.lean ====
/- The blocks the key side of the backward of the attention reads, and the values its result arrays are to hold. -/
module

public import proofs.«01_k».proof.Proof.FoxBwdQ
public import proofs.«01_k».proof.Proof.FoxBwdKVPay

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Proof.Fox

variable (V : (c : Dev nD) → (b : Ref sig .tc) → Buf (Elt Ideal) ((c : Thread nD τ).loc b)) (c : Dev nD)

theorem idx2 : ∀ t : Fin cfg2.N, win2_0.index t = ![t.val / 8, 0, 12 + t.val / 2 % 4]
    ∧ win2_1.index t = ![t.val / 8, t.val % 2, 16 + 2 * (t.val / 2 % 4)] ∧ win2_2.index t = ![t.val / 8, t.val % 2, 17 + 2 * (t.val / 2 % 4)]
    ∧ win2_3.index t = ![t.val / 8, 0, 6 + t.val / 2 % 4] ∧ win2_4.index t = ![t.val / 8, t.val / 2 % 4, 0, 0]
    ∧ win2_5.index t = ![t.val / 8, t.val / 2 % 4, 0, 0] ∧ win2_6.index t = ![t.val / 8, 0, 0] ∧ win2_7.index t = ![t.val / 8, 0, t.val % 2]
    ∧ win2_8.index t = ![t.val / 8, t.val % 2, 8 + t.val / 2 % 4] ∧ win2_9.index t = ![t.val / 8, t.val / 2 % 4, 0, t.val % 2]
    ∧ (grid2.coords t 1).val = t.val / 2 % 4 ∧ t.val < 16 :=
  (by decide +kernel : ∀ t : Fin grid2.N, _)

theorem off2 : ∀ t : Fin cfg2.N, k2_off1 (grid2.coords t) = ![0, t.val % 2 * 1024, 0] ∧ k2_off2 (grid2.coords t) = ![0, 0, t.val % 2 * 1024, 0]
    ∧ (k2_t1_loop (grid2.coords t)).trips = 1 - t.val % 2 ∧ (k2_t2_loop (grid2.coords t)).trips = 0 :=
  (by decide +kernel : ∀ t : Fin grid2.N, _)

theorem offT2 : ∀ (t : Fin cfg2.N) (k : Fin (k2_t1_loop (grid2.coords t)).trips), k2_off3 (grid2.coords t) k = ![0, 1024, 0]
    ∧ k2_off4 (grid2.coords t) k = ![0, 0, 1024, 0] :=
  (by decide +kernel : ∀ (t : Fin grid2.N) (k : Fin (k2_t1_loop (grid2.coords t)).trips), _)

/-- The trips of the two loops at a tile of keys. -/
theorem trips2 (t : Fin cfg2.N) :
    Scf.trips (Scalar.addi (BitVec.ofNat 32 ↑(grid2.coords t 2)) 1#32)
        (Scalar.addi (Scalar.addi (BitVec.ofNat 32 ↑(grid2.coords t 2)) 1#32)
          (Scalar.muli (Scalar.divsi (Scalar.subi (2#32) (Scalar.addi (BitVec.ofNat 32 ↑(grid2.coords t 2)) 1#32)) 1#32) 1#32)) 1#32 = 1 - t.val % 2
      ∧ Scf.trips (Scalar.addi (Scalar.addi (BitVec.ofNat 32 ↑(grid2.coords t 2)) 1#32)
          (Scalar.muli (Scalar.divsi (Scalar.subi (2#32) (Scalar.addi (BitVec.ofNat 32 ↑(grid2.coords t 2)) 1#32)) 1#32) 1#32))
        (Scalar.addi (Scalar.addi (BitVec.ofNat 32 ↑(grid2.coords t 2)) 1#32)
          (Scalar.subi (2#32) (Scalar.addi (BitVec.ofNat 32 ↑(grid2.coords t 2)) 1#32))) 1#32 = 0 :=
  (off2 t).2.2

/-- A staged array of gates whose lane `h` is the query side. -/
def IsFullGate (x : Vec Ideal S1x2048x128 .f32) (h : ℕ) (f : Fin 2048 → ℝ) : Prop :=
  ∀ (hh : h < 128) t, x (ix3 0 t ⟨h, hh⟩) = ((f t : ℝ) : EReal)

/-- A staged array of one value a row, copied along the lanes. -/
def IsFullCol (x : Vec Ideal S1x1x2048x128 .f32) (w : Fin 2048 → ℝ) : Prop :=
  ∀ t l, x (ix4 0 0 t l) = ((w t : ℝ) : EReal)

theorem ld_gate {x : Vec Ideal S1x2048x128 .f32} {h f} (hx : IsFullGate x h f) (j : Fin 2) (off : Fin 3 → ℕ)
    (ho : off = ![0, j.val * 1024, 0]) (inb) : IsGate (View.ld x (Rect.unit (s := S1x2048x128) off ![1, 1024, 128] inb)) h f j := by
  subst ho
  intro hh r
  rw [← hx hh]
  show x _ = x _
  congr 1
  funext a
  apply Fin.ext
  fin_cases a <;> simp [Rect.unit, Rect.emb, ix3, row]

theorem ld_fcol {x : Vec Ideal S1x1x2048x128 .f32} {w} (hx : IsFullCol x w) (j : Fin 2) (off : Fin 4 → ℕ)
    (ho : off = ![0, 0, j.val * 1024, 0]) (inb) : IsCol (View.ld x (Rect.unit (s := S1x1x2048x128) off ![1, 1, 1024, 1] inb)) w j := by
  subst ho
  intro r
  rw [← hx _ 0]
  show x _ = x _
  congr 1
  funext a
  apply Fin.ext
  fin_cases a <;> simp [Rect.unit, Rect.emb, ix4, row]

theorem DK0 (H : Head) (s : Fin 1024) (l : Fin 128) : ∑ r, H.DS (row 0 r) (row 0 s) * (H.q (row 0 r) l * (1 / 8))
    + ∑ r, H.DS (row 1 r) (row 0 s) * (H.q (row 1 r) l * (1 / 8)) = H.DK (row 0 s) l := by
  rw [Head.DK, sum_rows]
theorem DK1 (H : Head) (s : Fin 1024) (l : Fin 128) : ∑ r, H.DS (row 1 r) (row 1 s) * (H.q (row 1 r) l * (1 / 8)) = H.DK (row 1 s) l := by
  rw [Head.DK, sum_rows]; simp [H.DS_01]
theorem DV0 (H : Head) (s : Fin 1024) (l : Fin 128) : ∑ r, H.P (row 0 r) (row 0 s) * H.d (row 0 r) l + ∑ r, H.P (row 1 r) (row 0 s) * H.d (row 1 r) l
    = H.DV (row 0 s) l := by
  rw [Head.DV, sum_rows]
theorem DV1 (H : Head) (s : Fin 1024) (l : Fin 128) : ∑ r, H.P (row 1 r) (row 1 s) * H.d (row 1 r) l = H.DV (row 1 s) l := by
  rw [Head.DV, sum_rows]; simp [H.P_01]
theorem DFK0 (H : Head) (s : Fin 1024) : -∑ r, H.DS (row 0 r) (row 0 s) - ∑ r, H.DS (row 1 r) (row 0 s) = H.DFK (row 0 s) := by
  rw [Head.DFK, sum_rows]; ring
theorem DFK1 (H : Head) (s : Fin 1024) : -∑ r, H.DS (row 1 r) (row 1 s) = H.DFK (row 1 s) := by
  rw [Head.DFK, sum_rows]; simp [H.DS_01]

theorem pay7_at (x : FVec Ideal S1024x128 .f32) (r : Fin 1024) (l : Fin 128) : k2_pay7 x (ix3 0 r l) = x (ix2 r l) := by
  pointwise [k2_pay7]
theorem pay8_at (x : FVec Ideal S1024x128 .f32) (r : Fin 1024) (l : Fin 128) : k2_pay8 x (ix3 0 r l) = x (ix2 r l) := by
  pointwise [k2_pay8]
theorem pay9_at (x : FVec Ideal S1x1024 .f32) (r : Fin 1024) : k2_pay9 x (ix4 0 0 0 r) = x (ix2 0 r) := by
  pointwise [k2_pay9]

theorem eta3w (y : S1x1024x256.Idx) : y = ix3 0 (y 1) (y 2) := by
  funext a; fin_cases a
  · exact Subsingleton.elim (α := Fin 1) _ _
  · rfl
  · rfl

theorem eta4k (y : S1x1x1x1024.Idx) : y = ix4 0 0 0 (y 3) := by
  funext a; fin_cases a
  · exact Subsingleton.elim (α := Fin 1) _ _
  · exact Subsingleton.elim (α := Fin 1) _ _
  · exact Subsingleton.elim (α := Fin 1) _ _
  · rfl

theorem acc2_x {x y : FVec Ideal S1024x128 .f32} {z : FVec Ideal S1x1024 .f32} {A B : Fin 1024 → Fin 128 → ℝ} {C : Fin 1024 → ℝ}
    (h : IsAcc2 x y z A B C) (s : Fin 1024) (l : Fin 128) : x (ix2 s l) = ((A s l : ℝ) : EReal) := h.1 s l
theorem acc2_y {x y : FVec Ideal S1024x128 .f32} {z : FVec Ideal S1x1024 .f32} {A B : Fin 1024 → Fin 128 → ℝ} {C : Fin 1024 → ℝ}
    (h : IsAcc2 x y z A B C) (s : Fin 1024) (l : Fin 128) : y (ix2 s l) = ((B s l : ℝ) : EReal) := h.2.1 s l
theorem acc2_z {x y : FVec Ideal S1024x128 .f32} {z : FVec Ideal S1x1024 .f32} {A B : Fin 1024 → Fin 128 → ℝ} {C : Fin 1024 → ℝ}
    (h : IsAcc2 x y z A B C) (s : Fin 1024) : z (ix2 0 s) = ((C s : ℝ) : EReal) := h.2.2 s

/-- A head's gradients of its keys and of its values, side by side. -/
def DKV (H : Head) (s : Fin 2048) (l : Fin 256) : ℝ :=
  if l.val < 128 then H.DK s ⟨l.val % 128, Nat.mod_lt _ (by norm_num)⟩ else H.DV s ⟨l.val % 128, Nat.mod_lt _ (by norm_num)⟩

theorem DKV_k (H : Head) (s : Fin 2048) (l : Fin 256) (l' : Fin 128) (h : l.val = l'.val) : DKV H s l = H.DK s l' := by
  have h1 : l.val < 128 := by omega
  have h2 : (⟨l.val % 128, Nat.mod_lt _ (by norm_num)⟩ : Fin 128) = l' := Fin.ext (by show l.val % 128 = _; omega)
  rw [DKV, if_pos h1, h2]

theorem DKV_v (H : Head) (s : Fin 2048) (l : Fin 256) (l' : Fin 128) (h : l.val = 128 + l'.val) : DKV H s l = H.DV s l' := by
  have h1 : ¬l.val < 128 := by omega
  have h2 : (⟨l.val % 128, Nat.mod_lt _ (by norm_num)⟩ : Fin 128) = l' := Fin.ext (by show l.val % 128 = _; omega)
  rw [DKV, if_neg h1, h2]

/-- The gradients of keys and values, each head's in its own 256 columns. -/
def dkvAt (H : Fin 2 → Fin 4 → Head) : FVec Ideal S2x2048x3712 .bf16 := fun i =>
  ((DKV (H (i 0) ⟨((i 2).val / 256 - 8) % 4, Nat.mod_lt _ (by norm_num)⟩) (i 1) ⟨(i 2).val % 256, Nat.mod_lt _ (by norm_num)⟩ : ℝ) : EReal)

theorem dkvAt_at (H : Fin 2 → Fin 4 → Head) (b : Fin 2) (h : Fin 4) (t : Fin 2048) (l : Fin 256) :
    dkvAt H (ix3 b t ⟨256 * (8 + h.val) + l.val, by omega⟩) = ((DKV (H b h) t l : ℝ) : EReal) := by
  have h1 : ((256 * (8 + h.val) + l.val) / 256 - 8) % 4 = h.val := by omega
  have h2 : (256 * (8 + h.val) + l.val) % 256 = l.val := by omega
  simp only [dkvAt, ix3_0, ix3_1, ix3_2, h1, h2]

/-- The gradients of the key side of the gates. -/
def dfkAt (H : Fin 2 → Fin 4 → Head) : FVec Ideal S2x4x1x2048 .f32 := fun i => (((H (i 0) (i 1)).DFK (i 3) : ℝ) : EReal)

section
variable (hp : Reals (S := S2x2048x3712) (φ := .f32) (V c main_v13)) (hd : Reals (S := S2x2048x1536) (φ := .f32) (V c main_v19))
  (hf : Reals (S := S2x2048x128) (φ := .f32) (V c main_v20)) (hg : Reals (S := S2x8x2048) (φ := .f32) (V c main_v22))
  (hl : (V c main_v24_1 : FVec Ideal S2x4x2048x128 .f32) = lseAt (hdV V c))
  (hD : (V c main_v26_1 : FVec Ideal S2x4x2048x128 .f32) = deltaAt (hdV V c))
include hp hd hf hg hl hD

theorem blk2 (t : Fin cfg2.N) (b : Fin 2) (h : Fin 4) (a : Fin 2) (hb : t.val / 8 = b) (hh : t.val / 2 % 4 = h) (ha : t.val % 2 = a) :
    IsFull (iblk2 V c 0 t) (hdV V c b h).q ∧ IsTile (iblk2 V c 1 t) (hdV V c b h).k a ∧ IsTile (iblk2 V c 2 t) (hdV V c b h).v a
      ∧ IsFull (iblk2 V c 3 t) (hdV V c b h).d ∧ IsFullCol (iblk2 V c 4 t) (hdV V c b h).L ∧ IsFullCol (iblk2 V c 5 t) (hdV V c b h).Δ
      ∧ IsFullGate (iblk2 V c 6 t) (grid2.coords t 1).val (hdV V c b h).f ∧ IsRow (iblk2 V c 7 t) (grid2.coords t 1).val (hdV V c b h).g a := by
  obtain ⟨e0, e1, e2, e3, e4, e5, e6, e7, -, -, ec, ht⟩ := idx2 t
  rw [ec]
  rw [hb, hh, ha] at e1 e2
  rw [hb, hh] at e0 e3 e4 e5
  rw [hb, ha] at e7
  rw [hb] at e6
  rw [hh]
  refine ⟨fun s l => ?_, fun r l => ?_, fun r l => ?_, fun s l => ?_, fun s l => ?_, fun s l => ?_, fun hh r => ?_, fun hh s => ?_⟩
  · refine Eq.trans ?_ (hp _)
    blk_point [iblk2, e0, row]
  · refine Eq.trans ?_ (hp _)
    blk_point [iblk2, e1, row]
  · refine Eq.trans ?_ (hp _)
    blk_point [iblk2, e2, row]
  · refine Eq.trans ?_ (hd _)
    blk_point [iblk2, e3, row]
  · refine Eq.trans ?_ (congrFun hl (ix4 b h s l))
    blk_point [iblk2, e4, row]
  · refine Eq.trans ?_ (congrFun hD (ix4 b h s l))
    blk_point [iblk2, e5, row]
  · refine Eq.trans ?_ (hf _)
    blk_point [iblk2, e6, row]
  · refine Eq.trans ?_ (hg _)
    blk_point [iblk2, e7, row]

end

end Cert.Proof.Fox
-- ==== Proof.FoxBwdKVTrip.lean ====
/- The values one trip of the key side's inner loop works on, as the named values of the straight part applied to that trip's loads. -/
module

public import proofs.«01_k».proof.Proof.FoxBwdKVBlk

@[expose] public section

set_option maxRecDepth 16384

noncomputable section

open Idealize.ShloMosaic Idealize.ShloMosaic.TcCoe Idealize.SL.Sem
open Cert.Kernel4Ideal Cert.Kernel4Ideal.Gen

namespace Cert.Proof.Fox

variable {F : FTy → Type} [FloatOps F] (i : grid2.Coords) (a3 a6 a9 : Memref sig .tc .vmem S1x2048x128 .f32) (a7 a8 : Memref sig .tc .vmem S1x1x2048x128 .f32)
  (w : BitVec 32) (v2 v5 : FVec F S1024x128 .bf16) (v14 : FVec F S1x1024 .f32) (v15 : IVec S1024x128 32)
  (X3 : BufTy.Contents (Elt F) a3.view.ty) (X6 : BufTy.Contents (Elt F) a6.view.ty) (X7 : BufTy.Contents (Elt F) a7.view.ty)
  (X8 : BufTy.Contents (Elt F) a8.view.ty) (X9 : BufTy.Contents (Elt F) a9.view.ty) (k : Fin (k2_t1_loop i).trips)

theorem trip_q : trip_k2_t1.sl.v98 (F := F) i a3 X3 k
    = k2_pay10 (View.readAt (Elt F) a3.view (Rect.unit (s := S1x2048x128) (k2_off3 i k) S1x1024x128.size (k2_off3_inb i k)).toLoadRect X3) := rfl

theorem trip_do : trip_k2_t1.sl.v122 (F := F) i a6 X6 k
    = k2_pay12 (View.readAt (Elt F) a6.view (Rect.unit (s := S1x2048x128) (k2_off3 i k) S1x1024x128.size (k2_off3_inb i k)).toLoadRect X6) := rfl

theorem trip_p : trip_k2_t1.sl.v130 (F := F) i a3 a7 a9 w v2 v14 v15 X3 X7 X9 k
    = k2_pay14 w v2 v14 v15 (View.readAt (Elt F) a3.view (Rect.unit (s := S1x2048x128) (k2_off3 i k) S1x1024x128.size (k2_off3_inb i k)).toLoadRect X3)
        (View.readAt (Elt F) a9.view (Rect.unit (s := S1x2048x128) (k2_off3 i k) S1x1024x128.size (k2_off3_inb i k)).toLoadRect X9)
        (View.readAt (Elt F) a7.view (Rect.unit (s := S1x1x2048x128) (k2_off4 i k) S1x1x1024x1.size (k2_off4_inb i k)).toLoadRect X7) := rfl

theorem trip_ds : trip_k2_t1.sl.v129 (F := F) i a3 a6 a7 a8 a9 w v2 v5 v14 v15 X3 X6 X7 X8 X9 k
    = k2_pay13 w v2 v5 v14 v15 (View.readAt (Elt F) a3.view (Rect.unit (s := S1x2048x128) (k2_off3 i k) S1x1024x128.size (k2_off3_inb i k)).toLoadRect X3)
        (View.readAt (Elt F) a9.view (Rect.unit (s := S1x2048x128) (k2_off3 i k) S1x1024x128.size (k2_off3_inb i k)).toLoadRect X9)
        (View.readAt (Elt F) a7.view (Rect.unit (s := S1x1x2048x128) (k2_off4 i k) S1x1x1024x1.size (k2_off4_inb i k)).toLoadRect X7)
        (View.readAt (Elt F) a6.view (Rect.unit (s := S1x2048x128) (k2_off3 i k) S1x1024x128.size (k2_off3_inb i k)).toLoadRect X6)
        (View.readAt (Elt F) a8.view (Rect.unit (s := S1x1x2048x128) (k2_off4 i k) S1x1x1024x1.size (k2_off4_inb i k)).toLoadRect X8) := rfl

theorem trip_c : trip_k2_t1.sl.cst_63 (F := F) = constant S1024x128 .f32 0x00000000#32 := rfl

end Cert.Proof.Fox
-- ==== Proof.FoxBwdKV.lean ====
/- What the key side of the backward of the attention leaves in its two result arrays. -/
module

public import proofs.«01_k».proof.Proof.FoxBwdKVTrip

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Proof.Fox

variable (V : (c : Dev nD) → (b : Ref sig .tc) → Buf (Elt Ideal) ((c : Thread nD τ).loc b)) (c : Dev nD)

section
variable (hp : Reals (S := S2x2048x3712) (φ := .f32) (V c main_v13)) (hd : Reals (S := S2x2048x1536) (φ := .f32) (V c main_v19))
  (hf : Reals (S := S2x2048x128) (φ := .f32) (V c main_v20)) (hg : Reals (S := S2x8x2048) (φ := .f32) (V c main_v22))
  (hl : (V c main_v24_1 : FVec Ideal S2x4x2048x128 .f32) = lseAt (hdV V c))
  (hD : (V c main_v26_1 : FVec Ideal S2x4x2048x128 .f32) = deltaAt (hdV V c))
include hp hd hf hg hl hD

set_option maxHeartbeats 1000000 in
theorem dfk_val (t : Fin cfg2.N) (b : Fin 2) (h : Fin 4) (a : Fin 2) (hb : t.val / 8 = b) (hh : t.val / 2 % 4 = h) (ha : t.val % 2 = a)
    (s : Fin 1024) : (outsAt2 V c t).2 (ix4 0 0 0 s) = (((hdV V c b h).DFK (row a s) : ℝ) : EReal) := by
  obtain ⟨bq, bk, bv, bd, bl, bD, bf, bg⟩ := blk2 V c hp hd hf hg hl hD t b h a hb hh ha
  obtain ⟨o1, o2, -, -⟩ := off2 t
  have oT := offT2 t
  rw [ha] at o1 o2
  unfold outsAt2
  frame_out
  rw [pay9_at]
  rw [(trips2 t).2, (trips2 t).1]
  rw [ha]
  obtain rfl | rfl : a = 0 ∨ a = 1 := by omega
  · have hpos : 0 < (k2_t1_loop (grid2.coords t)).trips := by rw [(off2 t).2.2.1, ha]; decide
    rw [show 1 - ((0 : Fin 2) : ℕ) = 1 from rfl]
    unfold st_k2_t2
    dsimp only
    unfold st_k2_t1 st_k2_t1Step tripR_k2_t1 trip_k2_t1
    dsimp only
    simp only [dif_pos hpos, trip_q, trip_do, trip_p, trip_ds, trip_c, View.readAt_eq_ld, Memref.IsWhole.read_unread]
    unfold st_k2_t1
    dsimp only
    rw [← DFK0]
    exact acc2_z (trip2 _ (grid2.coords t) (diag2 _ (grid2.coords t) 0 bk bv bg (ld_tile bq 0 _ o1 _) (ld_gate bf 0 _ o1 _) (ld_fcol bl 0 _ o2 _) (ld_tile bd 0 _ o1 _)
      (ld_fcol bD 0 _ o2 _)) bk bv bg (ld_tile bq 1 _ (oT _).1 _) (ld_gate bf 1 _ (oT _).1 _) (ld_fcol bl 1 _ (oT _).2 _) (ld_tile bd 1 _ (oT _).1 _)
      (ld_fcol bD 1 _ (oT _).2 _)) s
  · rw [show 1 - ((1 : Fin 2) : ℕ) = 0 from rfl]
    unfold st_k2_t2
    dsimp only
    unfold st_k2_t1
    dsimp only
    rw [← DFK1]
    exact acc2_z (diag2 _ (grid2.coords t) 1 bk bv bg (ld_tile bq 1 _ o1 _) (ld_gate bf 1 _ o1 _) (ld_fcol bl 1 _ o2 _) (ld_tile bd 1 _ o1 _)
      (ld_fcol bD 1 _ o2 _)) s

set_option maxHeartbeats 1000000 in
theorem dkv_val (t : Fin cfg2.N) (b : Fin 2) (h : Fin 4) (a : Fin 2) (hb : t.val / 8 = b) (hh : t.val / 2 % 4 = h) (ha : t.val % 2 = a)
    (s : Fin 1024) (l : Fin 256) : (outsAt2 V c t).1 (ix3 0 s l) = ((DKV (hdV V c b h) (row a s) l : ℝ) : EReal) := by
  obtain ⟨bq, bk, bv, bd, bl, bD, bf, bg⟩ := blk2 V c hp hd hf hg hl hD t b h a hb hh ha
  obtain ⟨o1, o2, -, -⟩ := off2 t
  have oT := offT2 t
  rw [ha] at o1 o2
  have hpos : a = 0 → 0 < (k2_t1_loop (grid2.coords t)).trips := fun h0 => by rw [(off2 t).2.2.1, ha, h0]; decide
  unfold outsAt2
  frame_out
  rw [(trips2 t).2, (trips2 t).1]
  rw [ha]
  canon_tiles x hx using (View.cover_of_tiled_head _ _ _ (by rfl) _)
  · obtain ⟨s', l', rfl⟩ : ∃ r l, x = ix3 0 r l := ⟨x 1, x 2, eta3 x⟩
    obtain rfl : s = s' := Fin.ext (by simpa using hx1)
    rw [DKV_v _ _ l l' (by simpa using hx2), pay8_at]
    obtain rfl | rfl : a = 0 ∨ a = 1 := by omega
    · rw [show 1 - ((0 : Fin 2) : ℕ) = 1 from rfl]
      unfold st_k2_t2
      dsimp only
      unfold st_k2_t1 st_k2_t1Step tripR_k2_t1 trip_k2_t1
      dsimp only
      simp only [dif_pos (hpos rfl), trip_q, trip_do, trip_p, trip_ds, trip_c, View.readAt_eq_ld, Memref.IsWhole.read_unread]
      unfold st_k2_t1
      dsimp only
      rw [← DV0]
      exact acc2_y (trip2 _ (grid2.coords t) (diag2 _ (grid2.coords t) 0 bk bv bg (ld_tile bq 0 _ o1 _) (ld_gate bf 0 _ o1 _) (ld_fcol bl 0 _ o2 _) (ld_tile bd 0 _ o1 _)
        (ld_fcol bD 0 ![0, 0, 0, 0] rfl (by decide))) bk bv bg (ld_tile bq 1 _ (oT _).1 _) (ld_gate bf 1 _ (oT _).1 _)
        (ld_fcol bl 1 _ (oT _).2 _) (ld_tile bd 1 _ (oT _).1 _) (ld_fcol bD 1 ![0, 0, 1024, 0] rfl (by decide))) s l'
    · rw [show 1 - ((1 : Fin 2) : ℕ) = 0 from rfl]
      unfold st_k2_t2
      dsimp only
      unfold st_k2_t1
      dsimp only
      rw [← DV1]
      exact acc2_y (diag2 _ (grid2.coords t) 1 bk bv bg (ld_tile bq 1 _ o1 _) (ld_gate bf 1 _ o1 _) (ld_fcol bl 1 _ o2 _) (ld_tile bd 1 _ o1 _)
        (ld_fcol bD 1 ![0, 0, 1024, 0] rfl (by decide))) s l'
  · obtain ⟨s', l', rfl⟩ : ∃ r l, x = ix3 0 r l := ⟨x 1, x 2, eta3 x⟩
    obtain rfl : s = s' := Fin.ext (by simpa using hx1)
    rw [DKV_k _ _ l l' (by simpa using hx2), pay7_at]
    obtain rfl | rfl : a = 0 ∨ a = 1 := by omega
    · rw [show 1 - ((0 : Fin 2) : ℕ) = 1 from rfl]
      unfold st_k2_t2
      dsimp only
      unfold st_k2_t1 st_k2_t1Step tripR_k2_t1 trip_k2_t1
      dsimp only
      simp only [dif_pos (hpos rfl), trip_q, trip_do, trip_p, trip_ds, trip_c, View.readAt_eq_ld, Memref.IsWhole.read_unread]
      unfold st_k2_t1
      dsimp only
      rw [← DK0]
      exact acc2_x (trip2 _ (grid2.coords t) (diag2 _ (grid2.coords t) 0 bk bv bg (ld_tile bq 0 _ o1 _) (ld_gate bf 0 _ o1 _) (ld_fcol bl 0 _ o2 _) (ld_tile bd 0 _ o1 _)
        (ld_fcol bD 0 _ o2 _)) bk bv bg (ld_tile bq 1 _ (oT _).1 _) (ld_gate bf 1 _ (oT _).1 _) (ld_fcol bl 1 _ (oT _).2 _) (ld_tile bd 1 _ (oT _).1 _)
        (ld_fcol bD 1 _ (oT _).2 _)) s l'
    · rw [show 1 - ((1 : Fin 2) : ℕ) = 0 from rfl]
      unfold st_k2_t2
      dsimp only
      unfold st_k2_t1
      dsimp only
      rw [← DK1]
      exact acc2_x (diag2 _ (grid2.coords t) 1 bk bv bg (ld_tile bq 1 _ o1 _) (ld_gate bf 1 _ o1 _) (ld_fcol bl 1 _ o2 _) (ld_tile bd 1 _ o1 _)
        (ld_fcol bD 1 _ o2 _)) s l'

theorem dkv_arr : (dat2 V c).arrAt 8 cfg2.N
    = (fun i => if 8 ≤ (i 2).val / 256 ∧ (i 2).val / 256 < 12 then dkvAt (hdV V c) i else V c main_v27_0 i : FVec Ideal S2x2048x3712 .bf16) := by
  refine (dat2 V c).arrAt_eq_of_coversWhere 8 _ (fun β => 8 ≤ β (2 : Fin _) ∧ β (2 : Fin _) < 12) (by decide +kernel) (fun t hfl y => ?_) (fun j => Iff.rfl)
  obtain ⟨-, -, -, -, -, -, -, -, e8, -, -, ht⟩ := idx2 t
  blk_simp
  rw [after2_8]
  have hy : ∀ a, (((cfg2.win 8).xinj (cfg2.grid.coords t) y) a : ℕ) = y a := fun a => rfl
  generalize (cfg2.win 8).xinj (cfg2.grid.coords t) y = z at hy ⊢
  obtain ⟨s, l, rfl⟩ : ∃ (s : Fin 1024) (l : Fin 256), z = ix3 0 s l := ⟨z 1, z 2, eta3w z⟩
  rw [dkv_val V c hp hd hf hg hl hD t ⟨t.val / 8, by omega⟩ ⟨t.val / 2 % 4, by omega⟩ ⟨t.val % 2, by omega⟩ rfl rfl rfl s l]
  have h0 : (y 0 : ℕ) = 0 := (hy 0).symm
  have h1 : (y 1 : ℕ) = s := (hy 1).symm
  have h2 : (y 2 : ℕ) = l := (hy 2).symm
  have he : (win2_8.blk t).view.emb y
      = (ix3 ⟨t.val / 8, by omega⟩ (row ⟨t.val % 2, by omega⟩ s) ⟨256 * (8 + t.val / 2 % 4) + l.val, by omega⟩ : S2x2048x3712.Idx) := by
    funext a; apply Fin.ext
    fin_cases a <;> blk_simp [e8, row]
    · exact (show t.val / 8 + (y 0 : ℕ) = t.val / 8 by omega)
    · exact (show t.val % 2 * 1024 + (y 1 : ℕ) = t.val % 2 * 1024 + s.val by omega)
    · exact (show (8 + t.val / 2 % 4) * 256 + (y 2 : ℕ) = 256 * (8 + t.val / 2 % 4) + l.val by omega)
  rw [he]; exact (dkvAt_at (hdV V c) _ ⟨t.val / 2 % 4, by omega⟩ _ _).symm

theorem dfk_arr : (dat2 V c).arrAt 9 cfg2.N = dfkAt (hdV V c) := by
  refine (dat2 V c).arrAt_eq_of_covers 9 _ (by decide +kernel) fun t hfl y => ?_
  obtain ⟨-, -, -, -, -, -, -, -, -, e9, -, ht⟩ := idx2 t
  blk_simp
  rw [after2_9]
  obtain ⟨s, rfl⟩ : ∃ s, y = ix4 0 0 0 s := ⟨y 3, eta4k y⟩
  rw [dfk_val V c hp hd hf hg hl hD t ⟨t.val / 8, by omega⟩ ⟨t.val / 2 % 4, by omega⟩ ⟨t.val % 2, by omega⟩ rfl rfl rfl s]
  have he : (win2_9.blk t).view.emb (ix4 0 0 0 s)
      = (ix4 ⟨t.val / 8, by omega⟩ ⟨t.val / 2 % 4, by omega⟩ 0 (row ⟨t.val % 2, by omega⟩ s) : S2x4x1x2048.Idx) := by
    funext a; apply Fin.ext
    fin_cases a <;> (blk_simp [e9, row]; try rfl)
  rw [he]; rfl

end

end Cert.Proof.Fox
-- ==== Proof.FoxOut.lean ====
/- The six results of the attention program, read at an index: the head's values from the arguments. -/
module

public import proofs.«01_k».proof.Proof.FoxIn
public import proofs.«01_k».proof.Proof.FoxBwdQ
public import proofs.«01_k».proof.Proof.FoxBwdKV

@[expose] public section

set_option maxRecDepth 16384

noncomputable section

open Idealize.ShloMosaic Idealize.ShloMosaic.TcCoe Idealize.SL.Sem
open Idealize.ShloMosaic.Pipeline (Dat)
open Cert.Kernel4Ideal Cert.Kernel4Ideal.Gen

namespace Cert.Proof.Fox

section
variable (V : Valuation τ sig (Elt Ideal))

theorem end_o (b : Fin 2) (t : Fin 2048) (h : Fin 4) (l : Fin 64) :
    (StableHlo.after hostOps3 V (Proc.devRef .tc main_v36) : FVec Ideal S2x2048x256 .f32) (ix3 b t ⟨h.val * 64 + l.val, by omega⟩)
      = (V (Proc.devRef .tc main_v24_0) : FVec Ideal S2x2048x1536 .bf16) (ix3 b t ⟨128 * (6 + h.val) + l.val, by omega⟩) := by
  entry_read
  pointwise
  exact congrArg _ (congrArg (ix3 b t) (Fin.ext (show 768 + (h.val * 128 + l.val) = 128 * (6 + h.val) + l.val by omega)))

theorem end_dq (b : Fin 2) (t : Fin 2048) (h : Fin 4) (l : Fin 64) :
    (StableHlo.after hostOps3 V (Proc.devRef .tc main_v41) : FVec Ideal S2x2048x256 .f32) (ix3 b t ⟨h.val * 64 + l.val, by omega⟩)
      = (V (Proc.devRef .tc main_v27_0) : FVec Ideal S2x2048x3712 .bf16) (ix3 b t ⟨128 * (12 + h.val) + l.val, by omega⟩) := by
  entry_read
  pointwise
  exact congrArg _ (congrArg (ix3 b t) (Fin.ext (show 1536 + (h.val * 128 + l.val) = 128 * (12 + h.val) + l.val by omega)))

theorem end_dk (b : Fin 2) (t : Fin 2048) (h : Fin 4) (l : Fin 64) :
    (StableHlo.after hostOps3 V (Proc.devRef .tc main_v46) : FVec Ideal S2x2048x256 .f32) (ix3 b t ⟨h.val * 64 + l.val, by omega⟩)
      = (V (Proc.devRef .tc main_v27_0) : FVec Ideal S2x2048x3712 .bf16) (ix3 b t ⟨256 * (8 + h.val) + l.val, by omega⟩) := by
  entry_read
  pointwise
  exact congrArg _ (congrArg (ix3 b t) (Fin.ext (show 2048 + (h.val * 256 + l.val) = 256 * (8 + h.val) + l.val by omega)))

theorem end_dv (b : Fin 2) (t : Fin 2048) (h : Fin 4) (l : Fin 64) :
    (StableHlo.after hostOps3 V (Proc.devRef .tc main_v51) : FVec Ideal S2x2048x256 .f32) (ix3 b t ⟨h.val * 64 + l.val, by omega⟩)
      = (V (Proc.devRef .tc main_v27_0) : FVec Ideal S2x2048x3712 .bf16) (ix3 b t ⟨256 * (8 + h.val) + (128 + l.val), by omega⟩) := by
  entry_read
  pointwise
  exact congrArg _ (congrArg (ix3 b t) (Fin.ext (show 2048 + (h.val * 256 + 128 + l.val) = 256 * (8 + h.val) + (128 + l.val) by omega)))

theorem end_dfq (b : Fin 2) (t : Fin 2048) (h : Fin 4) :
    (StableHlo.after hostOps3 V (Proc.devRef .tc main_v54) : FVec Ideal S2x2048x4 .f32) (ix3 b t h)
      = (V (Proc.devRef .tc main_v26_2) : FVec Ideal S2x4x2048x128 .f32) (ix4 b h t 0) := by
  entry_read
  pointwise

theorem end_dfk (b : Fin 2) (t : Fin 2048) (h : Fin 4) :
    (StableHlo.after hostOps3 V (Proc.devRef .tc main_v29) : FVec Ideal S2x2048x4 .f32) (ix3 b t h)
      = (V (Proc.devRef .tc main_v27_1) : FVec Ideal S2x4x1x2048 .f32) (ix4 b h 0 t) := by
  entry_read
  pointwise

end

section
variable (V : Valuation τ sig (Elt Ideal))

theorem mid_kv : (StableHlo.after hostOps2 V (Proc.devRef .tc main_v27_0) : FVec Ideal S2x2048x3712 .bf16)
    = (V (Proc.devRef .tc main_v26_0) : FVec Ideal S2x2048x3712 .bf16) := by
  entry_read
  rfl

end

section
variable (m : (ℓ : Loc nD τ sig) → Buf (Elt Ideal) ℓ) (ρ : Dev nD → PrngReg) (c : Dev nD)

/-- What no region writes is at the second and third regions' entries what it was at the first's. -/
theorem V13_keep (r : Ref sig .tc) (h : r ∉ hostOps1_W) (h0 : ∀ w : Fin cfg0.W, Pipeline.arrRef spec0 w = r → (cfg0.win w).isOut = false) :
    V13 m ρ c r = V11 m ρ c r := (W13_of m ρ c r h).trans (W12_of m ρ c r h0)

theorem V15_keep (r : Ref sig .tc) (h : r ∉ hostOps2_W) (h0 : ∀ w : Fin cfg1.W, Pipeline.arrRef spec1 w = r → (cfg1.win w).isOut = false) :
    V15 m ρ c r = V13 m ρ c r := (W15_of m ρ c r h).trans (W14_of m ρ c r h0)

theorem p13 : V13 m ρ c main_v13 = V11 m ρ c main_v13 := V13_keep m ρ c _ (by decide) (by decide)
theorem d13 : V13 m ρ c main_v19 = V11 m ρ c main_v19 := V13_keep m ρ c _ (by decide) (by decide)
theorem f13 : V13 m ρ c main_v20 = V11 m ρ c main_v20 := V13_keep m ρ c _ (by decide) (by decide)
theorem g13 : V13 m ρ c main_v22 = V11 m ρ c main_v22 := V13_keep m ρ c _ (by decide) (by decide)
theorem p15 : V15 m ρ c main_v13 = V11 m ρ c main_v13 := (V15_keep m ρ c _ (by decide) (by decide)).trans (p13 m ρ c)
theorem d15 : V15 m ρ c main_v19 = V11 m ρ c main_v19 := (V15_keep m ρ c _ (by decide) (by decide)).trans (d13 m ρ c)
theorem f15 : V15 m ρ c main_v20 = V11 m ρ c main_v20 := (V15_keep m ρ c _ (by decide) (by decide)).trans (f13 m ρ c)
theorem g15 : V15 m ρ c main_v22 = V11 m ρ c main_v22 := (V15_keep m ρ c _ (by decide) (by decide)).trans (g13 m ρ c)

theorem hd13 : hdV (V13 m ρ) c = H m c := by
  rw [← hdV_eq m ρ c]; unfold hdV; rw [p13, d13, f13, g13]
theorem hd15 : hdV (V15 m ρ) c = H m c := by
  rw [← hdV_eq m ρ c]; unfold hdV; rw [p15, d15, f15, g15]

variable (hq : Reals (aQ m c)) (hk : Reals (aK m c)) (hv : Reals (aV m c)) (hf : Reals (aF m c)) (hd : Reals (aD m c))

include hq hk hv hf in
theorem o12 : (W12 m ρ c (Proc.devRef .tc main_v24_0) : FVec Ideal S2x2048x1536 .bf16)
    = fun i => if 6 ≤ (i 2).val / 128 ∧ (i 2).val / 128 < 10 then oAt (H m c) i else (V11 m ρ c main_v24_0 : FVec Ideal S2x2048x1536 .bf16) i :=
  (W12_arr m ρ c 5).trans ((o_arr (V11 m ρ) c (real_p m ρ c hq hk hv) (real_f m ρ c hf) (real_g m ρ c hf)).trans (by rw [hdV_eq m ρ c]))

include hq hk hv hf in
theorem lse12 : (W12 m ρ c (Proc.devRef .tc main_v24_1) : FVec Ideal S2x4x2048x128 .f32) = lseAt (H m c) :=
  (W12_arr m ρ c 6).trans ((lse_arr (V11 m ρ) c (real_p m ρ c hq hk hv) (real_f m ρ c hf) (real_g m ρ c hf)).trans (by rw [hdV_eq m ρ c]))

include hq hk hv hf in
theorem o13 (b : Fin 2) (h : Fin 4) (t : Fin 2048) (l : Fin 128) :
    (V13 m ρ c main_v24_0 : FVec Ideal S2x2048x1536 .bf16) (ix3 b t (oCol h l)) = (((H m c b h).O t l : ℝ) : EReal) := by
  rw [show V13 m ρ c main_v24_0 = W12 m ρ c (Proc.devRef .tc main_v24_0) from W13_of m ρ c _ (by decide), o12 m ρ c hq hk hv hf]
  show (if 6 ≤ (128 * (6 + h.val) + l.val) / 128 ∧ (128 * (6 + h.val) + l.val) / 128 < 10 then _ else _) = _
  rw [if_pos (by omega)]
  exact oAt_at (H m c) b h t l

include hq hk hv hf in
theorem lse13 : (V13 m ρ c main_v24_1 : FVec Ideal S2x4x2048x128 .f32) = lseAt (H m c) :=
  (W13_of m ρ c _ (by decide)).trans (lse12 m ρ c hq hk hv hf)

include hq hk hv hf in
theorem lse15 : (V15 m ρ c main_v24_1 : FVec Ideal S2x4x2048x128 .f32) = lseAt (H m c) :=
  (V15_keep m ρ c _ (by decide) (by decide)).trans (lse13 m ρ c hq hk hv hf)

include hq hk hv in
theorem rp13 : Reals (S := S2x2048x3712) (φ := .f32) (V13 m ρ c main_v13) := by rw [p13]; exact real_p m ρ c hq hk hv
include hd in
theorem rd13 : Reals (S := S2x2048x1536) (φ := .f32) (V13 m ρ c main_v19) := by rw [d13]; exact real_d m ρ c hd
include hf in
theorem rf13 : Reals (S := S2x2048x128) (φ := .f32) (V13 m ρ c main_v20) := by rw [f13]; exact real_f m ρ c hf
include hf in
theorem rg13 : Reals (S := S2x8x2048) (φ := .f32) (V13 m ρ c main_v22) := by rw [g13]; exact real_g m ρ c hf
include hq hk hv in
theorem rp15 : Reals (S := S2x2048x3712) (φ := .f32) (V15 m ρ c main_v13) := by rw [p15]; exact real_p m ρ c hq hk hv
include hd in
theorem rd15 : Reals (S := S2x2048x1536) (φ := .f32) (V15 m ρ c main_v19) := by rw [d15]; exact real_d m ρ c hd
include hf in
theorem rf15 : Reals (S := S2x2048x128) (φ := .f32) (V15 m ρ c main_v20) := by rw [f15]; exact real_f m ρ c hf
include hf in
theorem rg15 : Reals (S := S2x8x2048) (φ := .f32) (V15 m ρ c main_v22) := by rw [g15]; exact real_g m ρ c hf

include hq hk hv hf hd

theorem dq14 : (W14 m ρ c (Proc.devRef .tc main_v26_0) : FVec Ideal S2x2048x3712 .bf16)
    = fun i => if 12 ≤ (i 2).val / 128 ∧ (i 2).val / 128 < 16 then dqAt (H m c) i else (V13 m ρ c main_v26_0 : FVec Ideal S2x2048x3712 .bf16) i :=
  (W14_arr m ρ c 8).trans ((dq_arr (V13 m ρ) c (rp13 m ρ c hq hk hv) (rd13 m ρ c hd) (rf13 m ρ c hf) (rg13 m ρ c hf)
    (by rw [hd13]; exact o13 m ρ c hq hk hv hf) (by rw [hd13]; exact lse13 m ρ c hq hk hv hf)).trans (by rw [hd13]))

theorem delta14 : (W14 m ρ c (Proc.devRef .tc main_v26_1) : FVec Ideal S2x4x2048x128 .f32) = deltaAt (H m c) :=
  (W14_arr m ρ c 9).trans ((delta_arr (V13 m ρ) c (rp13 m ρ c hq hk hv) (rd13 m ρ c hd) (rf13 m ρ c hf) (rg13 m ρ c hf)
    (by rw [hd13]; exact o13 m ρ c hq hk hv hf) (by rw [hd13]; exact lse13 m ρ c hq hk hv hf)).trans (by rw [hd13]))

theorem dfq14 : (W14 m ρ c (Proc.devRef .tc main_v26_2) : FVec Ideal S2x4x2048x128 .f32) = dfqAt (H m c) :=
  (W14_arr m ρ c 10).trans ((dfq_arr (V13 m ρ) c (rp13 m ρ c hq hk hv) (rd13 m ρ c hd) (rf13 m ρ c hf) (rg13 m ρ c hf)
    (by rw [hd13]; exact o13 m ρ c hq hk hv hf) (by rw [hd13]; exact lse13 m ρ c hq hk hv hf)).trans (by rw [hd13]))

theorem delta15 : (V15 m ρ c main_v26_1 : FVec Ideal S2x4x2048x128 .f32) = deltaAt (H m c) :=
  (W15_of m ρ c _ (by decide)).trans (delta14 m ρ c hq hk hv hf hd)

theorem dkv16 : (W16 m ρ c (Proc.devRef .tc main_v27_0) : FVec Ideal S2x2048x3712 .bf16)
    = fun i => if 8 ≤ (i 2).val / 256 ∧ (i 2).val / 256 < 12 then dkvAt (H m c) i else (W14 m ρ c (Proc.devRef .tc main_v26_0) : FVec Ideal S2x2048x3712 .bf16) i :=
  (W16_arr m ρ c 8).trans ((dkv_arr (V15 m ρ) c (rp15 m ρ c hq hk hv) (rd15 m ρ c hd) (rf15 m ρ c hf) (rg15 m ρ c hf)
    (by rw [hd15]; exact lse15 m ρ c hq hk hv hf) (by rw [hd15]; exact delta15 m ρ c hq hk hv hf hd)).trans (by
      rw [hd15, show V15 m ρ c main_v27_0 = W14 m ρ c (Proc.devRef .tc main_v26_0) from mid_kv _]))

theorem dfk16 : (W16 m ρ c (Proc.devRef .tc main_v27_1) : FVec Ideal S2x4x1x2048 .f32) = dfkAt (H m c) :=
  (W16_arr m ρ c 9).trans ((dfk_arr (V15 m ρ) c (rp15 m ρ c hq hk hv) (rd15 m ρ c hd) (rf15 m ρ c hf) (rg15 m ρ c hf)
    (by rw [hd15]; exact lse15 m ρ c hq hk hv hf) (by rw [hd15]; exact delta15 m ρ c hq hk hv hf hd)).trans (by rw [hd15]))

theorem dfq16 : (W16 m ρ c (Proc.devRef .tc main_v26_2) : FVec Ideal S2x4x2048x128 .f32) = dfqAt (H m c) :=
  (W16_of m ρ c _ (by decide)).trans ((W15_of m ρ c _ (by decide)).trans (dfq14 m ρ c hq hk hv hf hd))

omit hd in
theorem o16 : (W16 m ρ c (Proc.devRef .tc main_v24_0) : FVec Ideal S2x2048x1536 .bf16) = (V13 m ρ c main_v24_0 : FVec Ideal S2x2048x1536 .bf16) :=
  (W16_of m ρ c _ (by decide)).trans (V15_keep m ρ c _ (by decide) (by decide))

omit hd in
/-- The forward call's output. -/
theorem out_o (b : Fin 2) (t : Fin 2048) (h : Fin 4) (l : Fin 64) :
    (W17 m ρ c (Proc.devRef .tc main_v36) : FVec Ideal S2x2048x256 .f32) (ix3 b t ⟨h.val * 64 + l.val, by omega⟩)
      = (((H m c b h).O t ⟨l.val, by omega⟩ : ℝ) : EReal) :=
  (end_o (W16 m ρ c) b t h l).trans (by
    rw [o16 m ρ c hq hk hv hf]; exact o13 m ρ c hq hk hv hf b h t ⟨l.val, by omega⟩)

/-- The gradient of the queries. -/
theorem out_dq (b : Fin 2) (t : Fin 2048) (h : Fin 4) (l : Fin 64) :
    (W17 m ρ c (Proc.devRef .tc main_v41) : FVec Ideal S2x2048x256 .f32) (ix3 b t ⟨h.val * 64 + l.val, by omega⟩)
      = (((H m c b h).DQ t ⟨l.val, by omega⟩ : ℝ) : EReal) :=
  (end_dq (W16 m ρ c) b t h l).trans (by
    rw [dkv16 m ρ c hq hk hv hf hd]
    show (if 8 ≤ (128 * (12 + h.val) + l.val) / 256 ∧ (128 * (12 + h.val) + l.val) / 256 < 12 then _ else _) = _
    rw [if_neg (by omega), dq14 m ρ c hq hk hv hf hd]
    show (if 12 ≤ (128 * (12 + h.val) + l.val) / 128 ∧ (128 * (12 + h.val) + l.val) / 128 < 16 then _ else _) = _
    rw [if_pos (by omega)]
    exact dqAt_at (H m c) b h t ⟨l.val, by omega⟩)

/-- The gradient of the keys. -/
theorem out_dk (b : Fin 2) (t : Fin 2048) (h : Fin 4) (l : Fin 64) :
    (W17 m ρ c (Proc.devRef .tc main_v46) : FVec Ideal S2x2048x256 .f32) (ix3 b t ⟨h.val * 64 + l.val, by omega⟩)
      = (((H m c b h).DK t ⟨l.val, by omega⟩ : ℝ) : EReal) :=
  (end_dk (W16 m ρ c) b t h l).trans (by
    rw [dkv16 m ρ c hq hk hv hf hd]
    show (if 8 ≤ (256 * (8 + h.val) + l.val) / 256 ∧ (256 * (8 + h.val) + l.val) / 256 < 12 then _ else _) = _
    rw [if_pos (by omega)]
    refine (dkvAt_at (H m c) b h t ⟨l.val, by omega⟩).trans ?_
    rw [DKV_k _ _ _ ⟨l.val, by omega⟩ rfl])

/-- The gradient of the values. -/
theorem out_dv (b : Fin 2) (t : Fin 2048) (h : Fin 4) (l : Fin 64) :
    (W17 m ρ c (Proc.devRef .tc main_v51) : FVec Ideal S2x2048x256 .f32) (ix3 b t ⟨h.val * 64 + l.val, by omega⟩)
      = (((H m c b h).DV t ⟨l.val, by omega⟩ : ℝ) : EReal) :=
  (end_dv (W16 m ρ c) b t h l).trans (by
    rw [dkv16 m ρ c hq hk hv hf hd]
    show (if 8 ≤ (256 * (8 + h.val) + (128 + l.val)) / 256 ∧ (256 * (8 + h.val) + (128 + l.val)) / 256 < 12 then _ else _) = _
    rw [if_pos (by omega)]
    refine (dkvAt_at (H m c) b h t ⟨128 + l.val, by omega⟩).trans ?_
    rw [DKV_v _ _ _ ⟨l.val, by omega⟩ rfl])

/-- The gradient of the queries' forget sums. -/
theorem out_dfq (b : Fin 2) (t : Fin 2048) (h : Fin 4) :
    (W17 m ρ c (Proc.devRef .tc main_v54) : FVec Ideal S2x2048x4 .f32) (ix3 b t h) = (((H m c b h).DFQ t : ℝ) : EReal) :=
  (end_dfq (W16 m ρ c) b t h).trans (by rw [dfq16 m ρ c hq hk hv hf hd]; rfl)

/-- The gradient of the keys' forget sums. -/
theorem out_dfk (b : Fin 2) (t : Fin 2048) (h : Fin 4) :
    (W17 m ρ c (Proc.devRef .tc main_v29) : FVec Ideal S2x2048x4 .f32) (ix3 b t h) = (((H m c b h).DFK t : ℝ) : EReal) :=
  (end_dfk (W16 m ρ c) b t h).trans (by rw [dfk16 m ρ c hq hk hv hf hd]; rfl)

end

end Cert.Proof.Fox
-- ==== Proof.FoxRef.lean ====
/- The plain attention and its gradient over the reals: what each result of the reference is at an index. -/
module

public import proofs.«01_k».proof.Proof.FoxIn
public import proofs.«01_k».proof.Proof.Gen.Reference4Ideal.Read

@[expose] public section

set_option maxRecDepth 16384

noncomputable section

open Idealize.ShloMosaic Idealize.ShloMosaic.TcCoe Idealize.SL.Sem
open Cert.Reference4Ideal Cert.Reference4Ideal.Read

namespace Cert.Proof.Fox

/-- A lane of a head among the packed 128. -/
def lane (l : Fin 64) : Fin 128 := ⟨l.val, by omega⟩

variable (x0 x1 x2 : FVec Ideal S2x2048x256 .f32) (x3 : FVec Ideal S2x2048x4 .f32) (x4 : FVec Ideal S2x2048x256 .f32)

/-- Head `h` of sequence `b`. -/
def headOf (b : Fin 2) (h : Fin 4) : Head where
  q t l := (lanes x0 b t h l).toReal
  k t l := (lanes x1 b t h l).toReal
  v t l := (lanes x2 b t h l).toReal
  d t l := (lanes x4 b t h l).toReal
  f t := (x3 (ix3 b t h) : EReal).toReal
  g t := (x3 (ix3 b t h) : EReal).toReal

theorem sel_le2 (s t : Fin 2048) (x y : EReal) :
    Scalar.select (IntOp.cmpi .sle (BitVec.ofNat 32 s.val) (BitVec.ofNat 32 t.val)) x y = if s.val ≤ t.val then x else y := by
  unfold Scalar.select
  congr 1
  rw [eq_iff_iff]
  exact WordCmp.cmpi_sle_ofNat_eq_one_iff (by omega) (by omega)

/-- A sum over packed lanes that vanishes past the head's own. -/
theorem sum_lanes (f : Fin 128 → ℝ) (h : ∀ l, 64 ≤ l.val → f l = 0) : ∑ l, f l = ∑ l : Fin 64, f (lane l) := by
  rw [Fin.sum_univ_tiles 2 64 (by norm_num) f, Fin.sum_univ_two]
  rw [Finset.sum_eq_zero (s := Finset.univ) (f := fun k : Fin 64 => f ⟨(1 : Fin 2).val * 64 + k.val, by have := k.isLt; show 1 * 64 + k.val < 128; omega⟩) (fun k _ => h _ (by show 64 ≤ 1 * 64 + k.val; omega)), add_zero]
  refine Finset.sum_congr rfl fun k _ => congrArg f (Fin.ext ?_)
  show 0 * 64 + k.val = k.val
  omega

theorem lanes_out (a : FVec Ideal S2x2048x256 .f32) (b t h) (l : Fin 128) (hl : 64 ≤ l.val) : (lanes a b t h l).toReal = 0 := by
  unfold lanes; rw [dif_neg (by omega)]; rfl

theorem split_at (a : FVec Ideal S2x2048x256 .f32) (ha : Reals a) (b : Fin 2) (t : Fin 2048) (h : Fin 4) (l : Fin 64)
    (w : S2x2048x256.ShapeCasts S2x2048x4x64) : shapeCast S2x2048x4x64 a w (ix4 b t h l) = (((lanes a b t h (lane l)).toReal : ℝ) : EReal) := by
  refine Eq.trans ?_ (lanes_real ha _ _ _ _)
  unfold lanes
  rw [dif_pos (by show l.val < 64; omega)]
  pointwise
  rfl

variable (h0 : Reals x0) (h1 : Reals x1) (h2 : Reals x2) (h3 : Reals x3) (h4 : Reals x4)

include h0 in
theorem v0_at (b : Fin 2) (t : Fin 2048) (h : Fin 4) (l : Fin 64) : val_main_v0 (F := Ideal) x0 (ix4 b t h l) = (((headOf x0 x1 x2 x3 x4 b h).q t (lane l) : ℝ) : EReal) :=
  split_at x0 h0 b t h l _
include h1 in
theorem v1_at (b : Fin 2) (t : Fin 2048) (h : Fin 4) (l : Fin 64) : val_main_v1 (F := Ideal) x1 (ix4 b t h l) = (((headOf x0 x1 x2 x3 x4 b h).k t (lane l) : ℝ) : EReal) :=
  split_at x1 h1 b t h l _
include h2 in
theorem v2_at (b : Fin 2) (t : Fin 2048) (h : Fin 4) (l : Fin 64) : val_main_v2 (F := Ideal) x2 (ix4 b t h l) = (((headOf x0 x1 x2 x3 x4 b h).v t (lane l) : ℝ) : EReal) :=
  split_at x2 h2 b t h l _
include h4 in
theorem v53_at (b : Fin 2) (t : Fin 2048) (h : Fin 4) (l : Fin 64) : val_main_v53 (F := Ideal) x4 (ix4 b h l t) = (((headOf x0 x1 x2 x3 x4 b h).d t (lane l) : ℝ) : EReal) := by
  rw [val_main_v53_apply]
  refine Eq.trans (congrArg (val_main_v52 (F := Ideal) x4) (?_ : _ = ix4 b t h l)) (split_at x4 h4 b t h l _)
  exact eq_ix4 _

include h0 h1 h3 in
theorem v13_at (b : Fin 2) (h : Fin 4) (t s : Fin 2048) :
    val_main_v13 (F := Ideal) x0 x1 x3 (ix4 b h t s) = (((headOf x0 x1 x2 x3 x4 b h).S t s : ℝ) : EReal) := by
  have hdot : val_main_v3 (F := Ideal) x0 x1 (ix4 b h t s) = ((∑ l : Fin 64, (headOf x0 x1 x2 x3 x4 b h).q t (lane l) * (headOf x0 x1 x2 x3 x4 b h).k s (lane l) : ℝ) : EReal) := by
    rw [val_main_v3_apply, ← coe_sum]
    refine Finset.sum_congr rfl fun l _ => ?_
    rw [EReal.coe_mul, ← v0_at x0 x1 x2 x3 x4 h0, ← v1_at x0 x1 x2 x3 x4 h1]
    exact congrArg₂ _ (congrArg _ (eq_ix4 _)) (congrArg _ (eq_ix4 _))
  have h12 : val_main_v12 (F := Ideal) x3 (ix4 b h t s) = (((headOf x0 x1 x2 x3 x4 b h).f t - (headOf x0 x1 x2 x3 x4 b h).g s : ℝ) : EReal) := by
    rw [EReal.coe_sub]
    refine Eq.trans ?_ (congrArg₂ (fun a b : EReal => a - b) (h3 (ix3 b t h)) (h3 (ix3 b s h)))
    rw [val_main_v12_apply, val_main_v10_apply, val_main_v11_apply, val_main_v7_apply, val_main_v9_apply, val_main_v6_apply, val_main_v8_apply]
    exact congrArg₂ (fun a b : EReal => a - b) (congrArg _ (eq_ix3 _)) (congrArg _ (eq_ix3 _))
  have h4 : val_main_v4 (F := Ideal) (ix4 b h t s) = (((1 / 8 : ℝ)) : EReal) := by
    rw [val_main_v4_apply, val_main_cst_apply]
    exact w_eighth
  rw [val_main_v13_apply, val_main_v5_apply, hdot, h12, h4]
  show ((_ : ℝ) : EReal) * ((_ : ℝ) : EReal) + ((_ : ℝ) : EReal) = _
  rw [← EReal.coe_mul, ← EReal.coe_add, Head.S, sum_lanes _ (fun l hl => by
    rw [show (headOf x0 x1 x2 x3 x4 b h).k s l = 0 from lanes_out x1 b s h l hl, mul_zero])]
  congr 2
  rw [Finset.sum_mul]
  exact Finset.sum_congr rfl fun l _ => by ring

include h0 h1 h3 in
theorem v20_at (b : Fin 2) (h : Fin 4) (t s : Fin 2048) :
    val_main_v20_0 (F := Ideal) x0 x1 x3 (ix4 b h t s) = (headOf x0 x1 x2 x3 x4 b h).lg t s := by
  have hm : val_main_v20_1 (F := Ideal) (ix4 b h t s) = IntOp.cmpi .sle (BitVec.ofNat 32 s.val) (BitVec.ofNat 32 t.val) := by
    rw [val_main_v20_1_apply]
    pointwise [val_main_v19, val_main_v17, val_main_v18, val_main_v15, val_main_v16, val_main_v14]
  have hb : val_main_call0_v2 (F := Ideal) (ix4 b h t s) = (⊥ : EReal) := by
    rw [val_main_call0_v2_apply]
    exact w_ninf
  rw [val_main_v20_0_apply, hm, hb, v13_at x0 x1 x2 x3 x4 h0 h1 h3, sel_le2, Head.lg]
  rfl

/-- The row maximum. -/
def μ (b : Fin 2) (h : Fin 4) (t : Fin 2048) : ℝ := (val_main_v21 (F := Ideal) x0 x1 x3 (ix3 b h t) : EReal).toReal

include x2 x4 h0 h1 h3 in
theorem v21_at (b : Fin 2) (h : Fin 4) (t : Fin 2048) : val_main_v21 (F := Ideal) x0 x1 x3 (ix3 b h t) = ((μ x0 x1 x3 b h t : ℝ) : EReal) := by
  have e : val_main_v21 (F := Ideal) x0 x1 x3 (ix3 b h t) = Finset.univ.sup fun s => (headOf x0 x1 x2 x3 x4 b h).lg t s := by
    rw [← fold_max_eq]
    simp only [← v20_at x0 x1 x2 x3 x4 h0 h1 h3]
    unfold val_main_v21
    generalize val_main_v20_0 (F := Ideal) x0 x1 x3 = y
    pointwise [val_main_cst_1]
    rw [w_ninf]
  have ht : (val_main_v21 (F := Ideal) x0 x1 x3 (ix3 b h t) : EReal) ≠ ⊤ := by
    rw [e]
    refine ne_of_lt ((Finset.sup_lt_iff (by simp)).2 fun s _ => lt_top_iff_ne_top.2 ((headOf x0 x1 x2 x3 x4 b h).lg_ne_top t s))
  have hb : (val_main_v21 (F := Ideal) x0 x1 x3 (ix3 b h t) : EReal) ≠ ⊥ := by
    rw [e]
    exact ne_of_gt (lt_of_lt_of_le (bot_lt_iff_ne_bot.2 ((headOf x0 x1 x2 x3 x4 b h).lg_self t)) (Finset.le_sup (f := fun s => (headOf x0 x1 x2 x3 x4 b h).lg t s) (Finset.mem_univ t)))
  exact (EReal.coe_toReal ht hb).symm

include h0 h1 h3 in
theorem v41_at (b : Fin 2) (h : Fin 4) (t s : Fin 2048) :
    val_main_v41 (F := Ideal) x0 x1 x3 (ix4 b h t s) = ((Real.exp (-μ x0 x1 x3 b h t) * (headOf x0 x1 x2 x3 x4 b h).E t s : ℝ) : EReal) := by
  have e : val_main_v39 (F := Ideal) x0 x1 x3 (ix4 b h t s) = ((μ x0 x1 x3 b h t : ℝ) : EReal) := by
    rw [val_main_v39_apply, val_main_v38_apply, val_main_v28_apply, ← v21_at x0 x1 x2 x3 x4 h0 h1 h3]
    refine Eq.trans (congrArg₂ max (?_ : _ = (⊥ : EReal)) (congrArg (val_main_v21 (F := Ideal) x0 x1 x3) (eq_ix3 _))) (max_eq_right bot_le)
    rw [val_main_v27_apply]
    exact w_ninf
  rw [val_main_v41_apply, val_main_v40_apply, v20_at x0 x1 x2 x3 x4 h0 h1 h3, e, ← Head.wt_lg]
  exact exp_sub_coe ((headOf x0 x1 x2 x3 x4 b h).lg_ne_top t s) _

theorem w_zero : Ideal.ofBits .f32 0#32 = 0 := by simp [Ideal.ofBits, Ideal.ieee]

include h0 h1 h3 in
theorem v43_at (b : Fin 2) (h : Fin 4) (t : Fin 2048) (z : Fin 1) :
    val_main_v43 (F := Ideal) x0 x1 x3 (ix4 b h t z) = ((Real.exp (-μ x0 x1 x3 b h t) * (headOf x0 x1 x2 x3 x4 b h).Z t : ℝ) : EReal) := by
  rw [val_main_v43_apply, val_main_v42_apply, Head.Z, Finset.mul_sum, ← coe_sum]
  refine Eq.trans (congrArg₂ (fun a b : EReal => a + b) w_zero (Finset.sum_congr rfl fun s _ => ?_)) (zero_add _)
  rw [← v41_at x0 x1 x2 x3 x4 h0 h1 h3]
  exact congrArg _ (eq_ix4 _)

theorem eZ_pos (b : Fin 2) (h : Fin 4) (t : Fin 2048) : 0 < Real.exp (-μ x0 x1 x3 b h t) * (headOf x0 x1 x2 x3 x4 b h).Z t :=
  mul_pos (Real.exp_pos _) ((headOf x0 x1 x2 x3 x4 b h).Z_pos t)

theorem div_real (a b : ℝ) (hb : b ≠ 0) : Ideal.div (a : EReal) (b : EReal) = ((a / b : ℝ) : EReal) := by
  rw [Ideal.div_coe hb, ← EReal.coe_mul, one_div, div_eq_mul_inv]

include h0 h1 h3 in
theorem v45_at (b : Fin 2) (h : Fin 4) (t s : Fin 2048) :
    val_main_v45 (F := Ideal) x0 x1 x3 (ix4 b h t s) = (((headOf x0 x1 x2 x3 x4 b h).P t s : ℝ) : EReal) := by
  rw [val_main_v45_apply, v41_at x0 x1 x2 x3 x4 h0 h1 h3, val_main_v44_apply,
    show idx_main_v44 (ix4 b h t s) = ix4 b h t 0 from eq_ix4 _, v43_at x0 x1 x2 x3 x4 h0 h1 h3]
  refine (div_real _ _ (eZ_pos x0 x1 x2 x3 x4 b h t).ne').trans ?_
  rw [Head.P, mul_div_mul_left _ _ (Real.exp_pos _).ne']

include h2 h4 in
theorem v54_at (b : Fin 2) (h : Fin 4) (t s : Fin 2048) :
    val_main_v54 (F := Ideal) x2 x4 (ix4 b h t s) = (((headOf x0 x1 x2 x3 x4 b h).dP t s : ℝ) : EReal) := by
  rw [val_main_v54_apply, Head.dP, sum_lanes _ (fun l hl => by rw [show (headOf x0 x1 x2 x3 x4 b h).v s l = 0 from lanes_out x2 b s h l hl, mul_zero]), ← coe_sum]
  refine Finset.sum_congr rfl fun l _ => ?_
  rw [EReal.coe_mul, ← v53_at x0 x1 x2 x3 x4 h4, ← v2_at x0 x1 x2 x3 x4 h2]
  exact congrArg₂ _ (congrArg _ (eq_ix4 _)) (congrArg _ (eq_ix4 _))

theorem w_one : Ideal.ofBits .f32 1065353216#32 = ((1 : ℝ) : EReal) := by
  simp [Ideal.ofBits, Ideal.ieee]
  rw [← EReal.coe_mul]
  norm_num

include h0 h1 h3 in
theorem v48_at (b : Fin 2) (h : Fin 4) (t : Fin 2048) (z : Fin 1) :
    val_main_v48 (F := Ideal) x0 x1 x3 (ix4 b h t z)
      = ((1 / (Real.exp (-μ x0 x1 x3 b h t) * (headOf x0 x1 x2 x3 x4 b h).Z t * (Real.exp (-μ x0 x1 x3 b h t) * (headOf x0 x1 x2 x3 x4 b h).Z t)) : ℝ) : EReal) := by
  rw [val_main_v48_apply, val_main_v46_apply, v43_at x0 x1 x2 x3 x4 h0 h1 h3, val_main_v47_apply]
  have hz := (eZ_pos x0 x1 x2 x3 x4 b h t).ne'
  refine Eq.trans ?_ (div_real 1 _ (mul_ne_zero hz hz))
  exact congrArg₂ Ideal.div w_one (EReal.coe_mul _ _).symm

include h0 h1 h2 h3 h4 in
theorem v60_at (b : Fin 2) (h : Fin 4) (t : Fin 2048) :
    val_main_v60 (F := Ideal) x0 x1 x2 x3 x4 (ix3 b h t) = (((headOf x0 x1 x2 x3 x4 b h).Δ t / (Real.exp (-μ x0 x1 x3 b h t) * (headOf x0 x1 x2 x3 x4 b h).Z t) : ℝ) : EReal) := by
  have hz := ((headOf x0 x1 x2 x3 x4 b h).Z_pos t).ne'
  have he := (Real.exp_pos (-μ x0 x1 x3 b h t)).ne'
  have hs : (headOf x0 x1 x2 x3 x4 b h).Δ t / (Real.exp (-μ x0 x1 x3 b h t) * (headOf x0 x1 x2 x3 x4 b h).Z t)
      = ∑ s, (headOf x0 x1 x2 x3 x4 b h).dP t s * (1 / (Real.exp (-μ x0 x1 x3 b h t) * (headOf x0 x1 x2 x3 x4 b h).Z t * (Real.exp (-μ x0 x1 x3 b h t) * (headOf x0 x1 x2 x3 x4 b h).Z t))) * (Real.exp (-μ x0 x1 x3 b h t) * (headOf x0 x1 x2 x3 x4 b h).E t s) := by
    have h1 := (headOf x0 x1 x2 x3 x4 b h).dP_O t
    have h2 : (headOf x0 x1 x2 x3 x4 b h).Δ t / (Real.exp (-μ x0 x1 x3 b h t) * (headOf x0 x1 x2 x3 x4 b h).Z t)
        = (1 / (Real.exp (-μ x0 x1 x3 b h t) * (headOf x0 x1 x2 x3 x4 b h).Z t * (Real.exp (-μ x0 x1 x3 b h t) * (headOf x0 x1 x2 x3 x4 b h).Z t))) * Real.exp (-μ x0 x1 x3 b h t) * ((headOf x0 x1 x2 x3 x4 b h).Z t * (headOf x0 x1 x2 x3 x4 b h).Δ t) := by
      field_simp
    rw [h2, ← h1, Finset.mul_sum]
    exact Finset.sum_congr rfl fun s _ => by ring
  rw [val_main_v60_apply, hs, ← coe_sum]
  refine Eq.trans (congrArg₂ (fun a b : EReal => a + b) w_zero (Finset.sum_congr rfl fun s _ => ?_)) (zero_add _)
  rw [show idx_main_v60 (ix3 b h t) s = ix4 b h t s from eq_ix4 _, val_main_v59_apply, val_main_v58_apply, val_main_v57_apply,
    show idx_main_v57 (ix4 b h t s) = ix4 b h t 0 from eq_ix4 _, v48_at x0 x1 x2 x3 x4 h0 h1 h3, v54_at x0 x1 x2 x3 x4 h2 h4,
    v41_at x0 x1 x2 x3 x4 h0 h1 h3, EReal.coe_mul _ (_ * _), EReal.coe_mul _ (1 / _)]
  rfl

include h0 h1 h2 h3 h4 in
theorem v65_at (b : Fin 2) (h : Fin 4) (t : Fin 2048) :
    val_main_v65 (F := Ideal) x0 x1 x2 x3 x4 (ix3 b h t) = ((-((headOf x0 x1 x2 x3 x4 b h).Δ t / (Real.exp (-μ x0 x1 x3 b h t) * (headOf x0 x1 x2 x3 x4 b h).Z t)) : ℝ) : EReal) := by
  rw [val_main_v65_apply]
  refine Eq.trans (congrArg₂ (fun a b : EReal => a + b) w_zero (Fintype.sum_unique _)) ((zero_add _).trans ?_)
  rw [val_main_v62_apply]
  refine Eq.trans (congrArg (fun a : EReal => -a) (?_ : _ = (((headOf x0 x1 x2 x3 x4 b h).Δ t / (Real.exp (-μ x0 x1 x3 b h t) * (headOf x0 x1 x2 x3 x4 b h).Z t) : ℝ) : EReal))) (EReal.coe_neg _).symm
  rw [← v60_at x0 x1 x2 x3 x4 h0 h1 h2 h3 h4]
  refine (congrArg (val_main_v61 (F := Ideal) x0 x1 x2 x3 x4) (eq_ix4 _)).trans ?_
  unfold val_main_v61
  generalize val_main_v60 (F := Ideal) x0 x1 x2 x3 x4 = y
  pointwise
  rfl

include h0 h1 h2 h3 h4 in
/-- The cotangent of a logit. -/
theorem v69_at (b : Fin 2) (h : Fin 4) (t s : Fin 2048) :
    val_main_v69 (F := Ideal) x0 x1 x2 x3 x4 (ix4 b h t s) = (((headOf x0 x1 x2 x3 x4 b h).DS t s : ℝ) : EReal) := by
  have hz := ((headOf x0 x1 x2 x3 x4 b h).Z_pos t).ne'
  have he := (Real.exp_pos (-μ x0 x1 x3 b h t)).ne'
  have h68 : val_main_v68 (F := Ideal) x0 x1 x2 x3 x4 (ix4 b h t s) = (((headOf x0 x1 x2 x3 x4 b h).DS t s : ℝ) : EReal) := by
    have hs : (headOf x0 x1 x2 x3 x4 b h).DS t s = ((headOf x0 x1 x2 x3 x4 b h).dP t s / (Real.exp (-μ x0 x1 x3 b h t) * (headOf x0 x1 x2 x3 x4 b h).Z t) + -((headOf x0 x1 x2 x3 x4 b h).Δ t / (Real.exp (-μ x0 x1 x3 b h t) * (headOf x0 x1 x2 x3 x4 b h).Z t)))
        * (Real.exp (-μ x0 x1 x3 b h t) * (headOf x0 x1 x2 x3 x4 b h).E t s) := by
      rw [Head.DS, Head.P]; field_simp; ring
    rw [hs, EReal.coe_mul, EReal.coe_add, ← div_real _ _ (eZ_pos x0 x1 x2 x3 x4 b h t).ne', ← v65_at x0 x1 x2 x3 x4 h0 h1 h2 h3 h4,
      ← v41_at x0 x1 x2 x3 x4 h0 h1 h3, ← v54_at x0 x1 x2 x3 x4 h2 h4, ← v43_at x0 x1 x2 x3 x4 h0 h1 h3 b h t 0,
      val_main_v68_apply, val_main_v67_apply, val_main_v66_apply, val_main_v64_apply, val_main_v63_apply]
    refine congrArg (fun a : EReal => a * _) (congrArg₂ (fun a b : EReal => a + b) (congrArg (Ideal.div _) (congrArg _ (eq_ix4 _))) (congrArg _ (eq_ix3 _)))
  have hm : val_main_v20_1 (F := Ideal) (ix4 b h t s) = IntOp.cmpi .sle (BitVec.ofNat 32 s.val) (BitVec.ofNat 32 t.val) := by
    rw [val_main_v20_1_apply]
    pointwise [val_main_v19, val_main_v17, val_main_v18, val_main_v15, val_main_v16, val_main_v14]
  rw [val_main_v69_apply, hm, h68, sel_le2]
  by_cases hs : s.val ≤ t.val
  · rw [if_pos hs]
  · rw [if_neg hs, Head.DS, Head.P, Head.E, if_neg (show ¬s ≤ t from hs)]
    rw [val_main_call1_v0_apply]
    refine w_zero.trans ?_
    simp

include h0 h1 h2 h3 in
theorem v49_at (b : Fin 2) (h : Fin 4) (l : Fin 64) (t : Fin 2048) :
    val_main_v49 (F := Ideal) x0 x1 x2 x3 (ix4 b h l t) = (((headOf x0 x1 x2 x3 x4 b h).O t (lane l) : ℝ) : EReal) := by
  have hs : (headOf x0 x1 x2 x3 x4 b h).O t (lane l) = ∑ s, (headOf x0 x1 x2 x3 x4 b h).v s (lane l) * (headOf x0 x1 x2 x3 x4 b h).P t s := by
    rw [Head.O, Finset.sum_div]
    exact Finset.sum_congr rfl fun s _ => by rw [Head.P]; ring
  rw [val_main_v49_apply, hs, ← coe_sum]
  refine Finset.sum_congr rfl fun s _ => ?_
  rw [EReal.coe_mul, ← v2_at x0 x1 x2 x3 x4 h2, ← v45_at x0 x1 x2 x3 x4 h0 h1 h3]
  exact congrArg₂ _ (congrArg _ (eq_ix4 _)) (congrArg _ (eq_ix4 _))

include h0 h1 h3 h4 in
theorem v55_at (b : Fin 2) (h : Fin 4) (l : Fin 64) (s : Fin 2048) :
    val_main_v55 (F := Ideal) x0 x1 x3 x4 (ix4 b h l s) = (((headOf x0 x1 x2 x3 x4 b h).DV s (lane l) : ℝ) : EReal) := by
  rw [val_main_v55_apply, Head.DV, ← coe_sum]
  refine Finset.sum_congr rfl fun t _ => ?_
  rw [mul_comm ((headOf x0 x1 x2 x3 x4 b h).P t s), EReal.coe_mul, ← v53_at x0 x1 x2 x3 x4 h4, ← v45_at x0 x1 x2 x3 x4 h0 h1 h3]
  exact congrArg₂ _ (congrArg _ (eq_ix4 _)) (congrArg _ (eq_ix4 _))

include h0 h1 h2 h3 h4

theorem v80_at (b : Fin 2) (h : Fin 4) (t s : Fin 2048) :
    val_main_v80 (F := Ideal) x0 x1 x2 x3 x4 (ix4 b h t s) = (((headOf x0 x1 x2 x3 x4 b h).DS t s * (1 / 8) : ℝ) : EReal) := by
  rw [val_main_v80_apply, v69_at x0 x1 x2 x3 x4 h0 h1 h2 h3 h4, EReal.coe_mul, val_main_v79_apply]
  exact congrArg (fun a : EReal => _ * a) w_eighth

theorem v81_at (b : Fin 2) (h : Fin 4) (s : Fin 2048) (l : Fin 64) :
    val_main_v81 (F := Ideal) x0 x1 x2 x3 x4 (ix4 b h s l) = (((headOf x0 x1 x2 x3 x4 b h).DK s (lane l) : ℝ) : EReal) := by
  rw [val_main_v81_apply, Head.DK, ← coe_sum]
  refine Finset.sum_congr rfl fun t _ => ?_
  rw [show (headOf x0 x1 x2 x3 x4 b h).DS t s * ((headOf x0 x1 x2 x3 x4 b h).q t (lane l) * (1 / 8)) = (headOf x0 x1 x2 x3 x4 b h).DS t s * (1 / 8) * (headOf x0 x1 x2 x3 x4 b h).q t (lane l) by ring,
    EReal.coe_mul, ← v0_at x0 x1 x2 x3 x4 h0, ← v80_at x0 x1 x2 x3 x4 h0 h1 h2 h3 h4]
  exact congrArg₂ _ (congrArg _ (eq_ix4 _)) (congrArg _ (eq_ix4 _))

theorem v83_at (b : Fin 2) (h : Fin 4) (t : Fin 2048) (l : Fin 64) :
    val_main_v83 (F := Ideal) x0 x1 x2 x3 x4 (ix4 b h t l) = (((headOf x0 x1 x2 x3 x4 b h).DQ t (lane l) : ℝ) : EReal) := by
  rw [val_main_v83_apply, Head.DQ, Finset.sum_mul, ← coe_sum]
  refine Finset.sum_congr rfl fun s _ => ?_
  rw [show (headOf x0 x1 x2 x3 x4 b h).DS t s * (headOf x0 x1 x2 x3 x4 b h).k s (lane l) * (1 / 8) = (headOf x0 x1 x2 x3 x4 b h).DS t s * (1 / 8) * (headOf x0 x1 x2 x3 x4 b h).k s (lane l) by ring,
    EReal.coe_mul, ← v1_at x0 x1 x2 x3 x4 h1, ← v80_at x0 x1 x2 x3 x4 h0 h1 h2 h3 h4]
  exact congrArg₂ _ (congrArg _ (eq_ix4 _)) (congrArg _ (eq_ix4 _))

theorem v70_at (b : Fin 2) (h : Fin 4) (t : Fin 2048) :
    val_main_v70 (F := Ideal) x0 x1 x2 x3 x4 (ix3 b h t) = (((headOf x0 x1 x2 x3 x4 b h).DFQ t : ℝ) : EReal) := by
  rw [val_main_v70_apply, Head.DFQ, ← coe_sum]
  refine Eq.trans (congrArg₂ (fun a b : EReal => a + b) w_zero (Finset.sum_congr rfl fun s _ => ?_)) (zero_add _)
  rw [← v69_at x0 x1 x2 x3 x4 h0 h1 h2 h3 h4]
  exact congrArg _ (eq_ix4 _)

theorem v73_at (b : Fin 2) (h : Fin 4) (s : Fin 2048) :
    val_main_v73 (F := Ideal) x0 x1 x2 x3 x4 (ix3 b h s) = (((headOf x0 x1 x2 x3 x4 b h).DFK s : ℝ) : EReal) := by
  rw [val_main_v73_apply, Head.DFK, ← Finset.sum_neg_distrib, ← coe_sum]
  refine Eq.trans (congrArg₂ (fun a b : EReal => a + b) w_zero (Finset.sum_congr rfl fun t _ => ?_)) (zero_add _)
  rw [EReal.coe_neg, ← v69_at x0 x1 x2 x3 x4 h0 h1 h2 h3 h4, val_main_v72_apply]
  exact congrArg (fun a : EReal => -a) (congrArg _ (eq_ix4 _))

omit h4 in
/-- The output. -/
theorem ref_o (b : Fin 2) (t : Fin 2048) (h : Fin 4) (l : Fin 64) :
    val_main_v51 (F := Ideal) x0 x1 x2 x3 (ix3 b t ⟨h.val * 64 + l.val, by omega⟩) = (((headOf x0 x1 x2 x3 x4 b h).O t (lane l) : ℝ) : EReal) := by
  refine Eq.trans (?_ : _ = val_main_v50 (F := Ideal) x0 x1 x2 x3 (ix4 b t h l)) ?_
  · unfold val_main_v51
    generalize val_main_v50 (F := Ideal) x0 x1 x2 x3 = y
    pointwise
  rw [val_main_v50_apply, ← v49_at x0 x1 x2 x3 x4 h0 h1 h2 h3]
  exact congrArg _ (eq_ix4 _)

/-- The gradient of the queries. -/
theorem ref_dq (b : Fin 2) (t : Fin 2048) (h : Fin 4) (l : Fin 64) :
    val_main_v87 (F := Ideal) x0 x1 x2 x3 x4 (ix3 b t ⟨h.val * 64 + l.val, by omega⟩) = (((headOf x0 x1 x2 x3 x4 b h).DQ t (lane l) : ℝ) : EReal) := by
  refine Eq.trans (?_ : _ = val_main_v84 (F := Ideal) x0 x1 x2 x3 x4 (ix4 b t h l)) ?_
  · unfold val_main_v87
    generalize val_main_v84 (F := Ideal) x0 x1 x2 x3 x4 = y
    pointwise
  rw [val_main_v84_apply, ← v83_at x0 x1 x2 x3 x4 h0 h1 h2 h3 h4]
  exact congrArg _ (eq_ix4 _)

/-- The gradient of the keys. -/
theorem ref_dk (b : Fin 2) (t : Fin 2048) (h : Fin 4) (l : Fin 64) :
    val_main_v86 (F := Ideal) x0 x1 x2 x3 x4 (ix3 b t ⟨h.val * 64 + l.val, by omega⟩) = (((headOf x0 x1 x2 x3 x4 b h).DK t (lane l) : ℝ) : EReal) := by
  refine Eq.trans (?_ : _ = val_main_v82 (F := Ideal) x0 x1 x2 x3 x4 (ix4 b t h l)) ?_
  · unfold val_main_v86
    generalize val_main_v82 (F := Ideal) x0 x1 x2 x3 x4 = y
    pointwise
  rw [val_main_v82_apply, ← v81_at x0 x1 x2 x3 x4 h0 h1 h2 h3 h4]
  exact congrArg _ (eq_ix4 _)

omit h2 in
/-- The gradient of the values. -/
theorem ref_dv (b : Fin 2) (t : Fin 2048) (h : Fin 4) (l : Fin 64) :
    val_main_v85 (F := Ideal) x0 x1 x3 x4 (ix3 b t ⟨h.val * 64 + l.val, by omega⟩) = (((headOf x0 x1 x2 x3 x4 b h).DV t (lane l) : ℝ) : EReal) := by
  refine Eq.trans (?_ : _ = val_main_v56 (F := Ideal) x0 x1 x3 x4 (ix4 b t h l)) ?_
  · unfold val_main_v85
    generalize val_main_v56 (F := Ideal) x0 x1 x3 x4 = y
    pointwise
  rw [val_main_v56_apply, ← v55_at x0 x1 x2 x3 x4 h0 h1 h3 h4]
  exact congrArg _ (eq_ix4 _)

/-- The gradient of the queries' forget sums. -/
theorem ref_dfq (b : Fin 2) (t : Fin 2048) (h : Fin 4) :
    val_main_v78 (F := Ideal) x0 x1 x2 x3 x4 (ix3 b t h) = (((headOf x0 x1 x2 x3 x4 b h).DFQ t : ℝ) : EReal) := by
  rw [val_main_v78_apply, show idx_main_v78 (ix3 b t h) = ix3 b h t from eq_ix3 _, val_main_v77_apply]
  refine Eq.trans (congrArg₂ (fun a b : EReal => a + b) w_zero (Fintype.sum_unique _)) ((zero_add _).trans ?_)
  rw [← v70_at x0 x1 x2 x3 x4 h0 h1 h2 h3 h4]
  refine (congrArg (val_main_v71 (F := Ideal) x0 x1 x2 x3 x4) (eq_ix4 _)).trans ?_
  unfold val_main_v71
  generalize val_main_v70 (F := Ideal) x0 x1 x2 x3 x4 = y
  pointwise
  rfl

/-- The gradient of the keys' forget sums. -/
theorem ref_dfk (b : Fin 2) (t : Fin 2048) (h : Fin 4) :
    val_main_v76 (F := Ideal) x0 x1 x2 x3 x4 (ix3 b t h) = (((headOf x0 x1 x2 x3 x4 b h).DFK t : ℝ) : EReal) := by
  rw [val_main_v76_apply, show idx_main_v76 (ix3 b t h) = ix3 b h t from eq_ix3 _, val_main_v75_apply]
  refine Eq.trans (congrArg₂ (fun a b : EReal => a + b) w_zero (Fintype.sum_unique _)) ((zero_add _).trans ?_)
  rw [← v73_at x0 x1 x2 x3 x4 h0 h1 h2 h3 h4]
  refine (congrArg (val_main_v74 (F := Ideal) x0 x1 x2 x3 x4) (eq_ix4 _)).trans ?_
  unfold val_main_v74
  generalize val_main_v73 (F := Ideal) x0 x1 x2 x3 x4 = y
  pointwise
  rfl

end Cert.Proof.Fox
-- ==== Proof.FoxRun.lean ====
/- The launch of the attention's forward call and its two backward calls: every weakly fair run ends with each result array at the contents the last
   host stretch leaves, the arguments unchanged and every counter at zero. -/
module

public import proofs.«01_k».proof.Proof.Gen.Kernel4Ideal.Frame

@[expose] public section

set_option maxRecDepth 16384

noncomputable section

namespace Cert.Proof.Fox

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The run, each result at the last boundary's contents. -/
theorem run_main : θ_run defs (onTc (τ := τ) (main (F := F))) ⟨m, fun _ => 0, ρ⟩ (fun r => (∀ c : Dev nD,
      r.2.mem ((c.tc : Thread nD τ).loc main_v36) = W17 m ρ c (Proc.devRef .tc main_v36)
      ∧ r.2.mem ((c.tc : Thread nD τ).loc main_v41) = W17 m ρ c (Proc.devRef .tc main_v41)
      ∧ r.2.mem ((c.tc : Thread nD τ).loc main_v46) = W17 m ρ c (Proc.devRef .tc main_v46)
      ∧ r.2.mem ((c.tc : Thread nD τ).loc main_v51) = W17 m ρ c (Proc.devRef .tc main_v51)
      ∧ r.2.mem ((c.tc : Thread nD τ).loc main_v54) = W17 m ρ c (Proc.devRef .tc main_v54)
      ∧ r.2.mem ((c.tc : Thread nD τ).loc main_v29) = W17 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨(fun c =>
      ⟨h c _ (mem_uc main_v36 (by decide)), h c _ (mem_uc main_v41 (by decide)), h c _ (mem_uc main_v46 (by decide)),
       h c _ (mem_uc main_v51 (by decide)), h c _ (mem_uc main_v54 (by decide)), h c _ (mem_uc main_v29 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c)⟩), funext fun g => hz g (.inr (no_unscoped g.2))⟩)

end Cert.Proof.Fox

end
-- ==== Proof.FoxClaims.lean ====
/- The claims about the attention's forward call and its two backward calls: the run, and the equality of every result with the plain
   attention and its derivative. -/
module

public import proofs.«01_k».proof.Proof.FoxOut
public import proofs.«01_k».proof.Proof.FoxRef
public import proofs.«01_k».proof.Proof.FoxRun
public import proofs.«01_k».proof.Proof.FfnClaims
public import proofs.«01_k».proof.Proof.Gen.Pre_finite4

@[expose] public section

set_option maxRecDepth 16384

noncomputable section

open Idealize.ShloMosaic Idealize.ShloMosaic.TcCoe Idealize.SL.Sem

namespace Cert.Proof.Fox

section Finite

open Cert.KernelIdeal.Val (Fine Fine.of_abs all_of_fold and_one)

theorem Fine.real {x : EReal} : Fine x → IsReal x
  | ⟨r, hr⟩ => by rw [hr]; rfl

/-- What the precondition says: every argument element is a real. -/
theorem reals_args (x0 x1 x2 : FVec Ideal Cert.Kernel4Ideal.S2x2048x256 .f32) (x3 : FVec Ideal Cert.Kernel4Ideal.S2x2048x4 .f32)
    (x4 : FVec Ideal Cert.Kernel4Ideal.S2x2048x256 .f32) (h : Cert.Pre_finite4.fn (F := Ideal) x0 x1 x2 x3 x4 = fun _ => 1#1) :
    Reals x0 ∧ Reals x1 ∧ Reals x2 ∧ Reals x3 ∧ Reals x4 := by
  have h0 := congrFun h (fun a => a.elim0)
  pointwise [Cert.Pre_finite4.fn, Cert.Pre_finite4.fn_part1] at h0
  obtain ⟨h0123, h4⟩ := and_one h0
  obtain ⟨h012, h3⟩ := and_one h0123
  obtain ⟨h01, h2⟩ := and_one h012
  obtain ⟨h0, h1⟩ := and_one h01
  refine ⟨fun i => ?_, fun i => ?_, fun i => ?_, fun i => ?_, fun i => ?_⟩
  · rw [eq_ix3 i]; exact Fine.real (Fine.of_abs (all_of_fold _ h0 (i 0, i 1, i 2)))
  · rw [eq_ix3 i]; exact Fine.real (Fine.of_abs (all_of_fold _ h1 (i 0, i 1, i 2)))
  · rw [eq_ix3 i]; exact Fine.real (Fine.of_abs (all_of_fold _ h2 (i 0, i 1, i 2)))
  · rw [eq_ix3 i]; exact Fine.real (Fine.of_abs (all_of_fold _ h3 (i 0, i 1, i 2)))
  · rw [eq_ix3 i]; exact Fine.real (Fine.of_abs (all_of_fold _ h4 (i 0, i 1, i 2)))

end Finite

section Results

open Cert.Kernel4Ideal Cert.Kernel4Ideal.Gen Cert.Reference4Ideal.Read

variable (m : (ℓ : Loc nD τ sig) → Buf (Elt Ideal) ℓ) (ρ : Dev nD → PrngReg) (c : Dev nD)

theorem H_eq : H m c = headOf (aQ m c) (aK m c) (aV m c) (aF m c) (aD m c) := rfl

variable (hq : Reals (aQ m c)) (hk : Reals (aK m c)) (hv : Reals (aV m c)) (hf : Reals (aF m c)) (hd : Reals (aD m c))

include hq hk hv hf in
theorem o_eq : W17 m ρ c (Proc.devRef .tc main_v36) = val_main_v51 (F := Ideal) (aQ m c) (aK m c) (aV m c) (aF m c) := by
  funext i
  rw [eq_ix3 i]
  obtain ⟨h, l, hl, e⟩ := Cert.Ffn.tile_of (J := 4) (T := 64) (N := 256) (by decide) (by decide) (i 2)
  rw [show (i 2 : Fin 256) = _ from e]
  exact (out_o m ρ c hq hk hv hf _ _ h l).trans (ref_o (aQ m c) (aK m c) (aV m c) (aF m c) (aD m c) hq hk hv hf _ _ h l).symm

include hq hk hv hf hd

theorem dq_eq : W17 m ρ c (Proc.devRef .tc main_v41) = val_main_v87 (F := Ideal) (aQ m c) (aK m c) (aV m c) (aF m c) (aD m c) := by
  funext i
  rw [eq_ix3 i]
  obtain ⟨h, l, hl, e⟩ := Cert.Ffn.tile_of (J := 4) (T := 64) (N := 256) (by decide) (by decide) (i 2)
  rw [show (i 2 : Fin 256) = _ from e]
  exact (out_dq m ρ c hq hk hv hf hd _ _ h l).trans (ref_dq (aQ m c) (aK m c) (aV m c) (aF m c) (aD m c) hq hk hv hf hd _ _ h l).symm

theorem dk_eq : W17 m ρ c (Proc.devRef .tc main_v46) = val_main_v86 (F := Ideal) (aQ m c) (aK m c) (aV m c) (aF m c) (aD m c) := by
  funext i
  rw [eq_ix3 i]
  obtain ⟨h, l, hl, e⟩ := Cert.Ffn.tile_of (J := 4) (T := 64) (N := 256) (by decide) (by decide) (i 2)
  rw [show (i 2 : Fin 256) = _ from e]
  exact (out_dk m ρ c hq hk hv hf hd _ _ h l).trans (ref_dk (aQ m c) (aK m c) (aV m c) (aF m c) (aD m c) hq hk hv hf hd _ _ h l).symm

theorem dv_eq : W17 m ρ c (Proc.devRef .tc main_v51) = val_main_v85 (F := Ideal) (aQ m c) (aK m c) (aF m c) (aD m c) := by
  funext i
  rw [eq_ix3 i]
  obtain ⟨h, l, hl, e⟩ := Cert.Ffn.tile_of (J := 4) (T := 64) (N := 256) (by decide) (by decide) (i 2)
  rw [show (i 2 : Fin 256) = _ from e]
  exact (out_dv m ρ c hq hk hv hf hd _ _ h l).trans (ref_dv (aQ m c) (aK m c) (aV m c) (aF m c) (aD m c) hq hk hf hd _ _ h l).symm

theorem dfq_eq : W17 m ρ c (Proc.devRef .tc main_v54) = val_main_v78 (F := Ideal) (aQ m c) (aK m c) (aV m c) (aF m c) (aD m c) := by
  funext i
  rw [eq_ix3 i]
  exact (out_dfq m ρ c hq hk hv hf hd _ _ _).trans (ref_dfq (aQ m c) (aK m c) (aV m c) (aF m c) (aD m c) hq hk hv hf hd _ _ _).symm

theorem dfk_eq : W17 m ρ c (Proc.devRef .tc main_v29) = val_main_v76 (F := Ideal) (aQ m c) (aK m c) (aV m c) (aF m c) (aD m c) := by
  funext i
  rw [eq_ix3 i]
  exact (out_dfk m ρ c hq hk hv hf hd _ _ _).trans (ref_dfk (aQ m c) (aK m c) (aV m c) (aF m c) (aD m c) hq hk hv hf hd _ _ _).symm

end Results

section Ref

open Cert.Reference4Ideal Cert.Reference4Ideal.Read

/-- The reference's run, each result under its name. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = val_main_v51 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v87) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v86) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v85) = val_main_v85 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v51_eq _ _), (h c).2.1.trans (val_main_v87_eq _ _),
    (h c).2.2.1.trans (val_main_v86_eq _ _), (h c).2.2.2.1.trans (val_main_v85_eq _ _), (h c).2.2.2.2.1.trans (val_main_v78_eq _ _),
    (h c).2.2.2.2.2.1.trans (val_main_v76_eq _ _), (h c).2.2.2.2.2.2⟩)
    (Cert.Reference4Ideal.Value.run (F := Ideal) m ρ)

end Ref

/-- The output and the five gradients, against the plain attention and its derivative. -/
theorem algebraic4 : Cert.algebraic_Kernel4Ideal_Reference4Ideal_pre_finite4 := by
  intro m g m' g' hpre hagree
  refine ⟨fun c => Cert.Kernel4Ideal.Gen.W17 m g c (Proc.devRef .tc Cert.Kernel4Ideal.main_v36), fun c => Cert.Kernel4Ideal.Gen.W17 m g c (Proc.devRef .tc Cert.Kernel4Ideal.main_v41),
    fun c => Cert.Kernel4Ideal.Gen.W17 m g c (Proc.devRef .tc Cert.Kernel4Ideal.main_v46), fun c => Cert.Kernel4Ideal.Gen.W17 m g c (Proc.devRef .tc Cert.Kernel4Ideal.main_v51),
    fun c => Cert.Kernel4Ideal.Gen.W17 m g c (Proc.devRef .tc Cert.Kernel4Ideal.main_v54), fun c => Cert.Kernel4Ideal.Gen.W17 m g c (Proc.devRef .tc Cert.Kernel4Ideal.main_v29),
    (θ_run Cert.Kernel4Ideal.defs _ _).mono (fun r h => h.1) (run_main (F := Ideal) m g),
    (θ_run Cert.Reference4Ideal.defs _ _).mono (fun r h c => ?_) (ref_run m' g')⟩
  obtain ⟨e0, e1, e2, e3, e4⟩ := hagree c
  obtain ⟨hq, hk, hv, hf, hd⟩ := reals_args _ _ _ _ _ (hpre c)
  obtain ⟨r0, r1, r2, r3, r4, r5, rest⟩ := h c
  rw [e0, e1, e2, e3] at r0
  rw [e0, e1, e2, e3, e4] at r1 r2 r4 r5
  rw [e0, e1, e3, e4] at r3
  exact ⟨r0.trans (o_eq m g c hq hk hv hf).symm, r1.trans (dq_eq m g c hq hk hv hf hd).symm, r2.trans (dk_eq m g c hq hk hv hf hd).symm,
    r3.trans (dv_eq m g c hq hk hv hf hd).symm, r4.trans (dfq_eq m g c hq hk hv hf hd).symm, r5.trans (dfk_eq m g c hq hk hv hf hd).symm, rest⟩

/-- The mask's constant is minus infinity. -/
theorem preserves4 : Cert.preserves_Kernel4_Kernel4Ideal := by
  exact ⟨rfl, fun _ => rfl, rfl⟩

theorem frameR4 : Cert.quiescent_Reference4Ideal := by
  intro m g _
  exact (θ_run Cert.Reference4Ideal.defs _ _).mono (fun r h => ⟨fun c => (h c).2.2.2.2.2.2,
      sem_eq_zero_of_no_sems (by decide) r.2⟩) (Cert.Reference4Ideal.Value.run (F := Ideal) m g)

end Cert.Proof.Fox

end
-- ==== Proof.MixPack.lean ====
/- The packed column layouts of the mixer's output and input projections: the value at each packed column of a row given at
   its own columns, and the sum of products over the packed columns. -/
module

public import Idealize.ShloMosaic.Lib.Pipeline.ValueKit

@[expose] public section

set_option maxRecDepth 16384

noncomputable section

open Idealize.ShloMosaic Idealize.ShloMosaic.TcCoe Idealize.SL.Sem

namespace Cert.Mix

/-- The row `g` of 1024 columns in the packed layout of 1536 columns: 256 columns, then 16 of 64 each in 128, then 512. -/
def moVal (g : ℕ → EReal) (j : ℕ) : EReal :=
  if j < 256 then g j
  else if j < 1280 then (if (j - 256) % 128 < 64 then g (256 + 64 * ((j - 256) / 128) + (j - 256) % 128) else 0)
  else g (j - 512)

theorem moVal_lo (g : ℕ → EReal) (j k : ℕ) (h : j < 256) (e : k = j) : g k = moVal g j := by
  unfold moVal; rw [if_pos h, e]
theorem moVal_mid (g : ℕ → EReal) (j k : ℕ) (h0 : ¬ j < 256) (h1 : j < 1280) (h2 : (j - 256) % 128 < 64)
    (e : k = 256 + 64 * ((j - 256) / 128) + (j - 256) % 128) : g k = moVal g j := by
  unfold moVal; rw [if_neg h0, if_pos h1, if_pos h2, e]
theorem moVal_first (g : ℕ → EReal) (j k : ℕ) (h : j < 320) (e : k = j) : g k = moVal g j := by
  by_cases h0 : j < 256
  · exact moVal_lo g j k h0 e
  · exact moVal_mid g j k h0 (by omega) (by omega) (by omega)
theorem moVal_zero (g : ℕ → EReal) (j : ℕ) (h0 : ¬ j < 256) (h1 : j < 1280) (h2 : ¬ (j - 256) % 128 < 64) : 0 = moVal g j := by
  unfold moVal; rw [if_neg h0, if_pos h1, if_neg h2]
theorem moVal_hi (g : ℕ → EReal) (j k : ℕ) (h : ¬ j < 1280) (e : k = j - 512) : g k = moVal g j := by
  unfold moVal; rw [if_neg (by omega), if_neg h, e]

/-- The packed column of an output column. -/
def moDst (k : ℕ) : ℕ := if k < 256 then k else if k < 768 then 256 + 128 * ((k - 256) / 64) + (k - 256) % 64 else k + 512

theorem moVal_moDst (g : ℕ → EReal) (k : ℕ) (h : k < 1024) : moVal g (moDst k) = g k := by
  unfold moDst
  split
  · exact (moVal_lo g _ _ ‹_› rfl).symm
  · split
    · exact (moVal_mid g _ _ (by omega) (by omega) (by omega) (by omega)).symm
    · exact (moVal_hi g _ _ (by omega) (by omega)).symm

theorem moDst_lt (k : ℕ) (h : k < 1024) : moDst k < 1536 := by
  unfold moDst; split <;> [skip; split] <;> omega

theorem moDst_inj (k k' : ℕ) (h : moDst k = moDst k') : k = k' := by
  unfold moDst at h
  split_ifs at h <;> omega

/-- Every packed column holds an output column or 0. -/
theorem mo_cases (j : ℕ) (h : j < 1536) : (∃ k, k < 1024 ∧ moDst k = j) ∨ ∀ g : ℕ → EReal, moVal g j = 0 := by
  by_cases h0 : j < 256
  · exact .inl ⟨j, by omega, by unfold moDst; rw [if_pos h0]⟩
  by_cases h1 : j < 1280
  · by_cases h2 : (j - 256) % 128 < 64
    · refine .inl ⟨256 + 64 * ((j - 256) / 128) + (j - 256) % 128, by omega, ?_⟩
      unfold moDst; rw [if_neg (by omega), if_pos (by omega)]; omega
    · exact .inr fun g => (moVal_zero g j h0 h1 h2).symm
  · exact .inl ⟨j - 512, by omega, by unfold moDst; rw [if_neg (by omega), if_neg (by omega)]; omega⟩

/-- A sum of products over the packed columns is the sum over the columns themselves. -/
theorem mo_sum (g h : ℕ → EReal) : ∑ j : Fin 1536, moVal g j.val * moVal h j.val = ∑ k : Fin 1024, g k.val * h k.val := by
  refine (Finset.sum_of_injOn (fun k : Fin 1024 => (⟨moDst k.val, moDst_lt _ k.isLt⟩ : Fin 1536)) ?_ ?_ ?_ ?_).symm
  · exact fun a _ b _ e => Fin.ext (moDst_inj _ _ (congrArg Fin.val e))
  · exact fun _ _ => Finset.mem_coe.mpr (Finset.mem_univ _)
  · intro j _ hj
    rcases mo_cases j.val j.isLt with ⟨k, hk, e⟩ | e
    · exact absurd ⟨⟨k, hk⟩, Finset.mem_coe.mpr (Finset.mem_univ _), Fin.ext e⟩ hj
    · rw [e g, zero_mul]
  · intro k _
    show _ = moVal g (moDst k.val) * moVal h (moDst k.val)
    rw [moVal_moDst g _ k.isLt, moVal_moDst h _ k.isLt]

theorem dite_to {c : Prop} [Decidable c] {a : c → EReal} {b : ¬ c → EReal} {x : EReal} (h1 : ∀ h, a h = x) (h2 : ∀ h, b h = x) :
    dite c a b = x := by
  split
  · exact h1 _
  · exact h2 _

/-- Row `t` of batch `b`, by column; 0 past the end. -/
@[irreducible] def row3 {n : ℕ} (x : Shape.Idx ⟨3, ![2, 2048, n]⟩ → EReal) (b : Fin 2) (t : Fin 2048) (k : ℕ) : EReal :=
  if h : k < n then x (ix3 b t ⟨k, h⟩) else 0

theorem row3_eq {n : ℕ} (x : Shape.Idx ⟨3, ![2, 2048, n]⟩ → EReal) (b : Fin 2) (t : Fin 2048) (k : ℕ) (h : k < n) :
    x (ix3 b t ⟨k, h⟩) = row3 x b t k := by
  unfold row3; rw [dif_pos h]

/-- Row `r` of a matrix, by column; 0 past the end. -/
@[irreducible] def row2 {p n : ℕ} (x : Shape.Idx ⟨2, ![p, n]⟩ → EReal) (r : Fin p) (k : ℕ) : EReal :=
  if h : k < n then x (ix2 r ⟨k, h⟩) else 0

theorem row2_eq {p n : ℕ} (x : Shape.Idx ⟨2, ![p, n]⟩ → EReal) (r : Fin p) (k : ℕ) (h : k < n) :
    x (ix2 r ⟨k, h⟩) = row2 x r k := by
  unfold row2; rw [dif_pos h]

/-- Column `r` of a matrix, by row; 0 past the end. -/
@[irreducible] def col2 {p n : ℕ} (x : Shape.Idx ⟨2, ![p, n]⟩ → EReal) (r : Fin n) (k : ℕ) : EReal :=
  if h : k < p then x (ix2 ⟨k, h⟩ r) else 0

theorem col2_eq {p n : ℕ} (x : Shape.Idx ⟨2, ![p, n]⟩ → EReal) (r : Fin n) (k : ℕ) (h : k < p) :
    x (ix2 ⟨k, h⟩ r) = col2 x r k := by
  unfold col2; rw [dif_pos h]

/-- A many-operand operation depends on its operands' contents only. -/
theorem nary_congr {τ : Topo} {sig : RefSig} {Val : EltTy → Type} {n : ℕ} (xs : Fin n → Ref sig .tc) (y : Ref sig .tc)
    (f : ((k : Fin n) → (xs k).ty.Contents Val) → y.ty.Contents Val) (hxs hy) (F G : Valuation τ sig Val)
    (h : ∀ k, F (Proc.devRef .tc (xs k)) = G (Proc.devRef .tc (xs k))) :
    (StableHlo.nary xs y f hxs hy : HloOp τ sig Val).result F (Proc.devRef .tc y)
      = (StableHlo.nary xs y f hxs hy : HloOp τ sig Val).result G (Proc.devRef .tc y) :=
  (StableHlo.nary_result xs y f hxs hy F).trans
    ((congrArg f (funext h)).trans (StableHlo.nary_result xs y f hxs hy G).symm)

end Cert.Mix
-- ==== Proof.Mix5Entry.lean ====
/- The operands of the mixer's output projection and of its gradient when their calls start, read at an index: the columns
   of the attention output and the rows of the weight laid out in the 1536 packed columns. -/
module

public import proofs.«01_k».proof.Proof.Gen.Kernel5Ideal.Frame
public import Idealize.ShloMosaic.Lib.Pipeline.ValueKit
public import Idealize.ShloMosaic.Lib.Claim
public import Idealize.ShloMosaic.Lib.StableHlo.RunRead
public import proofs.«01_k».proof.Proof.MixPack

@[expose] public section

set_option maxRecDepth 16384

noncomputable section

open Idealize.ShloMosaic Idealize.ShloMosaic.TcCoe Idealize.SL.Sem
open Idealize.ShloMosaic.Pipeline (Dat)

namespace Cert.Kernel5Ideal.Val

open Cert.Kernel5Ideal Cert.Kernel5Ideal.Gen Cert.Mix

/-- The host operations in stretches: the slices of the attention output, the joins of its two halves and of both, the
    slices of the weight, its joins, and what follows. -/
def oPieces : List (HloOp τ sig (Elt Ideal)) := hostOps0.take 26
def oLeft : List (HloOp τ sig (Elt Ideal)) := (hostOps0.drop 26).take 1
def oRight : List (HloOp τ sig (Elt Ideal)) := (hostOps0.drop 27).take 1
def oBoth : List (HloOp τ sig (Elt Ideal)) := (hostOps0.drop 28).take 1
def wPieces : List (HloOp τ sig (Elt Ideal)) := (hostOps0.drop 29).take 27
def wLeft : List (HloOp τ sig (Elt Ideal)) := (hostOps0.drop 56).take 1
def wRight : List (HloOp τ sig (Elt Ideal)) := (hostOps0.drop 57).take 1
def wBoth : List (HloOp τ sig (Elt Ideal)) := (hostOps0.drop 58).take 1
def rest : List (HloOp τ sig (Elt Ideal)) := hostOps0.drop 59

theorem split0 : (hostOps0 : List (HloOp τ sig (Elt Ideal)))
    = oPieces ++ (oLeft ++ (oRight ++ (oBoth ++ (wPieces ++ (wLeft ++ (wRight ++ (wBoth ++ rest))))))) := rfl

section
variable (V : Valuation τ sig (Elt Ideal))

set_option maxHeartbeats 4000000 in
theorem v18_at (b : Fin 2) (t : Fin 2048) (j : Fin 768) :
    (StableHlo.after oLeft (StableHlo.after oPieces V) (Proc.devRef .tc main_v18) : FVec Ideal S2x2048x768 .bf16) (ix3 b t j)
      = moVal (row3 (n := 1024) (V (Proc.devRef .tc main_arg0) : FVec Ideal S2x2048x1024 .f32) b t) j.val := by
  unfold oLeft
  dsimp only [hostOps0, List.take, List.drop]
  rw [StableHlo.after_cons, StableHlo.after_nil, StableHlo.nary_result]
  pointwise
  unfold oPieces
  dsimp only [hostOps0, List.take, List.drop, Matrix.cons_val]
  entry_read
  pointwise
  simp only [row3_eq (n := 1024)]
  repeat' refine dite_to (fun h => ?_) (fun h => ?_)
  all_goals first
    | exact moVal_mid _ _ _ (by omega) (by omega) (by omega) (by omega)
    | exact moVal_zero _ _ (by omega) (by omega) (by omega)
    | exact moVal_first _ _ _ (by omega) (by omega)
    | exact moVal_hi _ _ _ (by omega) (by omega)

theorem right_skip :
    StableHlo.after oRight (StableHlo.after oLeft V) (Proc.devRef .tc main_v19) = StableHlo.after oRight V (Proc.devRef .tc main_v19) := by
  generalize hX : StableHlo.after oLeft V = X
  unfold oRight
  dsimp only [hostOps0, List.take, List.drop]
  rw [StableHlo.after_cons, StableHlo.after_nil, StableHlo.after_cons, StableHlo.after_nil]
  refine nary_congr _ _ _ _ _ _ _ fun k => ?_
  rw [← hX]
  exact StableHlo.after_unwritten [main_v18] rfl (by revert k; decide) _

set_option maxHeartbeats 4000000 in
theorem v19_at (b : Fin 2) (t : Fin 2048) (j : Fin 768) :
    (StableHlo.after oRight (StableHlo.after oLeft (StableHlo.after oPieces V)) (Proc.devRef .tc main_v19) : FVec Ideal S2x2048x768 .bf16) (ix3 b t j)
      = moVal (row3 (n := 1024) (V (Proc.devRef .tc main_arg0) : FVec Ideal S2x2048x1024 .f32) b t) (768 + j.val) := by
  rw [right_skip]
  unfold oRight
  dsimp only [hostOps0, List.take, List.drop]
  rw [StableHlo.after_cons, StableHlo.after_nil, StableHlo.nary_result]
  pointwise
  unfold oPieces
  dsimp only [hostOps0, List.take, List.drop, Matrix.cons_val]
  entry_read
  pointwise
  simp only [row3_eq (n := 1024)]
  repeat' refine dite_to (fun h => ?_) (fun h => ?_)
  all_goals first
    | exact moVal_mid _ _ _ (by omega) (by omega) (by omega) (by omega)
    | exact moVal_zero _ _ (by omega) (by omega) (by omega)
    | exact moVal_first _ _ _ (by omega) (by omega)
    | exact moVal_hi _ _ _ (by omega) (by omega)

theorem v20_at (b : Fin 2) (t : Fin 2048) (j : Fin 1536) :
    (StableHlo.after oBoth (StableHlo.after oRight (StableHlo.after oLeft (StableHlo.after oPieces V))) (Proc.devRef .tc main_v20)
        : FVec Ideal S2x2048x1536 .bf16) (ix3 b t j)
      = moVal (row3 (n := 1024) (V (Proc.devRef .tc main_arg0) : FVec Ideal S2x2048x1024 .f32) b t) j.val := by
  unfold oBoth
  dsimp only [hostOps0, List.take, List.drop]
  rw [StableHlo.after_cons, StableHlo.after_nil, StableHlo.binary_result]
  pointwise
  split
  · rw [StableHlo.after_unwritten [main_v19] rfl (by decide)]
    exact v18_at V b t _
  · refine (v19_at V b t _).trans (congrArg _ ?_)
    show 768 + (j.val - 768) = j.val
    omega

set_option maxHeartbeats 4000000 in
theorem v40_at (n : Fin 1024) (j : Fin 768) :
    (StableHlo.after wLeft (StableHlo.after wPieces V) (Proc.devRef .tc main_v40) : FVec Ideal S1024x768 .bf16) (ix2 n j)
      = moVal (col2 (p := 1024) (V (Proc.devRef .tc main_arg1) : FVec Ideal S1024x1024 .f32) n) j.val := by
  unfold wLeft
  dsimp only [hostOps0, List.take, List.drop]
  rw [StableHlo.after_cons, StableHlo.after_nil, StableHlo.nary_result]
  pointwise
  unfold wPieces
  dsimp only [hostOps0, List.take, List.drop, Matrix.cons_val]
  entry_read
  pointwise
  simp only [col2_eq (p := 1024)]
  repeat' refine dite_to (fun h => ?_) (fun h => ?_)
  all_goals first
    | exact moVal_mid _ _ _ (by omega) (by omega) (by omega) (by omega)
    | exact moVal_zero _ _ (by omega) (by omega) (by omega)
    | exact moVal_first _ _ _ (by omega) (by omega)
    | exact moVal_hi _ _ _ (by omega) (by omega)

theorem wright_skip :
    StableHlo.after wRight (StableHlo.after wLeft V) (Proc.devRef .tc main_v41) = StableHlo.after wRight V (Proc.devRef .tc main_v41) := by
  generalize hX : StableHlo.after wLeft V = X
  unfold wRight
  dsimp only [hostOps0, List.take, List.drop]
  rw [StableHlo.after_cons, StableHlo.after_nil, StableHlo.after_cons, StableHlo.after_nil]
  refine nary_congr _ _ _ _ _ _ _ fun k => ?_
  rw [← hX]
  exact StableHlo.after_unwritten [main_v40] rfl (by revert k; decide) _

set_option maxHeartbeats 4000000 in
theorem v41_at (n : Fin 1024) (j : Fin 768) :
    (StableHlo.after wRight (StableHlo.after wLeft (StableHlo.after wPieces V)) (Proc.devRef .tc main_v41) : FVec Ideal S1024x768 .bf16) (ix2 n j)
      = moVal (col2 (p := 1024) (V (Proc.devRef .tc main_arg1) : FVec Ideal S1024x1024 .f32) n) (768 + j.val) := by
  rw [wright_skip]
  unfold wRight
  dsimp only [hostOps0, List.take, List.drop]
  rw [StableHlo.after_cons, StableHlo.after_nil, StableHlo.nary_result]
  pointwise
  unfold wPieces
  dsimp only [hostOps0, List.take, List.drop, Matrix.cons_val]
  entry_read
  pointwise
  simp only [col2_eq (p := 1024)]
  repeat' refine dite_to (fun h => ?_) (fun h => ?_)
  all_goals first
    | exact moVal_mid _ _ _ (by omega) (by omega) (by omega) (by omega)
    | exact moVal_zero _ _ (by omega) (by omega) (by omega)
    | exact moVal_first _ _ _ (by omega) (by omega)
    | exact moVal_hi _ _ _ (by omega) (by omega)

theorem v42_at (n : Fin 1024) (j : Fin 1536) :
    (StableHlo.after wBoth (StableHlo.after wRight (StableHlo.after wLeft (StableHlo.after wPieces V))) (Proc.devRef .tc main_v42)
        : FVec Ideal S1024x1536 .bf16) (ix2 n j)
      = moVal (col2 (p := 1024) (V (Proc.devRef .tc main_arg1) : FVec Ideal S1024x1024 .f32) n) j.val := by
  unfold wBoth
  dsimp only [hostOps0, List.take, List.drop]
  rw [StableHlo.after_cons, StableHlo.after_nil, StableHlo.binary_result]
  pointwise
  split
  · rw [StableHlo.after_unwritten [main_v41] rfl (by decide)]
    exact v40_at V n _
  · refine (v41_at V n _).trans (congrArg _ ?_)
    show 768 + (j.val - 768) = j.val
    omega

theorem v43_at (n : Fin 1024) (j : Fin 1536) :
    (StableHlo.after rest V (Proc.devRef .tc main_v43) : FVec Ideal S1536x1024 .bf16) (ix2 j n)
      = (V (Proc.devRef .tc main_v42) : FVec Ideal S1024x1536 .bf16) (ix2 n j) := by
  unfold rest
  dsimp only [hostOps0, List.take, List.drop]
  entry_read
  pointwise

theorem v45_at (b : Fin 2) (t : Fin 2048) (n : Fin 1024) :
    (StableHlo.after rest V (Proc.devRef .tc main_v45) : FVec Ideal S1x4096x1024 .bf16) (ix3 0 ⟨b.val * 2048 + t.val, by omega⟩ n)
      = (V (Proc.devRef .tc main_arg2) : FVec Ideal S2x2048x1024 .f32) (ix3 b t n) := by
  unfold rest
  dsimp only [hostOps0, List.take, List.drop]
  entry_read
  pointwise

theorem v46_at (b : Fin 2) (t : Fin 2048) (j : Fin 1536) :
    (StableHlo.after rest V (Proc.devRef .tc main_v46) : FVec Ideal S1x4096x1536 .bf16) (ix3 0 ⟨b.val * 2048 + t.val, by omega⟩ j)
      = (V (Proc.devRef .tc main_v20) : FVec Ideal S2x2048x1536 .bf16) (ix3 b t j) := by
  unfold rest
  dsimp only [hostOps0, List.take, List.drop]
  entry_read
  pointwise

theorem v47_at (n : Fin 1024) (j : Fin 1536) :
    (StableHlo.after rest V (Proc.devRef .tc main_v47) : FVec Ideal S1x1536x1024 .bf16) (ix3 0 j n)
      = (V (Proc.devRef .tc main_v42) : FVec Ideal S1024x1536 .bf16) (ix2 n j) := by
  unfold rest
  dsimp only [hostOps0, List.take, List.drop]
  entry_read
  pointwise

/-- The stretches up to the weight's slices leave the other arguments, and those after the first join leave it. -/
abbrev oW : List (Ref sig .tc) := [main_v0, main_v1, main_cst, main_v2, main_v3, main_cst_0, main_v4, main_v5, main_cst_1, main_v6,
  main_v7, main_cst_2, main_v8, main_v9, main_cst_3, main_v10, main_v11, main_cst_4, main_v12, main_v13, main_cst_5, main_v14,
  main_v15, main_cst_6, main_v16, main_v17]
abbrev wW : List (Ref sig .tc) := [main_v21, main_v22, main_v23, main_cst_7, main_v24, main_v25, main_cst_8, main_v26, main_v27,
  main_cst_9, main_v28, main_v29, main_cst_10, main_v30, main_v31, main_cst_11, main_v32, main_v33, main_cst_12, main_v34, main_v35,
  main_cst_13, main_v36, main_v37, main_cst_14, main_v38, main_v39]

/-- The contents after the joined attention output. -/
abbrev oEnd : Valuation τ sig (Elt Ideal) :=
  StableHlo.after oBoth (StableHlo.after oRight (StableHlo.after oLeft (StableHlo.after oPieces V)))
/-- The contents after the joined weight. -/
abbrev wEnd : Valuation τ sig (Elt Ideal) :=
  StableHlo.after wBoth (StableHlo.after wRight (StableHlo.after wLeft (StableHlo.after wPieces V)))

theorem oEnd_of (r : Ref sig .tc) (h1 : r ∉ oW) (h2 : r ∉ [main_v18]) (h3 : r ∉ [main_v19]) (h4 : r ∉ [main_v20]) :
    oEnd V (Proc.devRef .tc r) = V (Proc.devRef .tc r) :=
  (StableHlo.after_unwritten [main_v20] rfl h4 _).trans ((StableHlo.after_unwritten [main_v19] rfl h3 _).trans
    ((StableHlo.after_unwritten [main_v18] rfl h2 _).trans (StableHlo.after_unwritten oW rfl h1 _)))

theorem wEnd_of (r : Ref sig .tc) (h1 : r ∉ wW) (h2 : r ∉ [main_v40]) (h3 : r ∉ [main_v41]) (h4 : r ∉ [main_v42]) :
    wEnd V (Proc.devRef .tc r) = V (Proc.devRef .tc r) :=
  (StableHlo.after_unwritten [main_v42] rfl h4 _).trans ((StableHlo.after_unwritten [main_v41] rfl h3 _).trans
    ((StableHlo.after_unwritten [main_v40] rfl h2 _).trans (StableHlo.after_unwritten wW rfl h1 _)))

theorem after0 : StableHlo.after hostOps0 V = StableHlo.after rest (wEnd (oEnd V)) := by
  rw [split0, StableHlo.after_append, StableHlo.after_append, StableHlo.after_append, StableHlo.after_append, StableHlo.after_append,
    StableHlo.after_append, StableHlo.after_append, StableHlo.after_append]

end

variable (m : (ℓ : Loc nD τ sig) → Buf (Elt Ideal) ℓ) (ρ : Dev nD → PrngReg) (c : Dev nD)

/-- The attention output, the weight and the gradient of the mixer's output. -/
abbrev aO : FVec Ideal S2x2048x1024 .f32 := m ((c : Thread nD τ).loc main_arg0)
abbrev aW : FVec Ideal S1024x1024 .f32 := m ((c : Thread nD τ).loc main_arg1)
abbrev aD : FVec Ideal S2x2048x1024 .f32 := m ((c : Thread nD τ).loc main_arg2)

theorem in_o (b : Fin 2) (t : Fin 2048) (j : Fin 1536) :
    (W1 m ρ c (Proc.devRef .tc main_v46) : FVec Ideal S1x4096x1536 .bf16) (ix3 0 ⟨b.val * 2048 + t.val, by omega⟩ j)
      = moVal (row3 (n := 1024) (aO m c) b t) j.val := by
  unfold W1 W0
  rw [after0, v46_at, wEnd_of _ main_v20 (by decide) (by decide) (by decide) (by decide)]
  exact v20_at _ b t j

theorem in_w (n : Fin 1024) (j : Fin 1536) :
    (W1 m ρ c (Proc.devRef .tc main_v47) : FVec Ideal S1x1536x1024 .bf16) (ix3 0 j n)
      = moVal (col2 (p := 1024) (aW m c) n) j.val := by
  unfold W1 W0
  rw [after0, v47_at]
  refine (v42_at _ n j).trans ?_
  rw [oEnd_of _ main_arg1 (by decide) (by decide) (by decide) (by decide)]

theorem in_w43 (n : Fin 1024) (j : Fin 1536) :
    (W1 m ρ c (Proc.devRef .tc main_v43) : FVec Ideal S1536x1024 .bf16) (ix2 j n)
      = moVal (col2 (p := 1024) (aW m c) n) j.val := by
  unfold W1 W0
  rw [after0, v43_at]
  refine (v42_at _ n j).trans ?_
  rw [oEnd_of _ main_arg1 (by decide) (by decide) (by decide) (by decide)]

theorem in_d (b : Fin 2) (t : Fin 2048) (n : Fin 1024) :
    (W1 m ρ c (Proc.devRef .tc main_v45) : FVec Ideal S1x4096x1024 .bf16) (ix3 0 ⟨b.val * 2048 + t.val, by omega⟩ n)
      = aD m c (ix3 b t n) := by
  unfold W1 W0
  rw [after0, v45_at, wEnd_of _ main_arg2 (by decide) (by decide) (by decide) (by decide),
    oEnd_of _ main_arg2 (by decide) (by decide) (by decide) (by decide)]

theorem mid_w (n : Fin 1024) (j : Fin 1536) :
    (W3 m ρ c (Proc.devRef .tc main_v50) : FVec Ideal S1x1536x1024 .bf16) (ix3 0 j n)
      = (W2 m ρ c (Proc.devRef .tc main_v43) : FVec Ideal S1536x1024 .bf16) (ix2 j n) := by
  unfold W3; entry_read
  pointwise

theorem mid_m (b : Fin 2) (t : Fin 2048) (n : Fin 1024) :
    (W3 m ρ c (Proc.devRef .tc main_v49) : FVec Ideal S2x2048x1024 .f32) (ix3 b t n)
      = (W2 m ρ c (Proc.devRef .tc main_v48) : FVec Ideal S1x4096x1024 .f32) (ix3 0 ⟨b.val * 2048 + t.val, by omega⟩ n) := by
  unfold W3; entry_read
  pointwise

end Cert.Kernel5Ideal.Val
-- ==== Proof.Mix5Blocks.lean ====
/- What the mixer's output projection and its gradient leave in their result arrays, index by index. -/
module

public import proofs.«01_k».proof.Proof.Mix5Entry
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Kernel5Ideal.Val

open Cert.Kernel5Ideal Cert.Kernel5Ideal.Gen Cert.Mix

section
variable (V : (c : Dev nD) → (b : Ref sig .tc) → Buf (Elt Ideal) ((c : Thread nD τ).loc b))

theorem idx0 : ∀ t : Fin cfg0.N, win0_0.index t = ![0, t.val, 0] ∧ win0_1.index t = ![0, 0, 0]
    ∧ win0_2.index t = ![0, t.val, 0] ∧ t.val < 4 :=
  (by decide +kernel : ∀ t : Fin grid0.N, _)

theorem idx1 : ∀ t : Fin cfg1.N, win1_0.index t = ![0, t.val, 0] ∧ win1_1.index t = ![0, 0, 0]
    ∧ win1_2.index t = ![0, t.val, 0] ∧ t.val < 4 :=
  (by decide +kernel : ∀ t : Fin grid1.N, _)

/-- One entry of the packed attention output times the packed weight. -/
def yAt (u : FVec Ideal S1x4096x1536 .bf16) (w : FVec Ideal S1x1536x1024 .bf16) (t : Fin 4096) (n : Fin 1024) : EReal :=
  ∑ j : Fin 1536, u (ix3 0 t j) * w (ix3 0 j n)

/-- One entry of the gradient times the transpose of the packed weight. -/
def dAt (u : FVec Ideal S1x4096x1024 .bf16) (w : FVec Ideal S1x1536x1024 .bf16) (t : Fin 4096) (j : Fin 1536) : EReal :=
  ∑ n : Fin 1024, u (ix3 0 t n) * w (ix3 0 j n)

theorem y_arr (c : Dev nD) : (dat0 V c).arrAt 2 cfg0.N
    = (fun i => yAt (V c main_v46) (V c main_v47) (i 1) (i 2) : FVec Ideal S1x4096x1024 .f32) := by
  refine (dat0 V c).arrAt_eq_of_covers 2 _ (by decide +kernel) fun t hf y => ?_
  obtain ⟨e0, e1, e2, ht⟩ := idx0 t
  blk_simp
  rw [after0_2]
  frame_out
  pointwise [k0_pay1, yAt]
  blk_point [iblk0, e0, e1, e2]

theorem d_arr (c : Dev nD) : (dat1 V c).arrAt 2 cfg1.N
    = (fun i => dAt (V c main_v45) (V c main_v50) (i 1) (i 2) : FVec Ideal S1x4096x1536 .f32) := by
  refine (dat1 V c).arrAt_eq_of_covers 2 _ (by decide +kernel) fun t hf y => ?_
  obtain ⟨e0, e1, e2, ht⟩ := idx1 t
  blk_simp
  rw [after1_2]
  frame_out
  pointwise [k1_pay1, dAt]
  blk_point [iblk1, e0, e1, e2]

end

/-- The last stretch's slices, and their join. -/
def dPieces : List (HloOp τ sig (Elt Ideal)) := hostOps2.take 10
def dJoin : List (HloOp τ sig (Elt Ideal)) := hostOps2.drop 10
theorem split2 : (hostOps2 : List (HloOp τ sig (Elt Ideal))) = dPieces ++ dJoin := rfl

/-- The packed column of an output column. -/
def dst (k : Fin 1024) : Fin 1536 := ⟨moDst k.val, moDst_lt _ k.isLt⟩

set_option maxHeartbeats 4000000 in
theorem v62_at (V : Valuation τ sig (Elt Ideal)) (b : Fin 2) (t : Fin 2048) (k : Fin 1024) :
    (StableHlo.after hostOps2 V (Proc.devRef .tc main_v62) : FVec Ideal S2x2048x1024 .f32) (ix3 b t k)
      = (V (Proc.devRef .tc main_v51) : FVec Ideal S1x4096x1536 .f32) (ix3 0 ⟨b.val * 2048 + t.val, by omega⟩ (dst k)) := by
  rw [split2, StableHlo.after_append]
  unfold dJoin
  dsimp only [hostOps2, List.take, List.drop]
  rw [StableHlo.after_cons, StableHlo.after_nil, StableHlo.nary_result]
  pointwise
  unfold dPieces
  dsimp only [hostOps2, List.take, List.drop, Matrix.cons_val]
  entry_read
  pointwise
  repeat' refine dite_to (fun h => ?_) (fun h => ?_)
  all_goals
    refine congrArg (fun j => (V (Proc.devRef .tc main_v51) : FVec Ideal S1x4096x1536 .f32) (ix3 0 ⟨b.val * 2048 + t.val, by omega⟩ j)) ?_
    refine Fin.ext ((?_ : _ = moDst k.val))
    dsimp only
    unfold moDst
    split_ifs <;> omega

end Cert.Kernel5Ideal.Val

end
-- ==== Proof.Mix5Run.lean ====
/- The launch of the two calls of the mixer's output projection and its gradient: every weakly fair run ends with each result array at the contents the last
   host stretch leaves, the arguments unchanged and every counter at zero. -/
module

public import proofs.«01_k».proof.Proof.Gen.Kernel5Ideal.Frame

@[expose] public section

set_option maxRecDepth 16384

noncomputable section

namespace Cert.Kernel5Ideal.Val

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, each result at the last boundary's contents. -/
theorem run_main : θ_run defs (onTc (τ := τ) (main (F := F))) ⟨m, fun _ => 0, ρ⟩ (fun r => (∀ c : Dev nD,
      r.2.mem ((c.tc : Thread nD τ).loc main_v49) = W5 m ρ c (Proc.devRef .tc main_v49)
      ∧ r.2.mem ((c.tc : Thread nD τ).loc main_v62) = W5 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v49 (by decide)), h c _ (mem_uc main_v62 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩), funext fun g => hz g (.inr (no_unscoped g.2))⟩)

end Cert.Kernel5Ideal.Val

end
-- ==== Proof.Mix5Claims.lean ====
/- The claims about the mixer's output projection and its gradient: the run, and the equality of both results with the plain
   product and its derivative. -/
module

public import proofs.«01_k».proof.Proof.Mix5Blocks
public import proofs.«01_k».proof.Proof.Mix5Run
public import proofs.«01_k».proof.Proof.Gen.Reference5Ideal.Read
public import proofs.«01_k».proof.Proof.Gen.Reference5Ideal.Run
public import proofs.«01_k».proof.Proof.FfnClaims

@[expose] public section

set_option maxRecDepth 16384

noncomputable section

open Idealize.ShloMosaic Idealize.ShloMosaic.TcCoe Idealize.SL.Sem

namespace Cert.Kernel5Ideal.Val

open Cert.Kernel5Ideal Cert.Kernel5Ideal.Gen Cert.Mix Cert.Reference5Ideal.Read

variable (m : (ℓ : Loc nD τ sig) → Buf (Elt Ideal) ℓ) (ρ : Dev nD → PrngReg) (c : Dev nD)

theorem y_eq : W5 m ρ c (Proc.devRef .tc main_v49) = val_main_v0 (F := Ideal) (aO m c) (aW m c) := by
  rw [W5_of m ρ c main_v49 (by decide), W4_of m ρ c main_v49 (by decide)]
  refine funext fun (i : S2x2048x1024.Idx) => ?_
  obtain ⟨b, t, n, rfl⟩ : ∃ (b : Fin 2) (t : Fin 2048) (n : Fin 1024), i = ix3 b t n := ⟨_, _, _, eq_ix3 i⟩
  refine (mid_m m ρ c b t n).trans ?_
  rw [W2_arr m ρ c 2, y_arr, val_main_v0_apply]
  show yAt (W1 m ρ c (Proc.devRef .tc main_v46)) (W1 m ρ c (Proc.devRef .tc main_v47)) ⟨b.val * 2048 + t.val, by omega⟩ n
    = ∑ k : Fin 1024, aO m c (lidx_main_v0 (ix3 b t n) k) * aW m c (ridx_main_v0 (ix3 b t n) k)
  unfold yAt
  refine Eq.trans (Finset.sum_congr rfl fun j _ => congrArg₂ (· * ·) (in_o m ρ c b t j) (in_w m ρ c n j)) ?_
  refine (mo_sum _ _).trans (Finset.sum_congr rfl fun k _ => congrArg₂ (· * ·) ?_ ?_)
  · exact (row3_eq _ _ _ k.val k.isLt).symm.trans (congrArg _ (eq_ix3 (lidx_main_v0 (ix3 b t n) k)).symm)
  · exact (col2_eq _ _ k.val k.isLt).symm.trans (congrArg _ (eq_ix2 (ridx_main_v0 (ix3 b t n) k)).symm)

theorem d_eq : W5 m ρ c (Proc.devRef .tc main_v62) = val_main_v1 (F := Ideal) (aW m c) (aD m c) := by
  refine funext fun (i : S2x2048x1024.Idx) => ?_
  obtain ⟨b, t, k, rfl⟩ : ∃ (b : Fin 2) (t : Fin 2048) (k : Fin 1024), i = ix3 b t k := ⟨_, _, _, eq_ix3 i⟩
  refine (v62_at (W4 m ρ c) b t k).trans ?_
  rw [W4_arr m ρ c 2, d_arr, val_main_v1_apply]
  show dAt (W3 m ρ c (Proc.devRef .tc main_v45)) (W3 m ρ c (Proc.devRef .tc main_v50)) ⟨b.val * 2048 + t.val, by omega⟩ (dst k)
    = ∑ n : Fin 1024, aD m c (lidx_main_v1 (ix3 b t k) n) * aW m c (ridx_main_v1 (ix3 b t k) n)
  unfold dAt
  refine Finset.sum_congr rfl fun n _ => congrArg₂ (· * ·) ?_ ?_
  · refine (congrFun ((W3_of m ρ c main_v45 (by decide)).trans (W2_of m ρ c main_v45 (by decide))) _).trans ?_
    exact (in_d m ρ c b t n).trans (congrArg _ (eq_ix3 (lidx_main_v1 (ix3 b t k) n)).symm)
  · refine (mid_w m ρ c n (dst k)).trans ?_
    rw [W2_of m ρ c main_v43 (by decide)]
    refine (in_w43 m ρ c n (dst k)).trans ((moVal_moDst _ _ k.isLt).trans ?_)
    exact (col2_eq _ _ _ k.isLt).symm.trans (congrArg _ (eq_ix2 (ridx_main_v1 (ix3 b t k) n)).symm)

end Cert.Kernel5Ideal.Val

namespace Cert.Proof

open Cert.Reference5Ideal Cert.Reference5Ideal.Read in
/-- The reference's run, each result under its name. -/
theorem ref_run5 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = val_main_v0 (F := Ideal) (m ((c.tc : Thread nD τ).loc main_arg0)) (m ((c.tc : Thread nD τ).loc main_arg1))
      ∧ r.2.mem ((c.tc : Thread nD τ).loc main_v1) = val_main_v1 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v0_eq _ _).symm, (h c).2.1.trans (val_main_v1_eq _ _).symm, (h c).2.2⟩)
    (Cert.Reference5Ideal.Value.run (F := Ideal) m ρ)

/-- The output projection and its gradient, against the plain product and its derivative. -/
theorem algebraic5 : Cert.algebraic_Kernel5Ideal_Reference5Ideal := by
  intro m g m' g' hpre hagree
  refine ⟨fun c => Cert.Kernel5Ideal.Gen.W5 m g c (Proc.devRef .tc Cert.Kernel5Ideal.main_v49),
    fun c => Cert.Kernel5Ideal.Gen.W5 m g c (Proc.devRef .tc Cert.Kernel5Ideal.main_v62),
    (θ_run Cert.Kernel5Ideal.defs _ _).mono (fun r h => h.1) (Cert.Kernel5Ideal.Val.run_main (F := Ideal) m g),
    (θ_run Cert.Reference5Ideal.defs _ _).mono (fun r h c => ?_) (ref_run5 m' g')⟩
  obtain ⟨e0, e1, e2⟩ := hagree c
  obtain ⟨r0, r1, rest⟩ := h c
  rw [e0, e1] at r0
  rw [e1, e2] at r1
  exact ⟨r0.trans (Cert.Kernel5Ideal.Val.y_eq m g c).symm, r1.trans (Cert.Kernel5Ideal.Val.d_eq m g c).symm, rest⟩

theorem frameR5 : Cert.quiescent_Reference5Ideal := by
  intro m g _
  exact (θ_run Cert.Reference5Ideal.defs _ _).mono (fun r h => ⟨fun c => (h c).2.2,
      sem_eq_zero_of_no_sems (by decide) r.2⟩) (Cert.Reference5Ideal.Value.run (F := Ideal) m g)

end Cert.Proof

end
-- ==== Proof.MixWide.lean ====
/- The packed column layout of the mixer's input projection: the value at each packed column of a row given at its own
   columns, and the sum of products over the packed columns. -/
module

public import proofs.«01_k».proof.Proof.MixPack

@[expose] public section

set_option maxRecDepth 16384

noncomputable section

namespace Cert.Mix

/-- The projection's column held at a packed column; 2724 where the packed column is filled with 0. -/
def mixSrc (j : ℕ) : ℕ :=
  if j < 1408 then j
  else if j < 1472 then 2724
  else if j < 1488 then j - 64
  else if j < 1504 then 2724
  else if j < 1520 then j - 80
  else if j < 1536 then 2724
  else if j < 2048 then (if (j - 1536) % 128 < 64 then 1440 + 64 * ((j - 1536) / 128) + (j - 1536) % 128 else 2724)
  else if j < 3072 then
    (if (j - 2048) % 256 < 64 then 1696 + 64 * ((j - 2048) / 256) + (j - 2048) % 256
      else if (j - 2048) % 256 < 128 then 2724
      else if (j - 2048) % 256 < 192 then 1952 + 64 * ((j - 2048) / 256) + ((j - 2048) % 256 - 128)
      else 2724)
  else if j < 3584 then j - 860
  else if j < 3588 then j - 1376
  else 2724

/-- The packed column of a projection's column. -/
def mixDst (k : ℕ) : ℕ :=
  if k < 1408 then k
  else if k < 1424 then k + 64
  else if k < 1440 then k + 80
  else if k < 1696 then 1536 + 128 * ((k - 1440) / 64) + (k - 1440) % 64
  else if k < 1952 then 2048 + 256 * ((k - 1696) / 64) + (k - 1696) % 64
  else if k < 2208 then 2176 + 256 * ((k - 1952) / 64) + (k - 1952) % 64
  else if k < 2212 then k + 1376
  else k + 860

theorem ite_to {c : Prop} [Decidable c] {a b x : ℕ} (h1 : c → a = x) (h2 : ¬ c → b = x) : ite c a b = x := by
  split
  · exact h1 ‹_›
  · exact h2 ‹_›

theorem ite_ind {c : Prop} [Decidable c] {a b : ℕ} (P : ℕ → Prop) (h1 : c → P a) (h2 : ¬ c → P b) : P (ite c a b) := by
  split
  · exact h1 ‹_›
  · exact h2 ‹_›

set_option maxHeartbeats 4000000 in
theorem mixSrc_mixDst (k : ℕ) (h : k < 2724) : mixSrc (mixDst k) = k := by
  unfold mixDst
  repeat' with_reducible refine ite_ind (fun j => mixSrc j = k) (fun h => ?_) (fun h => ?_)
  all_goals
    unfold mixSrc
    repeat' with_reducible refine ite_to (fun h => ?_) (fun h => ?_)
    all_goals omega

theorem mixDst_lt (k : ℕ) (h : k < 2724) : mixDst k < 3712 := by
  unfold mixDst
  repeat' with_reducible refine ite_ind (fun j => j < 3712) (fun h => ?_) (fun h => ?_)
  all_goals omega

set_option maxHeartbeats 4000000 in
theorem mixDst_mixSrc (j : ℕ) (h : mixSrc j < 2724) : mixDst (mixSrc j) = j := by
  revert h
  unfold mixSrc
  repeat' with_reducible refine ite_ind (fun s => s < 2724 → mixDst s = j) (fun h => ?_) (fun h => ?_)
  all_goals
    intro hs
    unfold mixDst
    repeat' with_reducible refine ite_to (fun h => ?_) (fun h => ?_)
    all_goals omega

/-- The row `g` of 2724 columns in the packed layout of 3712 columns. -/
def mixVal (g : ℕ → EReal) (j : ℕ) : EReal := if mixSrc j < 2724 then g (mixSrc j) else 0

theorem mixVal_src (g : ℕ → EReal) (j k : ℕ) (hk : k < 2724) (e : mixSrc j = k) : g k = mixVal g j := by
  unfold mixVal; rw [e, if_pos hk]

theorem mixVal_zero (g : ℕ → EReal) (j : ℕ) (e : mixSrc j = 2724) : 0 = mixVal g j := by
  unfold mixVal; rw [e, if_neg (by omega)]

theorem mixVal_mixDst (g : ℕ → EReal) (k : ℕ) (h : k < 2724) : mixVal g (mixDst k) = g k :=
  (mixVal_src g _ k h (mixSrc_mixDst k h)).symm

/-- A sum of products over the packed columns is the sum over the columns themselves. -/
theorem mix_sum (g h : ℕ → EReal) : ∑ j : Fin 3712, mixVal g j.val * mixVal h j.val = ∑ k : Fin 2724, g k.val * h k.val := by
  refine (Finset.sum_of_injOn (fun k : Fin 2724 => (⟨mixDst k.val, mixDst_lt _ k.isLt⟩ : Fin 3712)) ?_ ?_ ?_ ?_).symm
  · intro a _ b _ e
    refine Fin.ext ?_
    rw [← mixSrc_mixDst a.val a.isLt, ← mixSrc_mixDst b.val b.isLt]
    exact congrArg (fun j : Fin 3712 => mixSrc j.val) e
  · exact fun _ _ => Finset.mem_coe.mpr (Finset.mem_univ _)
  · intro j _ hj
    by_cases hs : mixSrc j.val < 2724
    · exact absurd ⟨⟨mixSrc j.val, hs⟩, Finset.mem_coe.mpr (Finset.mem_univ _), Fin.ext (mixDst_mixSrc j.val hs)⟩ hj
    · unfold mixVal; rw [if_neg hs, zero_mul]
  · intro k _
    show _ = mixVal g (mixDst k.val) * mixVal h (mixDst k.val)
    rw [mixVal_mixDst g _ k.isLt, mixVal_mixDst h _ k.isLt]

end Cert.Mix

end
-- ==== Proof.Mix6Weight.lean ====
/- The input weight's columns laid out in the 3712 packed columns, read at an index. -/
module

public import proofs.«01_k».proof.Proof.Gen.Kernel6Ideal.Frame
public import Idealize.ShloMosaic.Lib.Pipeline.ValueKit
public import Idealize.ShloMosaic.Lib.Claim
public import Idealize.ShloMosaic.Lib.StableHlo.RunRead
public import proofs.«01_k».proof.Proof.MixWide

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Kernel6Ideal.Val

open Cert.Kernel6Ideal Cert.Kernel6Ideal.Gen Cert.Mix

/-- The weight's stretch: the slices, the joins of its four parts, of the first two, the last two and all. -/
def wPieces : List (HloOp τ sig (Elt Ideal)) := hostOps0.take 50
def wA : List (HloOp τ sig (Elt Ideal)) := (hostOps0.drop 50).take 1
def wB : List (HloOp τ sig (Elt Ideal)) := (hostOps0.drop 51).take 1
def wAB : List (HloOp τ sig (Elt Ideal)) := (hostOps0.drop 52).take 1
def wC : List (HloOp τ sig (Elt Ideal)) := (hostOps0.drop 53).take 1
def wD : List (HloOp τ sig (Elt Ideal)) := (hostOps0.drop 54).take 1
def wCD : List (HloOp τ sig (Elt Ideal)) := (hostOps0.drop 55).take 1
def wAll : List (HloOp τ sig (Elt Ideal)) := (hostOps0.drop 56).take 1

variable (V : Valuation τ sig (Elt Ideal))

set_option maxHeartbeats 8000000 in
theorem v34_at (r : Fin 1024) (j : Fin 1664) :
    (StableHlo.after wA (StableHlo.after wPieces V) (Proc.devRef .tc main_v34)
        : FVec Ideal S1024x1664 .f32) (ix2 r j)
      = mixVal (row2 (p := 1024) (n := 2724) (V (Proc.devRef .tc main_arg1) : FVec Ideal S1024x2724 .f32) r) j.val := by
  unfold wA
  dsimp only [hostOps0, List.take, List.drop]
  rw [StableHlo.after_cons, StableHlo.after_nil, StableHlo.nary_result]
  pointwise
  unfold wPieces
  dsimp only [hostOps0, List.take, List.drop, Matrix.cons_val]
  entry_read
  pointwise
  simp only [row2_eq (p := 1024) (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem wB_skip : StableHlo.after wB (StableHlo.after wA V) (Proc.devRef .tc main_v35)
    = StableHlo.after wB V (Proc.devRef .tc main_v35) := by
  generalize hX : StableHlo.after wA V = X
  unfold wB
  dsimp only [hostOps0, List.take, List.drop]
  rw [StableHlo.after_cons, StableHlo.after_nil, StableHlo.after_cons, StableHlo.after_nil]
  refine nary_congr _ _ _ _ _ _ _ fun k => ?_
  rw [← hX]
  exact (StableHlo.after_unwritten [main_v34] rfl (by revert k; decide) _)

set_option maxHeartbeats 8000000 in
theorem v35_at (r : Fin 1024) (j : Fin 512) :
    (StableHlo.after wB (StableHlo.after wA (StableHlo.after wPieces V)) (Proc.devRef .tc main_v35)
        : FVec Ideal S1024x512 .f32) (ix2 r j)
      = mixVal (row2 (p := 1024) (n := 2724) (V (Proc.devRef .tc main_arg1) : FVec Ideal S1024x2724 .f32) r) (1664 + j.val) := by
  rw [wB_skip]
  unfold wB
  dsimp only [hostOps0, List.take, List.drop]
  rw [StableHlo.after_cons, StableHlo.after_nil, StableHlo.nary_result]
  pointwise
  unfold wPieces
  dsimp only [hostOps0, List.take, List.drop, Matrix.cons_val]
  entry_read
  pointwise
  simp only [row2_eq (p := 1024) (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem v36_at (r : Fin 1024) (j : Fin 2176) :
    (StableHlo.after wAB (StableHlo.after wB (StableHlo.after wA (StableHlo.after wPieces V))) (Proc.devRef .tc main_v36)
        : FVec Ideal S1024x2176 .f32) (ix2 r j)
      = mixVal (row2 (p := 1024) (n := 2724) (V (Proc.devRef .tc main_arg1) : FVec Ideal S1024x2724 .f32) r) j.val := by
  unfold wAB
  dsimp only [hostOps0, List.take, List.drop]
  rw [StableHlo.after_cons, StableHlo.after_nil, StableHlo.binary_result]
  pointwise
  split
  · rw [StableHlo.after_unwritten [main_v35] rfl (by decide)]
    exact v34_at V r _
  · refine (v35_at V r _).trans (congrArg _ ?_)
    show 1664 + (j.val - 1664) = j.val
    omega

theorem wC_skip : StableHlo.after wC (StableHlo.after wAB (StableHlo.after wB (StableHlo.after wA V))) (Proc.devRef .tc main_v37)
    = StableHlo.after wC V (Proc.devRef .tc main_v37) := by
  generalize hX : StableHlo.after wAB (StableHlo.after wB (StableHlo.after wA V)) = X
  unfold wC
  dsimp only [hostOps0, List.take, List.drop]
  rw [StableHlo.after_cons, StableHlo.after_nil, StableHlo.after_cons, StableHlo.after_nil]
  refine nary_congr _ _ _ _ _ _ _ fun k => ?_
  rw [← hX]
  exact ((StableHlo.after_unwritten [main_v36] rfl (by revert k; decide) _).trans
    ((StableHlo.after_unwritten [main_v35] rfl (by revert k; decide) _).trans
    (StableHlo.after_unwritten [main_v34] rfl (by revert k; decide) _)))

set_option maxHeartbeats 8000000 in
theorem v37_at (r : Fin 1024) (j : Fin 512) :
    (StableHlo.after wC (StableHlo.after wAB (StableHlo.after wB (StableHlo.after wA (StableHlo.after wPieces V)))) (Proc.devRef .tc main_v37)
        : FVec Ideal S1024x512 .f32) (ix2 r j)
      = mixVal (row2 (p := 1024) (n := 2724) (V (Proc.devRef .tc main_arg1) : FVec Ideal S1024x2724 .f32) r) (2176 + j.val) := by
  rw [wC_skip]
  unfold wC
  dsimp only [hostOps0, List.take, List.drop]
  rw [StableHlo.after_cons, StableHlo.after_nil, StableHlo.nary_result]
  pointwise
  unfold wPieces
  dsimp only [hostOps0, List.take, List.drop, Matrix.cons_val]
  entry_read
  pointwise
  simp only [row2_eq (p := 1024) (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem wD_skip : StableHlo.after wD (StableHlo.after wC (StableHlo.after wAB (StableHlo.after wB (StableHlo.after wA V)))) (Proc.devRef .tc main_v38)
    = StableHlo.after wD V (Proc.devRef .tc main_v38) := by
  generalize hX : StableHlo.after wC (StableHlo.after wAB (StableHlo.after wB (StableHlo.after wA V))) = X
  unfold wD
  dsimp only [hostOps0, List.take, List.drop]
  rw [StableHlo.after_cons, StableHlo.after_nil, StableHlo.after_cons, StableHlo.after_nil]
  refine nary_congr _ _ _ _ _ _ _ fun k => ?_
  rw [← hX]
  exact ((StableHlo.after_unwritten [main_v37] rfl (by revert k; decide) _).trans
    ((StableHlo.after_unwritten [main_v36] rfl (by revert k; decide) _).trans
    ((StableHlo.after_unwritten [main_v35] rfl (by revert k; decide) _).trans
    (StableHlo.after_unwritten [main_v34] rfl (by revert k; decide) _))))

set_option maxHeartbeats 8000000 in
theorem v38_at (r : Fin 1024) (j : Fin 1024) :
    (StableHlo.after wD (StableHlo.after wC (StableHlo.after wAB (StableHlo.after wB (StableHlo.after wA (StableHlo.after wPieces V))))) (Proc.devRef .tc main_v38)
        : FVec Ideal S1024x1024 .f32) (ix2 r j)
      = mixVal (row2 (p := 1024) (n := 2724) (V (Proc.devRef .tc main_arg1) : FVec Ideal S1024x2724 .f32) r) (2688 + j.val) := by
  rw [wD_skip]
  unfold wD
  dsimp only [hostOps0, List.take, List.drop]
  rw [StableHlo.after_cons, StableHlo.after_nil, StableHlo.nary_result]
  pointwise
  unfold wPieces
  dsimp only [hostOps0, List.take, List.drop, Matrix.cons_val]
  entry_read
  pointwise
  simp only [row2_eq (p := 1024) (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem v39_at (r : Fin 1024) (j : Fin 1536) :
    (StableHlo.after wCD (StableHlo.after wD (StableHlo.after wC (StableHlo.after wAB (StableHlo.after wB (StableHlo.after wA (StableHlo.after wPieces V)))))) (Proc.devRef .tc main_v39)
        : FVec Ideal S1024x1536 .f32) (ix2 r j)
      = mixVal (row2 (p := 1024) (n := 2724) (V (Proc.devRef .tc main_arg1) : FVec Ideal S1024x2724 .f32) r) (2176 + j.val) := by
  unfold wCD
  dsimp only [hostOps0, List.take, List.drop]
  rw [StableHlo.after_cons, StableHlo.after_nil, StableHlo.binary_result]
  pointwise
  split
  · rw [StableHlo.after_unwritten [main_v38] rfl (by decide)]
    exact v37_at V r _
  · refine (v38_at V r _).trans (congrArg _ ?_)
    show 2688 + (j.val - 512) = 2176 + j.val
    omega

theorem v40_at (r : Fin 1024) (j : Fin 3712) :
    (StableHlo.after wAll (StableHlo.after wCD (StableHlo.after wD (StableHlo.after wC (StableHlo.after wAB (StableHlo.after wB (StableHlo.after wA (StableHlo.after wPieces V))))))) (Proc.devRef .tc main_v40)
        : FVec Ideal S1024x3712 .f32) (ix2 r j)
      = mixVal (row2 (p := 1024) (n := 2724) (V (Proc.devRef .tc main_arg1) : FVec Ideal S1024x2724 .f32) r) j.val := by
  unfold wAll
  dsimp only [hostOps0, List.take, List.drop]
  rw [StableHlo.after_cons, StableHlo.after_nil, StableHlo.binary_result]
  pointwise
  split
  · rw [StableHlo.after_unwritten [main_v39] rfl (by decide), StableHlo.after_unwritten [main_v38] rfl (by decide), StableHlo.after_unwritten [main_v37] rfl (by decide)]
    exact v36_at V r _
  · refine (v39_at V r _).trans (congrArg _ ?_)
    show 2176 + (j.val - 2176) = j.val
    omega

/-- The contents after the joins. -/
abbrev wEnd : Valuation τ sig (Elt Ideal) := StableHlo.after wAll (StableHlo.after wCD (StableHlo.after wD (StableHlo.after wC (StableHlo.after wAB (StableHlo.after wB (StableHlo.after wA (StableHlo.after wPieces V)))))))

/-- What the slices and the joins write is all they change. -/
theorem wEnd_of (r : Ref sig .tc) (h : r ∉ [main_v34, main_v35, main_v36, main_v37, main_v38, main_v39, main_v40]) :
    wEnd V (Proc.devRef .tc r) = StableHlo.after wPieces V (Proc.devRef .tc r) := by
  simp only [List.mem_cons, List.not_mem_nil, or_false, not_or] at h
  obtain ⟨h1, h2, h3, h4, h5, h6, h7⟩ := h
  exact ((StableHlo.after_unwritten [main_v40] rfl (by simpa using h7) _).trans
    ((StableHlo.after_unwritten [main_v39] rfl (by simpa using h6) _).trans
    ((StableHlo.after_unwritten [main_v38] rfl (by simpa using h5) _).trans
    ((StableHlo.after_unwritten [main_v37] rfl (by simpa using h4) _).trans
    ((StableHlo.after_unwritten [main_v36] rfl (by simpa using h3) _).trans
    ((StableHlo.after_unwritten [main_v35] rfl (by simpa using h2) _).trans
    (StableHlo.after_unwritten [main_v34] rfl (by simpa using h1) _)))))))

theorem wv0_at (b : Fin 2) (t : Fin 2048) (n : Fin 1024) :
    (StableHlo.after wPieces V (Proc.devRef .tc main_v0) : FVec Ideal S2x2048x1024 .bf16) (ix3 b t n)
      = (V (Proc.devRef .tc main_arg0) : FVec Ideal S2x2048x1024 .f32) (ix3 b t n) := by
  unfold wPieces
  dsimp only [hostOps0, List.take, List.drop]
  entry_read
  pointwise

theorem wEnd_arg2 : wEnd V (Proc.devRef .tc main_arg2) = V (Proc.devRef .tc main_arg2) := by
  rw [wEnd_of V main_arg2 (by decide)]
  unfold wPieces
  dsimp only [hostOps0, List.take, List.drop]
  entry_read
  rfl

end Cert.Kernel6Ideal.Val

end
-- ==== Proof.Mix6Grad.lean ====
/- The columns of the projection's gradient laid out in the 3712 packed columns, read at an index. -/
module

public import proofs.«01_k».proof.Proof.Gen.Kernel6Ideal.Frame
public import Idealize.ShloMosaic.Lib.Pipeline.ValueKit
public import Idealize.ShloMosaic.Lib.Claim
public import Idealize.ShloMosaic.Lib.StableHlo.RunRead
public import proofs.«01_k».proof.Proof.MixWide

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Kernel6Ideal.Val

open Cert.Kernel6Ideal Cert.Kernel6Ideal.Gen Cert.Mix

/-- The gradient's stretch: the weight's cast and the slices, the joins of the four parts, of the first two, the last two and
    all. -/
def dPieces : List (HloOp τ sig (Elt Ideal)) := (hostOps0.drop 57).take 51
def dA : List (HloOp τ sig (Elt Ideal)) := (hostOps0.drop 108).take 1
def dB : List (HloOp τ sig (Elt Ideal)) := (hostOps0.drop 109).take 1
def dAB : List (HloOp τ sig (Elt Ideal)) := (hostOps0.drop 110).take 1
def dC : List (HloOp τ sig (Elt Ideal)) := (hostOps0.drop 111).take 1
def dD : List (HloOp τ sig (Elt Ideal)) := (hostOps0.drop 112).take 1
def dCD : List (HloOp τ sig (Elt Ideal)) := (hostOps0.drop 113).take 1
def dAll : List (HloOp τ sig (Elt Ideal)) := (hostOps0.drop 114).take 1

variable (V : Valuation τ sig (Elt Ideal))

set_option maxHeartbeats 8000000 in
theorem v76_at (b : Fin 2) (t : Fin 2048) (j : Fin 1664) :
    (StableHlo.after dA (StableHlo.after dPieces V) (Proc.devRef .tc main_v76)
        : FVec Ideal S2x2048x1664 .bf16) (ix3 b t j)
      = mixVal (row3 (n := 2724) (V (Proc.devRef .tc main_arg2) : FVec Ideal S2x2048x2724 .f32) b t) j.val := by
  unfold dA
  dsimp only [hostOps0, List.take, List.drop]
  rw [StableHlo.after_cons, StableHlo.after_nil, StableHlo.nary_result]
  pointwise
  unfold dPieces
  dsimp only [hostOps0, List.take, List.drop, Matrix.cons_val]
  entry_read
  pointwise
  simp only [row3_eq (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem dB_skip : StableHlo.after dB (StableHlo.after dA V) (Proc.devRef .tc main_v77)
    = StableHlo.after dB V (Proc.devRef .tc main_v77) := by
  generalize hX : StableHlo.after dA V = X
  unfold dB
  dsimp only [hostOps0, List.take, List.drop]
  rw [StableHlo.after_cons, StableHlo.after_nil, StableHlo.after_cons, StableHlo.after_nil]
  refine nary_congr _ _ _ _ _ _ _ fun k => ?_
  rw [← hX]
  exact (StableHlo.after_unwritten [main_v76] rfl (by revert k; decide) _)

set_option maxHeartbeats 8000000 in
theorem v77_at (b : Fin 2) (t : Fin 2048) (j : Fin 512) :
    (StableHlo.after dB (StableHlo.after dA (StableHlo.after dPieces V)) (Proc.devRef .tc main_v77)
        : FVec Ideal S2x2048x512 .bf16) (ix3 b t j)
      = mixVal (row3 (n := 2724) (V (Proc.devRef .tc main_arg2) : FVec Ideal S2x2048x2724 .f32) b t) (1664 + j.val) := by
  rw [dB_skip]
  unfold dB
  dsimp only [hostOps0, List.take, List.drop]
  rw [StableHlo.after_cons, StableHlo.after_nil, StableHlo.nary_result]
  pointwise
  unfold dPieces
  dsimp only [hostOps0, List.take, List.drop, Matrix.cons_val]
  entry_read
  pointwise
  simp only [row3_eq (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem v78_at (b : Fin 2) (t : Fin 2048) (j : Fin 2176) :
    (StableHlo.after dAB (StableHlo.after dB (StableHlo.after dA (StableHlo.after dPieces V))) (Proc.devRef .tc main_v78)
        : FVec Ideal S2x2048x2176 .bf16) (ix3 b t j)
      = mixVal (row3 (n := 2724) (V (Proc.devRef .tc main_arg2) : FVec Ideal S2x2048x2724 .f32) b t) j.val := by
  unfold dAB
  dsimp only [hostOps0, List.take, List.drop]
  rw [StableHlo.after_cons, StableHlo.after_nil, StableHlo.binary_result]
  pointwise
  split
  · rw [StableHlo.after_unwritten [main_v77] rfl (by decide)]
    exact v76_at V b t _
  · refine (v77_at V b t _).trans (congrArg _ ?_)
    show 1664 + (j.val - 1664) = j.val
    omega

theorem dC_skip : StableHlo.after dC (StableHlo.after dAB (StableHlo.after dB (StableHlo.after dA V))) (Proc.devRef .tc main_v79)
    = StableHlo.after dC V (Proc.devRef .tc main_v79) := by
  generalize hX : StableHlo.after dAB (StableHlo.after dB (StableHlo.after dA V)) = X
  unfold dC
  dsimp only [hostOps0, List.take, List.drop]
  rw [StableHlo.after_cons, StableHlo.after_nil, StableHlo.after_cons, StableHlo.after_nil]
  refine nary_congr _ _ _ _ _ _ _ fun k => ?_
  rw [← hX]
  exact ((StableHlo.after_unwritten [main_v78] rfl (by revert k; decide) _).trans
    ((StableHlo.after_unwritten [main_v77] rfl (by revert k; decide) _).trans
    (StableHlo.after_unwritten [main_v76] rfl (by revert k; decide) _)))

set_option maxHeartbeats 8000000 in
theorem v79_at (b : Fin 2) (t : Fin 2048) (j : Fin 512) :
    (StableHlo.after dC (StableHlo.after dAB (StableHlo.after dB (StableHlo.after dA (StableHlo.after dPieces V)))) (Proc.devRef .tc main_v79)
        : FVec Ideal S2x2048x512 .bf16) (ix3 b t j)
      = mixVal (row3 (n := 2724) (V (Proc.devRef .tc main_arg2) : FVec Ideal S2x2048x2724 .f32) b t) (2176 + j.val) := by
  rw [dC_skip]
  unfold dC
  dsimp only [hostOps0, List.take, List.drop]
  rw [StableHlo.after_cons, StableHlo.after_nil, StableHlo.nary_result]
  pointwise
  unfold dPieces
  dsimp only [hostOps0, List.take, List.drop, Matrix.cons_val]
  entry_read
  pointwise
  simp only [row3_eq (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem dD_skip : StableHlo.after dD (StableHlo.after dC (StableHlo.after dAB (StableHlo.after dB (StableHlo.after dA V)))) (Proc.devRef .tc main_v80)
    = StableHlo.after dD V (Proc.devRef .tc main_v80) := by
  generalize hX : StableHlo.after dC (StableHlo.after dAB (StableHlo.after dB (StableHlo.after dA V))) = X
  unfold dD
  dsimp only [hostOps0, List.take, List.drop]
  rw [StableHlo.after_cons, StableHlo.after_nil, StableHlo.after_cons, StableHlo.after_nil]
  refine nary_congr _ _ _ _ _ _ _ fun k => ?_
  rw [← hX]
  exact ((StableHlo.after_unwritten [main_v79] rfl (by revert k; decide) _).trans
    ((StableHlo.after_unwritten [main_v78] rfl (by revert k; decide) _).trans
    ((StableHlo.after_unwritten [main_v77] rfl (by revert k; decide) _).trans
    (StableHlo.after_unwritten [main_v76] rfl (by revert k; decide) _))))

set_option maxHeartbeats 8000000 in
theorem v80_at (b : Fin 2) (t : Fin 2048) (j : Fin 1024) :
    (StableHlo.after dD (StableHlo.after dC (StableHlo.after dAB (StableHlo.after dB (StableHlo.after dA (StableHlo.after dPieces V))))) (Proc.devRef .tc main_v80)
        : FVec Ideal S2x2048x1024 .bf16) (ix3 b t j)
      = mixVal (row3 (n := 2724) (V (Proc.devRef .tc main_arg2) : FVec Ideal S2x2048x2724 .f32) b t) (2688 + j.val) := by
  rw [dD_skip]
  unfold dD
  dsimp only [hostOps0, List.take, List.drop]
  rw [StableHlo.after_cons, StableHlo.after_nil, StableHlo.nary_result]
  pointwise
  unfold dPieces
  dsimp only [hostOps0, List.take, List.drop, Matrix.cons_val]
  entry_read
  pointwise
  simp only [row3_eq (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem v81_at (b : Fin 2) (t : Fin 2048) (j : Fin 1536) :
    (StableHlo.after dCD (StableHlo.after dD (StableHlo.after dC (StableHlo.after dAB (StableHlo.after dB (StableHlo.after dA (StableHlo.after dPieces V)))))) (Proc.devRef .tc main_v81)
        : FVec Ideal S2x2048x1536 .bf16) (ix3 b t j)
      = mixVal (row3 (n := 2724) (V (Proc.devRef .tc main_arg2) : FVec Ideal S2x2048x2724 .f32) b t) (2176 + j.val) := by
  unfold dCD
  dsimp only [hostOps0, List.take, List.drop]
  rw [StableHlo.after_cons, StableHlo.after_nil, StableHlo.binary_result]
  pointwise
  split
  · rw [StableHlo.after_unwritten [main_v80] rfl (by decide)]
    exact v79_at V b t _
  · refine (v80_at V b t _).trans (congrArg _ ?_)
    show 2688 + (j.val - 512) = 2176 + j.val
    omega

theorem v82_at (b : Fin 2) (t : Fin 2048) (j : Fin 3712) :
    (StableHlo.after dAll (StableHlo.after dCD (StableHlo.after dD (StableHlo.after dC (StableHlo.after dAB (StableHlo.after dB (StableHlo.after dA (StableHlo.after dPieces V))))))) (Proc.devRef .tc main_v82)
        : FVec Ideal S2x2048x3712 .bf16) (ix3 b t j)
      = mixVal (row3 (n := 2724) (V (Proc.devRef .tc main_arg2) : FVec Ideal S2x2048x2724 .f32) b t) j.val := by
  unfold dAll
  dsimp only [hostOps0, List.take, List.drop]
  rw [StableHlo.after_cons, StableHlo.after_nil, StableHlo.binary_result]
  pointwise
  split
  · rw [StableHlo.after_unwritten [main_v81] rfl (by decide), StableHlo.after_unwritten [main_v80] rfl (by decide), StableHlo.after_unwritten [main_v79] rfl (by decide)]
    exact v78_at V b t _
  · refine (v81_at V b t _).trans (congrArg _ ?_)
    show 2176 + (j.val - 2176) = j.val
    omega

/-- The contents after the joins. -/
abbrev dEnd : Valuation τ sig (Elt Ideal) := StableHlo.after dAll (StableHlo.after dCD (StableHlo.after dD (StableHlo.after dC (StableHlo.after dAB (StableHlo.after dB (StableHlo.after dA (StableHlo.after dPieces V)))))))

/-- What the slices and the joins write is all they change. -/
theorem dEnd_of (r : Ref sig .tc) (h : r ∉ [main_v76, main_v77, main_v78, main_v79, main_v80, main_v81, main_v82]) :
    dEnd V (Proc.devRef .tc r) = StableHlo.after dPieces V (Proc.devRef .tc r) := by
  simp only [List.mem_cons, List.not_mem_nil, or_false, not_or] at h
  obtain ⟨h1, h2, h3, h4, h5, h6, h7⟩ := h
  exact ((StableHlo.after_unwritten [main_v82] rfl (by simpa using h7) _).trans
    ((StableHlo.after_unwritten [main_v81] rfl (by simpa using h6) _).trans
    ((StableHlo.after_unwritten [main_v80] rfl (by simpa using h5) _).trans
    ((StableHlo.after_unwritten [main_v79] rfl (by simpa using h4) _).trans
    ((StableHlo.after_unwritten [main_v78] rfl (by simpa using h3) _).trans
    ((StableHlo.after_unwritten [main_v77] rfl (by simpa using h2) _).trans
    (StableHlo.after_unwritten [main_v76] rfl (by simpa using h1) _)))))))

theorem dv41_at (r : Fin 1024) (j : Fin 3712) :
    (StableHlo.after dPieces V (Proc.devRef .tc main_v41) : FVec Ideal S1024x3712 .bf16) (ix2 r j)
      = (V (Proc.devRef .tc main_v40) : FVec Ideal S1024x3712 .f32) (ix2 r j) := by
  unfold dPieces
  dsimp only [hostOps0, List.take, List.drop]
  entry_read
  pointwise

theorem dv0_eq : StableHlo.after dPieces V (Proc.devRef .tc main_v0) = V (Proc.devRef .tc main_v0) := by
  unfold dPieces
  dsimp only [hostOps0, List.take, List.drop]
  entry_read
  rfl

end Cert.Kernel6Ideal.Val

end
-- ==== Proof.Mix6Entry.lean ====
/- The operands of the mixer's input projection and of its gradient when their calls start, read at an index. -/
module

public import proofs.«01_k».proof.Proof.Mix6Weight
public import proofs.«01_k».proof.Proof.Mix6Grad

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Kernel6Ideal.Val

open Cert.Kernel6Ideal Cert.Kernel6Ideal.Gen Cert.Mix

/-- What follows the two joined arrays. -/
def rest : List (HloOp τ sig (Elt Ideal)) := hostOps0.drop 115

theorem split0 : (hostOps0 : List (HloOp τ sig (Elt Ideal)))
    = wPieces ++ (wA ++ (wB ++ (wAB ++ (wC ++ (wD ++ (wCD ++ (wAll ++ (dPieces ++ (dA ++ (dB ++ (dAB ++ (dC ++ (dD ++ (dCD ++ (dAll
      ++ rest))))))))))))))) := rfl

section
variable (V : Valuation τ sig (Elt Ideal))

theorem after0 : StableHlo.after hostOps0 V = StableHlo.after rest (dEnd (wEnd V)) := by
  rw [split0]
  iterate 16 rw [StableHlo.after_append]

theorem v83_at (b : Fin 2) (t : Fin 2048) (j : Fin 3712) :
    (StableHlo.after rest V (Proc.devRef .tc main_v83) : FVec Ideal S1x4096x3712 .bf16) (ix3 0 ⟨b.val * 2048 + t.val, by omega⟩ j)
      = (V (Proc.devRef .tc main_v82) : FVec Ideal S2x2048x3712 .bf16) (ix3 b t j) := by
  unfold rest
  dsimp only [hostOps0, List.take, List.drop]
  entry_read
  pointwise

theorem v84_at (b : Fin 2) (t : Fin 2048) (n : Fin 1024) :
    (StableHlo.after rest V (Proc.devRef .tc main_v84) : FVec Ideal S1x4096x1024 .bf16) (ix3 0 ⟨b.val * 2048 + t.val, by omega⟩ n)
      = (V (Proc.devRef .tc main_v0) : FVec Ideal S2x2048x1024 .bf16) (ix3 b t n) := by
  unfold rest
  dsimp only [hostOps0, List.take, List.drop]
  entry_read
  pointwise

theorem v85_at (r : Fin 1024) (j : Fin 3712) :
    (StableHlo.after rest V (Proc.devRef .tc main_v85) : FVec Ideal S1x1024x3712 .bf16) (ix3 0 r j)
      = (V (Proc.devRef .tc main_v41) : FVec Ideal S1024x3712 .bf16) (ix2 r j) := by
  unfold rest
  dsimp only [hostOps0, List.take, List.drop]
  entry_read
  pointwise

theorem v41_rest (r : Fin 1024) (j : Fin 3712) :
    (StableHlo.after rest V (Proc.devRef .tc main_v41) : FVec Ideal S1024x3712 .bf16) (ix2 r j)
      = (V (Proc.devRef .tc main_v41) : FVec Ideal S1024x3712 .bf16) (ix2 r j) := by
  unfold rest
  dsimp only [hostOps0, List.take, List.drop]
  entry_read
  rfl

end

variable (m : (ℓ : Loc nD τ sig) → Buf (Elt Ideal) ℓ) (ρ : Dev nD → PrngReg) (c : Dev nD)

/-- The normalised input, the weight and the gradient of the projection. -/
abbrev aH : FVec Ideal S2x2048x1024 .f32 := m ((c : Thread nD τ).loc main_arg0)
abbrev aW : FVec Ideal S1024x2724 .f32 := m ((c : Thread nD τ).loc main_arg1)
abbrev aP : FVec Ideal S2x2048x2724 .f32 := m ((c : Thread nD τ).loc main_arg2)

theorem in_h (b : Fin 2) (t : Fin 2048) (n : Fin 1024) :
    (W1 m ρ c (Proc.devRef .tc main_v84) : FVec Ideal S1x4096x1024 .bf16) (ix3 0 ⟨b.val * 2048 + t.val, by omega⟩ n) = aH m c (ix3 b t n) := by
  unfold W1 W0
  rw [after0, v84_at, dEnd_of _ main_v0 (by decide), dv0_eq, wEnd_of _ main_v0 (by decide)]
  exact wv0_at _ b t n

theorem in_p (b : Fin 2) (t : Fin 2048) (j : Fin 3712) :
    (W1 m ρ c (Proc.devRef .tc main_v83) : FVec Ideal S1x4096x3712 .bf16) (ix3 0 ⟨b.val * 2048 + t.val, by omega⟩ j)
      = mixVal (row3 (n := 2724) (aP m c) b t) j.val := by
  unfold W1 W0
  rw [after0, v83_at]
  refine (v82_at _ b t j).trans ?_
  rw [wEnd_arg2]

theorem in_w (r : Fin 1024) (j : Fin 3712) :
    (W1 m ρ c (Proc.devRef .tc main_v85) : FVec Ideal S1x1024x3712 .bf16) (ix3 0 r j)
      = mixVal (row2 (p := 1024) (n := 2724) (aW m c) r) j.val := by
  unfold W1 W0
  rw [after0, v85_at, dEnd_of _ main_v41 (by decide), dv41_at]
  exact v40_at _ r j

theorem in_w41 (r : Fin 1024) (j : Fin 3712) :
    (W1 m ρ c (Proc.devRef .tc main_v41) : FVec Ideal S1024x3712 .bf16) (ix2 r j)
      = mixVal (row2 (p := 1024) (n := 2724) (aW m c) r) j.val := by
  unfold W1 W0
  rw [after0, v41_rest, dEnd_of _ main_v41 (by decide), dv41_at]
  exact v40_at _ r j

theorem mid_w (r : Fin 1024) (j : Fin 3712) :
    (W3 m ρ c (Proc.devRef .tc main_v88) : FVec Ideal S1x1024x3712 .bf16) (ix3 0 r j)
      = (W2 m ρ c (Proc.devRef .tc main_v41) : FVec Ideal S1024x3712 .bf16) (ix2 r j) := by
  unfold W3; entry_read
  pointwise

theorem mid_y (b : Fin 2) (t : Fin 2048) (j : Fin 3712) :
    (W3 m ρ c (Proc.devRef .tc main_v87) : FVec Ideal S2x2048x3712 .f32) (ix3 b t j)
      = (W2 m ρ c (Proc.devRef .tc main_v86) : FVec Ideal S1x4096x3712 .f32) (ix3 0 ⟨b.val * 2048 + t.val, by omega⟩ j) := by
  unfold W3; entry_read
  pointwise

end Cert.Kernel6Ideal.Val

end
-- ==== Proof.Mix6Out.lean ====
/- The projection's columns taken out of the packed result of the mixer's input projection. -/
module

public import proofs.«01_k».proof.Proof.Gen.Kernel6Ideal.Frame
public import Idealize.ShloMosaic.Lib.Pipeline.ValueKit
public import Idealize.ShloMosaic.Lib.Claim
public import Idealize.ShloMosaic.Lib.StableHlo.RunRead
public import proofs.«01_k».proof.Proof.MixWide

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Kernel6Ideal.Val

open Cert.Kernel6Ideal Cert.Kernel6Ideal.Gen Cert.Mix

/-- The packed column of a projection's column. -/
def dst (k : Fin 2724) : Fin 3712 := ⟨mixDst k.val, mixDst_lt _ k.isLt⟩

/-- The last stretch: the slices, the joins of its two halves and of both. -/
def gPieces : List (HloOp τ sig (Elt Ideal)) := hostOps2.take 18
def gA : List (HloOp τ sig (Elt Ideal)) := (hostOps2.drop 18).take 1
def gB : List (HloOp τ sig (Elt Ideal)) := (hostOps2.drop 19).take 1
def gAll : List (HloOp τ sig (Elt Ideal)) := hostOps2.drop 20
theorem split2 : (hostOps2 : List (HloOp τ sig (Elt Ideal))) = gPieces ++ (gA ++ (gB ++ gAll)) := rfl

variable (V : Valuation τ sig (Elt Ideal))

/-- The result's entry at the packed column of column `k`, by number. -/
def out (b : Fin 2) (t : Fin 2048) (k : ℕ) : EReal :=
  if h : mixDst k < 3712 then (V (Proc.devRef .tc main_v87) : FVec Ideal S2x2048x3712 .f32) (ix3 b t ⟨mixDst k, h⟩) else 0

theorem out_eq (b : Fin 2) (t : Fin 2048) (j : Fin 3712) (k : ℕ) (e : mixDst k = j.val) :
    (V (Proc.devRef .tc main_v87) : FVec Ideal S2x2048x3712 .f32) (ix3 b t j) = out V b t k := by
  unfold out
  rw [dif_pos (by rw [e]; exact j.isLt)]
  exact congrArg (fun j => (V (Proc.devRef .tc main_v87) : FVec Ideal S2x2048x3712 .f32) (ix3 b t j)) (Fin.ext e.symm)

set_option maxHeartbeats 8000000 in
theorem v108_at (b : Fin 2) (t : Fin 2048) (k : Fin 1760) :
    (StableHlo.after gA (StableHlo.after gPieces V) (Proc.devRef .tc main_v108) : FVec Ideal S2x2048x1760 .f32) (ix3 b t k)
      = out V b t k.val := by
  unfold gA
  dsimp only [hostOps2, List.take, List.drop]
  rw [StableHlo.after_cons, StableHlo.after_nil, StableHlo.nary_result]
  pointwise
  unfold gPieces
  dsimp only [hostOps2, List.take, List.drop, Matrix.cons_val]
  entry_read
  pointwise
  repeat' with_reducible refine dite_to (fun h => ?_) (fun h => ?_)
  all_goals
    refine out_eq V b t _ _ ?_
    dsimp only
    unfold mixDst
    repeat' with_reducible refine ite_to (fun h => ?_) (fun h => ?_)
    all_goals omega

theorem gB_skip :
    StableHlo.after gB (StableHlo.after gA V) (Proc.devRef .tc main_v109) = StableHlo.after gB V (Proc.devRef .tc main_v109) := by
  generalize hX : StableHlo.after gA V = X
  unfold gB
  dsimp only [hostOps2, List.take, List.drop]
  rw [StableHlo.after_cons, StableHlo.after_nil, StableHlo.after_cons, StableHlo.after_nil]
  refine nary_congr _ _ _ _ _ _ _ fun k => ?_
  rw [← hX]
  exact StableHlo.after_unwritten [main_v108] rfl (by revert k; decide) _

set_option maxHeartbeats 8000000 in
theorem v109_at (b : Fin 2) (t : Fin 2048) (k : Fin 964) :
    (StableHlo.after gB (StableHlo.after gA (StableHlo.after gPieces V)) (Proc.devRef .tc main_v109) : FVec Ideal S2x2048x964 .f32) (ix3 b t k)
      = out V b t (1760 + k.val) := by
  rw [gB_skip]
  unfold gB
  dsimp only [hostOps2, List.take, List.drop]
  rw [StableHlo.after_cons, StableHlo.after_nil, StableHlo.nary_result]
  pointwise
  unfold gPieces
  dsimp only [hostOps2, List.take, List.drop, Matrix.cons_val]
  entry_read
  pointwise
  repeat' with_reducible refine dite_to (fun h => ?_) (fun h => ?_)
  all_goals
    refine out_eq V b t _ _ ?_
    dsimp only
    unfold mixDst
    repeat' with_reducible refine ite_to (fun h => ?_) (fun h => ?_)
    all_goals omega

theorem v110_at (b : Fin 2) (t : Fin 2048) (k : Fin 2724) :
    (StableHlo.after hostOps2 V (Proc.devRef .tc main_v110) : FVec Ideal S2x2048x2724 .f32) (ix3 b t k)
      = (V (Proc.devRef .tc main_v87) : FVec Ideal S2x2048x3712 .f32) (ix3 b t (dst k)) := by
  rw [split2, StableHlo.after_append, StableHlo.after_append, StableHlo.after_append]
  refine Eq.trans ?_ (out_eq V b t (dst k) k.val rfl).symm
  unfold gAll
  dsimp only [hostOps2, List.take, List.drop]
  rw [StableHlo.after_cons, StableHlo.after_nil, StableHlo.binary_result]
  pointwise
  split
  · rw [StableHlo.after_unwritten [main_v109] rfl (by decide)]
    exact v108_at V b t _
  · refine (v109_at V b t _).trans (congrArg _ ?_)
    show 1760 + (k.val - 1760) = k.val
    omega

theorem v90_at (b : Fin 2) (t : Fin 2048) (n : Fin 1024) :
    (StableHlo.after hostOps2 V (Proc.devRef .tc main_v90) : FVec Ideal S2x2048x1024 .f32) (ix3 b t n)
      = (V (Proc.devRef .tc main_v89) : FVec Ideal S1x4096x1024 .f32) (ix3 0 ⟨b.val * 2048 + t.val, by omega⟩ n) := by
  entry_read
  pointwise

end Cert.Kernel6Ideal.Val

end
-- ==== Proof.Mix6Blocks.lean ====
/- What the two calls of the mixer's input projection and its gradient leave in their result arrays. -/
module

public import proofs.«01_k».proof.Proof.Gen.Kernel6Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Kernel6Ideal.Val

open Cert.Kernel6Ideal Cert.Kernel6Ideal.Gen

variable (V : (c : Dev nD) → (b : Ref sig .tc) → Buf (Elt Ideal) ((c : Thread nD τ).loc b))

theorem idx0 : ∀ t : Fin cfg0.N, win0_0.index t = ![0, t.val, 0] ∧ win0_1.index t = ![0, 0, 0]
    ∧ win0_2.index t = ![0, t.val, 0] ∧ t.val < 8 :=
  (by decide +kernel : ∀ t : Fin grid0.N, _)

theorem idx1 : ∀ t : Fin cfg1.N, win1_0.index t = ![0, t.val, 0] ∧ win1_1.index t = ![0, 0, 0]
    ∧ win1_2.index t = ![0, t.val, 0] ∧ t.val < 8 :=
  (by decide +kernel : ∀ t : Fin grid1.N, _)

/-- One entry of the input times the packed weight. -/
def yAt (u : FVec Ideal S1x4096x1024 .bf16) (w : FVec Ideal S1x1024x3712 .bf16) (t : Fin 4096) (j : Fin 3712) : EReal :=
  ∑ n : Fin 1024, u (ix3 0 t n) * w (ix3 0 n j)

/-- One entry of the packed gradient times the transpose of the packed weight. -/
def dAt (u : FVec Ideal S1x4096x3712 .bf16) (w : FVec Ideal S1x1024x3712 .bf16) (t : Fin 4096) (n : Fin 1024) : EReal :=
  ∑ j : Fin 3712, u (ix3 0 t j) * w (ix3 0 n j)

theorem y_arr (c : Dev nD) : (dat0 V c).arrAt 2 cfg0.N
    = (fun i => yAt (V c main_v84) (V c main_v85) (i 1) (i 2) : FVec Ideal S1x4096x3712 .f32) := by
  refine (dat0 V c).arrAt_eq_of_covers 2 _ (by decide +kernel) fun t hf y => ?_
  obtain ⟨e0, e1, e2, ht⟩ := idx0 t
  blk_simp
  rw [after0_2]
  frame_out
  pointwise [k0_pay1, yAt]
  blk_point [iblk0, e0, e1, e2]

theorem d_arr (c : Dev nD) : (dat1 V c).arrAt 2 cfg1.N
    = (fun i => dAt (V c main_v83) (V c main_v88) (i 1) (i 2) : FVec Ideal S1x4096x1024 .f32) := by
  refine (dat1 V c).arrAt_eq_of_covers 2 _ (by decide +kernel) fun t hf y => ?_
  obtain ⟨e0, e1, e2, ht⟩ := idx1 t
  blk_simp
  rw [after1_2]
  frame_out
  pointwise [k1_pay1, dAt]
  blk_point [iblk1, e0, e1, e2]

end Cert.Kernel6Ideal.Val

end
-- ==== Proof.Mix6Run.lean ====
/- The launch of the two calls of the mixer's input projection and its gradient: every weakly fair run ends with each result array at the contents the last
   host stretch leaves, the arguments unchanged and every counter at zero. -/
module

public import proofs.«01_k».proof.Proof.Gen.Kernel6Ideal.Frame

@[expose] public section

set_option maxRecDepth 16384

noncomputable section

namespace Cert.Kernel6Ideal.Val

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, each result at the last boundary's contents. -/
theorem run_main : θ_run defs (onTc (τ := τ) (main (F := F))) ⟨m, fun _ => 0, ρ⟩ (fun r => (∀ c : Dev nD,
      r.2.mem ((c.tc : Thread nD τ).loc main_v110) = W5 m ρ c (Proc.devRef .tc main_v110)
      ∧ r.2.mem ((c.tc : Thread nD τ).loc main_v90) = W5 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v110 (by decide)), h c _ (mem_uc main_v90 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩), funext fun g => hz g (.inr (no_unscoped g.2))⟩)

end Cert.Kernel6Ideal.Val

end
-- ==== Proof.Mix6Claims.lean ====
/- The claims about the mixer's input projection and its gradient: the run, and the equality of both results with the plain
   product and its derivative. -/
module

public import proofs.«01_k».proof.Proof.Mix6Entry
public import proofs.«01_k».proof.Proof.Mix6Out
public import proofs.«01_k».proof.Proof.Mix6Blocks
public import proofs.«01_k».proof.Proof.Mix6Run
public import proofs.«01_k».proof.Proof.Gen.Reference6Ideal.Read
public import proofs.«01_k».proof.Proof.Gen.Reference6Ideal.Run
public import proofs.«01_k».proof.Proof.FfnClaims

@[expose] public section

set_option maxRecDepth 16384

noncomputable section

open Idealize.ShloMosaic Idealize.ShloMosaic.TcCoe Idealize.SL.Sem

namespace Cert.Kernel6Ideal.Val

open Cert.Kernel6Ideal Cert.Kernel6Ideal.Gen Cert.Mix Cert.Reference6Ideal.Read

variable (m : (ℓ : Loc nD τ sig) → Buf (Elt Ideal) ℓ) (ρ : Dev nD → PrngReg) (c : Dev nD)

theorem p_at (b : Fin 2) (t : Fin 2048) (j : Fin 3712) :
    (W3 m ρ c (Proc.devRef .tc main_v83) : FVec Ideal S1x4096x3712 .bf16) (ix3 0 ⟨b.val * 2048 + t.val, by omega⟩ j)
      = mixVal (row3 (n := 2724) (aP m c) b t) j.val :=
  (congrFun ((W3_of m ρ c main_v83 (by decide)).trans (W2_of m ρ c main_v83 (by decide))) _).trans (in_p m ρ c b t j)

theorem w_at (n : Fin 1024) (j : Fin 3712) :
    (W3 m ρ c (Proc.devRef .tc main_v88) : FVec Ideal S1x1024x3712 .bf16) (ix3 0 n j)
      = mixVal (row2 (p := 1024) (n := 2724) (aW m c) n) j.val := by
  refine (mid_w m ρ c n j).trans ?_
  rw [W2_of m ρ c main_v41 (by decide)]
  exact in_w41 m ρ c n j

theorem y_eq : W5 m ρ c (Proc.devRef .tc main_v110) = val_main_v0 (F := Ideal) (aH m c) (aW m c) := by
  refine funext fun (i : S2x2048x2724.Idx) => ?_
  obtain ⟨b, t, k, rfl⟩ : ∃ (b : Fin 2) (t : Fin 2048) (k : Fin 2724), i = ix3 b t k := ⟨_, _, _, eq_ix3 i⟩
  refine (v110_at (W4 m ρ c) b t k).trans ?_
  rw [W4_of m ρ c main_v87 (by decide)]
  refine (mid_y m ρ c b t (dst k)).trans ?_
  rw [W2_arr m ρ c 2, y_arr, val_main_v0_apply]
  show yAt (W1 m ρ c (Proc.devRef .tc main_v84)) (W1 m ρ c (Proc.devRef .tc main_v85)) ⟨b.val * 2048 + t.val, by omega⟩ (dst k)
    = ∑ n : Fin 1024, aH m c (lidx_main_v0 (ix3 b t k) n) * aW m c (ridx_main_v0 (ix3 b t k) n)
  unfold yAt
  refine Finset.sum_congr rfl fun n _ => congrArg₂ (· * ·) ?_ ?_
  · exact (in_h m ρ c b t n).trans (congrArg _ (eq_ix3 (lidx_main_v0 (ix3 b t k) n)).symm)
  · refine (in_w m ρ c n (dst k)).trans ((mixVal_mixDst _ _ k.isLt).trans ?_)
    exact (row2_eq _ _ _ k.isLt).symm.trans (congrArg _ (eq_ix2 (ridx_main_v0 (ix3 b t k) n)).symm)

theorem d_eq : W5 m ρ c (Proc.devRef .tc main_v90) = val_main_v1 (F := Ideal) (aW m c) (aP m c) := by
  refine funext fun (i : S2x2048x1024.Idx) => ?_
  obtain ⟨b, t, n, rfl⟩ : ∃ (b : Fin 2) (t : Fin 2048) (n : Fin 1024), i = ix3 b t n := ⟨_, _, _, eq_ix3 i⟩
  refine (v90_at (W4 m ρ c) b t n).trans ?_
  rw [W4_arr m ρ c 2, d_arr, val_main_v1_apply]
  show dAt (W3 m ρ c (Proc.devRef .tc main_v83)) (W3 m ρ c (Proc.devRef .tc main_v88)) ⟨b.val * 2048 + t.val, by omega⟩ n
    = ∑ k : Fin 2724, aP m c (lidx_main_v1 (ix3 b t n) k) * aW m c (ridx_main_v1 (ix3 b t n) k)
  unfold dAt
  refine Eq.trans (Finset.sum_congr rfl fun j _ => congrArg₂ (· * ·) (p_at m ρ c b t j) (w_at m ρ c n j)) ?_
  refine (mix_sum _ _).trans (Finset.sum_congr rfl fun k _ => congrArg₂ (· * ·) ?_ ?_)
  · exact (row3_eq _ _ _ k.val k.isLt).symm.trans (congrArg _ (eq_ix3 (lidx_main_v1 (ix3 b t n) k)).symm)
  · exact (row2_eq _ _ k.val k.isLt).symm.trans (congrArg _ (eq_ix2 (ridx_main_v1 (ix3 b t n) k)).symm)

end Cert.Kernel6Ideal.Val

namespace Cert.Proof

open Cert.Reference6Ideal Cert.Reference6Ideal.Read in
/-- The reference's run, each result under its name. -/
theorem ref_run6 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = val_main_v0 (F := Ideal) (m ((c.tc : Thread nD τ).loc main_arg0)) (m ((c.tc : Thread nD τ).loc main_arg1))
      ∧ r.2.mem ((c.tc : Thread nD τ).loc main_v1) = val_main_v1 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v0_eq _ _).symm, (h c).2.1.trans (val_main_v1_eq _ _).symm, (h c).2.2⟩)
    (Cert.Reference6Ideal.Value.run (F := Ideal) m ρ)

/-- The input projection and its gradient, against the plain product and its derivative. -/
theorem algebraic6 : Cert.algebraic_Kernel6Ideal_Reference6Ideal := by
  intro m g m' g' hpre hagree
  refine ⟨fun c => Cert.Kernel6Ideal.Gen.W5 m g c (Proc.devRef .tc Cert.Kernel6Ideal.main_v110),
    fun c => Cert.Kernel6Ideal.Gen.W5 m g c (Proc.devRef .tc Cert.Kernel6Ideal.main_v90),
    (θ_run Cert.Kernel6Ideal.defs _ _).mono (fun r h => h.1) (Cert.Kernel6Ideal.Val.run_main (F := Ideal) m g),
    (θ_run Cert.Reference6Ideal.defs _ _).mono (fun r h c => ?_) (ref_run6 m' g')⟩
  obtain ⟨e0, e1, e2⟩ := hagree c
  obtain ⟨r0, r1, rest⟩ := h c
  rw [e0, e1] at r0
  rw [e1, e2] at r1
  exact ⟨r0.trans (Cert.Kernel6Ideal.Val.y_eq m g c).symm, r1.trans (Cert.Kernel6Ideal.Val.d_eq m g c).symm, rest⟩

theorem frameR6 : Cert.quiescent_Reference6Ideal := by
  intro m g _
  exact (θ_run Cert.Reference6Ideal.defs _ _).mono (fun r h => ⟨fun c => (h c).2.2,
      sem_eq_zero_of_no_sems (by decide) r.2⟩) (Cert.Reference6Ideal.Value.run (F := Ideal) m g)

end Cert.Proof

end
-- ==== Proof.Mix7.lean ====
/- The gradient of the mixer's output weight: the packed operands its call starts from, what its accumulated product leaves in
   the result array, and the columns taken out of it. -/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Claim
public import Idealize.ShloMosaic.Lib.StableHlo.RunRead
public import proofs.«01_k».proof.Proof.MixPack
public import proofs.«01_k».proof.Defs

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Kernel7Ideal.Val

open Cert.Kernel7Ideal Cert.Kernel7Ideal.Gen Cert.Mix

/-- The host operations before the call in stretches: the slices of the attention output, the joins of its two halves and of
    both, and what follows. -/
def oPieces : List (HloOp τ sig (Elt Ideal)) := hostOps0.take 26
def oLeft : List (HloOp τ sig (Elt Ideal)) := (hostOps0.drop 26).take 1
def oRight : List (HloOp τ sig (Elt Ideal)) := (hostOps0.drop 27).take 1
def oBoth : List (HloOp τ sig (Elt Ideal)) := (hostOps0.drop 28).take 1
def rest : List (HloOp τ sig (Elt Ideal)) := hostOps0.drop 29

theorem split0 : ([hostOps0].flatten : List (HloOp τ sig (Elt Ideal)))
    = oPieces ++ (oLeft ++ (oRight ++ (oBoth ++ rest))) := rfl

section
variable (V : Valuation τ sig (Elt Ideal))

set_option maxHeartbeats 4000000 in
theorem v18_at (b : Fin 2) (t : Fin 2048) (j : Fin 768) :
    (StableHlo.after oLeft (StableHlo.after oPieces V) (Proc.devRef .tc main_v18) : FVec Ideal S2x2048x768 .bf16) (ix3 b t j)
      = moVal (row3 (n := 1024) (V (Proc.devRef .tc main_arg0) : FVec Ideal S2x2048x1024 .f32) b t) j.val := by
  unfold oLeft
  dsimp only [hostOps0, List.take, List.drop]
  rw [StableHlo.after_cons, StableHlo.after_nil, StableHlo.nary_result]
  pointwise
  unfold oPieces
  dsimp only [hostOps0, List.take, List.drop, Matrix.cons_val]
  entry_read
  pointwise
  simp only [row3_eq (n := 1024)]
  repeat' refine dite_to (fun h => ?_) (fun h => ?_)
  all_goals first
    | exact moVal_mid _ _ _ (by omega) (by omega) (by omega) (by omega)
    | exact moVal_zero _ _ (by omega) (by omega) (by omega)
    | exact moVal_first _ _ _ (by omega) (by omega)
    | exact moVal_hi _ _ _ (by omega) (by omega)

theorem right_skip :
    StableHlo.after oRight (StableHlo.after oLeft V) (Proc.devRef .tc main_v19) = StableHlo.after oRight V (Proc.devRef .tc main_v19) := by
  generalize hX : StableHlo.after oLeft V = X
  unfold oRight
  dsimp only [hostOps0, List.take, List.drop]
  rw [StableHlo.after_cons, StableHlo.after_nil, StableHlo.after_cons, StableHlo.after_nil]
  refine nary_congr _ _ _ _ _ _ _ fun k => ?_
  rw [← hX]
  exact StableHlo.after_unwritten [main_v18] rfl (by revert k; decide) _

set_option maxHeartbeats 4000000 in
theorem v19_at (b : Fin 2) (t : Fin 2048) (j : Fin 768) :
    (StableHlo.after oRight (StableHlo.after oLeft (StableHlo.after oPieces V)) (Proc.devRef .tc main_v19) : FVec Ideal S2x2048x768 .bf16) (ix3 b t j)
      = moVal (row3 (n := 1024) (V (Proc.devRef .tc main_arg0) : FVec Ideal S2x2048x1024 .f32) b t) (768 + j.val) := by
  rw [right_skip]
  unfold oRight
  dsimp only [hostOps0, List.take, List.drop]
  rw [StableHlo.after_cons, StableHlo.after_nil, StableHlo.nary_result]
  pointwise
  unfold oPieces
  dsimp only [hostOps0, List.take, List.drop, Matrix.cons_val]
  entry_read
  pointwise
  simp only [row3_eq (n := 1024)]
  repeat' refine dite_to (fun h => ?_) (fun h => ?_)
  all_goals first
    | exact moVal_mid _ _ _ (by omega) (by omega) (by omega) (by omega)
    | exact moVal_zero _ _ (by omega) (by omega) (by omega)
    | exact moVal_first _ _ _ (by omega) (by omega)
    | exact moVal_hi _ _ _ (by omega) (by omega)

theorem v20_at (b : Fin 2) (t : Fin 2048) (j : Fin 1536) :
    (StableHlo.after oBoth (StableHlo.after oRight (StableHlo.after oLeft (StableHlo.after oPieces V))) (Proc.devRef .tc main_v20)
        : FVec Ideal S2x2048x1536 .bf16) (ix3 b t j)
      = moVal (row3 (n := 1024) (V (Proc.devRef .tc main_arg0) : FVec Ideal S2x2048x1024 .f32) b t) j.val := by
  unfold oBoth
  dsimp only [hostOps0, List.take, List.drop]
  rw [StableHlo.after_cons, StableHlo.after_nil, StableHlo.binary_result]
  pointwise
  split
  · rw [StableHlo.after_unwritten [main_v19] rfl (by decide)]
    exact v18_at V b t _
  · refine (v19_at V b t _).trans (congrArg _ ?_)
    show 768 + (j.val - 768) = j.val
    omega

theorem v22_at (b : Fin 2) (t : Fin 2048) (n : Fin 1024) :
    (StableHlo.after rest V (Proc.devRef .tc main_v22) : FVec Ideal S1x4096x1024 .bf16) (ix3 0 ⟨b.val * 2048 + t.val, by omega⟩ n)
      = (V (Proc.devRef .tc main_arg1) : FVec Ideal S2x2048x1024 .f32) (ix3 b t n) := by
  unfold rest
  dsimp only [hostOps0, List.take, List.drop]
  entry_read
  pointwise

theorem v23_at (b : Fin 2) (t : Fin 2048) (j : Fin 1536) :
    (StableHlo.after rest V (Proc.devRef .tc main_v23) : FVec Ideal S1x4096x1536 .bf16) (ix3 0 ⟨b.val * 2048 + t.val, by omega⟩ j)
      = (V (Proc.devRef .tc main_v20) : FVec Ideal S2x2048x1536 .bf16) (ix3 b t j) := by
  unfold rest
  dsimp only [hostOps0, List.take, List.drop]
  entry_read
  pointwise

/-- What the stretches up to the joined attention output write. -/
abbrev oW : List (Ref sig .tc) := [main_v0, main_v1, main_cst, main_v2, main_v3, main_cst_0, main_v4, main_v5, main_cst_1, main_v6,
  main_v7, main_cst_2, main_v8, main_v9, main_cst_3, main_v10, main_v11, main_cst_4, main_v12, main_v13, main_cst_5, main_v14,
  main_v15, main_cst_6, main_v16, main_v17]

/-- The contents after the joined attention output. -/
abbrev oEnd : Valuation τ sig (Elt Ideal) :=
  StableHlo.after oBoth (StableHlo.after oRight (StableHlo.after oLeft (StableHlo.after oPieces V)))

theorem oEnd_of (r : Ref sig .tc) (h1 : r ∉ oW) (h2 : r ∉ [main_v18]) (h3 : r ∉ [main_v19]) (h4 : r ∉ [main_v20]) :
    oEnd V (Proc.devRef .tc r) = V (Proc.devRef .tc r) :=
  (StableHlo.after_unwritten [main_v20] rfl h4 _).trans ((StableHlo.after_unwritten [main_v19] rfl h3 _).trans
    ((StableHlo.after_unwritten [main_v18] rfl h2 _).trans (StableHlo.after_unwritten oW rfl h1 _)))

theorem after0 : StableHlo.after [hostOps0].flatten V = StableHlo.after rest (oEnd V) := by
  rw [split0, StableHlo.after_append, StableHlo.after_append, StableHlo.after_append, StableHlo.after_append]

/-- The stretch after the call: the slices, their join, and its transpose. -/
def gPieces : List (HloOp τ sig (Elt Ideal)) := hostOps1.take 11
def gJoin : List (HloOp τ sig (Elt Ideal)) := (hostOps1.drop 11).take 1
def gLast : List (HloOp τ sig (Elt Ideal)) := hostOps1.drop 12
theorem split1 : ([hostOps1].flatten : List (HloOp τ sig (Elt Ideal))) = gPieces ++ (gJoin ++ gLast) := rfl

/-- The packed column of an output column. -/
def dst (k : Fin 1024) : Fin 1536 := ⟨moDst k.val, moDst_lt _ k.isLt⟩

set_option maxHeartbeats 4000000 in
theorem v36_at (n k : Fin 1024) :
    (StableHlo.after gJoin (StableHlo.after gPieces V) (Proc.devRef .tc main_v36) : FVec Ideal S1024x1024 .f32) (ix2 n k)
      = (V (Proc.devRef .tc main_v24) : FVec Ideal S1x1536x1024 .f32) (ix3 0 (dst k) n) := by
  unfold gJoin
  dsimp only [hostOps1, List.take, List.drop]
  rw [StableHlo.after_cons, StableHlo.after_nil, StableHlo.nary_result]
  pointwise
  unfold gPieces
  dsimp only [hostOps1, List.take, List.drop, Matrix.cons_val]
  entry_read
  pointwise
  repeat' refine dite_to (fun h => ?_) (fun h => ?_)
  all_goals
    refine congrArg (fun j => (V (Proc.devRef .tc main_v24) : FVec Ideal S1x1536x1024 .f32) (ix3 0 j n)) ?_
    refine Fin.ext ((?_ : _ = moDst k.val))
    dsimp only
    unfold moDst
    split_ifs <;> omega

theorem v37_at (k n : Fin 1024) :
    (StableHlo.after [hostOps1].flatten V (Proc.devRef .tc main_v37) : FVec Ideal S1024x1024 .f32) (ix2 k n)
      = (V (Proc.devRef .tc main_v24) : FVec Ideal S1x1536x1024 .f32) (ix3 0 (dst k) n) := by
  rw [split1, StableHlo.after_append, StableHlo.after_append]
  refine Eq.trans ?_ (v36_at V n k)
  unfold gLast
  dsimp only [hostOps1, List.take, List.drop]
  entry_read
  pointwise

end

variable (m : (ℓ : Loc nD τ sig) → Buf (Elt Ideal) ℓ) (c : Dev nD)

/-- The attention output and the gradient of the mixer's output. -/
abbrev aO : FVec Ideal S2x2048x1024 .f32 := m ((c : Thread nD τ).loc main_arg0)
abbrev aD : FVec Ideal S2x2048x1024 .f32 := m ((c : Thread nD τ).loc main_arg1)

theorem in_o (b : Fin 2) (t : Fin 2048) (j : Fin 1536) :
    (V m c main_v23 : FVec Ideal S1x4096x1536 .bf16) (ix3 0 ⟨b.val * 2048 + t.val, by omega⟩ j)
      = moVal (row3 (n := 1024) (aO m c) b t) j.val := by
  unfold V V0
  rw [after0, v23_at]
  exact v20_at _ b t j

theorem in_d (b : Fin 2) (t : Fin 2048) (n : Fin 1024) :
    (V m c main_v22 : FVec Ideal S1x4096x1024 .bf16) (ix3 0 ⟨b.val * 2048 + t.val, by omega⟩ n) = aD m c (ix3 b t n) := by
  unfold V V0
  rw [after0, v22_at, oEnd_of _ main_arg1 (by decide) (by decide) (by decide) (by decide)]

/-- One entry of the transposed packed attention output times the gradient, over batch and position. -/
def gAt (u : FVec Ideal S1x4096x1536 .bf16) (d : FVec Ideal S1x4096x1024 .bf16) (j : Fin 1536) (n : Fin 1024) : EReal :=
  ∑ b : Fin 2, ∑ t : Fin 2048, u (ix3 0 ⟨b.val * 2048 + t.val, by omega⟩ j) * d (ix3 0 ⟨b.val * 2048 + t.val, by omega⟩ n)

theorem idx : ∀ t : Fin cfg0.N, win0_0.index t = ![0, t.val % 2, t.val / 2] ∧ win0_1.index t = ![0, t.val % 2, 0]
    ∧ win0_2.index t = ![0, t.val / 2, 0] ∧ t.val < 6 :=
  (by decide +kernel : ∀ t : Fin grid0.N, _)

/-- A block of either operand. -/
def blkU (u : FVec Ideal S1x4096x1536 .bf16) (t : Fin cfg0.N) : Vec Ideal S1x2048x512 .bf16 :=
  ((cfg0.win 0).blk t).view.read (Elt Ideal) u
def blkD (d : FVec Ideal S1x4096x1024 .bf16) (t : Fin cfg0.N) : Vec Ideal S1x2048x1024 .bf16 :=
  ((cfg0.win 1).blk t).view.read (Elt Ideal) d

theorem iblk_u {u : FVec Ideal S1x4096x1536 .bf16} (hu : V m c main_v23 = u) (t : Fin cfg0.N) : iblk m c 0 t = blkU u t := by
  rw [← hu]; rfl
theorem iblk_d {d : FVec Ideal S1x4096x1024 .bf16} (hd : V m c main_v22 = d) (t : Fin cfg0.N) : iblk m c 1 t = blkD d t := by
  rw [← hd]; rfl

theorem g_arr (u : FVec Ideal S1x4096x1536 .bf16) (d : FVec Ideal S1x4096x1024 .bf16) (hu : V m c main_v23 = u)
    (hd : V m c main_v22 = d) : (dats m 0 c).arrAt 2 (cfgs 0).N
    = (fun i => gAt u d (i 1) (i 2) : FVec Ideal S1x1536x1024 .f32) := by
  refine (dats m 0 c).arrAt_eq_of_covers 2 _ (by decide +kernel) fun t hf y => ?_
  have hm : t.val % 2 = 1 := (flush0_2 t).mp hf
  blk_simp
  rw [after0_2, outsAt0_B m c t (by omega) hm hm]
  have hA := outsAt0_A m c ⟨t.val - 1, Nat.lt_of_le_of_lt (Nat.sub_le _ _) t.isLt⟩
    (by show (t.val - 1) % 2 = 0; omega) (by show ¬ (t.val - 1) % 2 = 1; omega) (by show ¬ (t.val - 1) % 2 = 1; omega)
  rw [hA]
  dsimp only
  simp only [iblk_u m c hu, iblk_d m c hd]
  clear hA hu hd
  frame_out
  rw [show ∀ (h : (scM0_0).IsWhole) (v : Vec Ideal S512x1024 .f32), View.read (Elt Ideal)
    (View.whole cc0_scratch0) (h.unread v) = v from fun h v => h.read_unread (Val := Elt Ideal) v]
  pointwise [k0_pay1, k0_pay2, k0_pay3, k0_pay4, gAt]
  rw [Fin.sum_univ_two]
  obtain ⟨e0, e1, e2, e3⟩ := idx t
  obtain ⟨f0, f1, f2, f3⟩ := idx ⟨t.val - 1, Nat.lt_of_le_of_lt (Nat.sub_le _ _) t.isLt⟩
  have g0 : (t.val - 1) / 2 = t.val / 2 := by omega
  have g1 : (t.val - 1) % 2 = 0 := by omega
  simp only [g0, g1] at f0 f1
  rw [hm] at e0 e1
  refine congrArg₂ (· + ·) (Finset.sum_congr rfl fun x _ => ?_)
    (Finset.sum_congr rfl fun x _ => ?_) <;>
    blk_point [blkU, blkD, e0, e1, e2, f0, f1]

/-- The reference's term. -/
abbrev REF (O D : FVec Ideal S2x2048x1024 .f32) : FVec Ideal S1024x1024 .f32 :=
  transpose Cert.Reference7Ideal.S1024x1024 [1, 0]
    (Host.dotGeneral (F := Ideal) Cert.Reference7Ideal.dot_S2x2048x1024_S2x2048x1024_S1024x1024_01_01_2_2_n_n none D O)
    Cert.Reference7Ideal.Gen.transposes_S1024x1024_S1024x1024_1_0

theorem ref_at (O D : FVec Ideal S2x2048x1024 .f32) (k n : Fin 1024) :
    REF O D (ix2 k n) = ∑ b : Fin 2, ∑ t : Fin 2048, O (ix3 b t k) * D (ix3 b t n) := by
  pointwise [REF]
  exact Finset.sum_congr rfl fun b _ => Finset.sum_congr rfl fun t _ => mul_comm _ _

theorem tail : Pipeline.afterTail₀ cfgs (dats m) 0 (V0 m) [hostOps1] c main_v37 = REF (aO m c) (aD m c) := by
  unfold Pipeline.afterTail₀
  refine funext fun (i : S1024x1024.Idx) => ?_
  obtain ⟨k, n, rfl⟩ : ∃ (k n : Fin 1024), i = ix2 k n := ⟨_, _, eq_ix2 i⟩
  refine (v37_at _ k n).trans ?_
  refine (congrFun (Pipeline.withArrays_arr (cfgs 0).spec (by decide) c (V0 m c) _ 2) _).trans ?_
  refine (congrFun (g_arr m c _ _ rfl rfl) _).trans ?_
  rw [ref_at]
  show gAt (V m c main_v23) (V m c main_v22) (dst k) n
    = ∑ b : Fin 2, ∑ t : Fin 2048, aO m c (ix3 b t k) * aD m c (ix3 b t n)
  unfold gAt
  refine Finset.sum_congr rfl fun b _ => Finset.sum_congr rfl fun t _ => congrArg₂ (· * ·) ?_ (in_d m c b t n)
  exact (in_o m c b t (dst k)).trans ((moVal_moDst _ _ k.isLt).trans (row3_eq (n := 1024) _ _ _ _ k.isLt).symm)

end Cert.Kernel7Ideal.Val

namespace Cert.Proof

/-- The gradient of the mixer's output weight. -/
theorem algebraic7 : Cert.algebraic_Kernel7Ideal_Reference7Ideal := by
  intro m g m' g' hpre hagree
  refine ⟨fun c => Cert.Kernel7Ideal.Val.REF (Cert.Kernel7Ideal.Val.aO m c) (Cert.Kernel7Ideal.Val.aD m c),
    (θ_run Cert.Kernel7Ideal.defs _ _).mono (fun r h c => ⟨((h.2 c).2 Cert.Kernel7Ideal.main_v37
        (Pipeline.mem_restRefs_of Cert.Kernel7Ideal.main_v37 (by decide) (by decide))).trans (Cert.Kernel7Ideal.Val.tail m c), h.1 c⟩)
      (θ_run_and (Cert.Kernel7Ideal.Gen.unchanged (F := Ideal) m g) (Cert.Kernel7Ideal.Gen.run_main (F := Ideal) m g)),
    (θ_run Cert.Reference7Ideal.defs _ _).mono (fun r h c => ?_) (Cert.Reference7Ideal.Value.run (F := Ideal) m' g')⟩
  obtain ⟨e0, e1⟩ := hagree c
  obtain ⟨r0, rest⟩ := h c
  rw [e0, e1] at r0
  exact ⟨r0, rest⟩

theorem frameR7 : Cert.quiescent_Reference7Ideal := by
  intro m g _
  exact (θ_run Cert.Reference7Ideal.defs _ _).mono (fun r h => ⟨fun c => (h c).2,
      sem_eq_zero_of_no_sems (by decide) r.2⟩) (Cert.Reference7Ideal.Value.run (F := Ideal) m g)

end Cert.Proof

end
-- ==== Proof.Mix8Entry.lean ====
/- The operands of the gradient of the mixer's input weight when its call starts, read at an index, and the columns taken out of
   its result. -/
module

public import proofs.«01_k».proof.Proof.Gen.Kernel8Ideal.Frame
public import Idealize.ShloMosaic.Lib.Pipeline.ValueKit
public import Idealize.ShloMosaic.Lib.Claim
public import Idealize.ShloMosaic.Lib.StableHlo.RunRead
public import proofs.«01_k».proof.Proof.MixWide

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Kernel8Ideal.Val

open Cert.Kernel8Ideal Cert.Kernel8Ideal.Gen Cert.Mix

/-- The host operations before the call in stretches: the slices of the gradient, the joins of its four parts, of the first two,
    the last two and all, and what follows. -/
def dPieces : List (HloOp τ sig (Elt Ideal)) := hostOps0.take 51
def dA : List (HloOp τ sig (Elt Ideal)) := (hostOps0.drop 51).take 1
def dB : List (HloOp τ sig (Elt Ideal)) := (hostOps0.drop 52).take 1
def dAB : List (HloOp τ sig (Elt Ideal)) := (hostOps0.drop 53).take 1
def dC : List (HloOp τ sig (Elt Ideal)) := (hostOps0.drop 54).take 1
def dD : List (HloOp τ sig (Elt Ideal)) := (hostOps0.drop 55).take 1
def dCD : List (HloOp τ sig (Elt Ideal)) := (hostOps0.drop 56).take 1
def dAll : List (HloOp τ sig (Elt Ideal)) := (hostOps0.drop 57).take 1
def rest : List (HloOp τ sig (Elt Ideal)) := hostOps0.drop 58

theorem split0 : ([hostOps0].flatten : List (HloOp τ sig (Elt Ideal)))
    = dPieces ++ (dA ++ (dB ++ (dAB ++ (dC ++ (dD ++ (dCD ++ (dAll ++ rest))))))) := rfl

section
variable (V : Valuation τ sig (Elt Ideal))

set_option maxHeartbeats 8000000 in
theorem v35_at (b : Fin 2) (t : Fin 2048) (j : Fin 1664) :
    (StableHlo.after dA (StableHlo.after dPieces V) (Proc.devRef .tc main_v35)
        : FVec Ideal S2x2048x1664 .bf16) (ix3 b t j)
      = mixVal (row3 (n := 2724) (V (Proc.devRef .tc main_arg1) : FVec Ideal S2x2048x2724 .f32) b t) j.val := by
  unfold dA
  dsimp only [hostOps0, List.take, List.drop]
  rw [StableHlo.after_cons, StableHlo.after_nil, StableHlo.nary_result]
  pointwise
  unfold dPieces
  dsimp only [hostOps0, List.take, List.drop, Matrix.cons_val]
  entry_read
  pointwise
  simp only [row3_eq (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem dB_skip : StableHlo.after dB (StableHlo.after dA V) (Proc.devRef .tc main_v36)
    = StableHlo.after dB V (Proc.devRef .tc main_v36) := by
  generalize hX : StableHlo.after dA V = X
  unfold dB
  dsimp only [hostOps0, List.take, List.drop]
  rw [StableHlo.after_cons, StableHlo.after_nil, StableHlo.after_cons, StableHlo.after_nil]
  refine nary_congr _ _ _ _ _ _ _ fun k => ?_
  rw [← hX]
  exact (StableHlo.after_unwritten [main_v35] rfl (by revert k; decide) _)

set_option maxHeartbeats 8000000 in
theorem v36_at (b : Fin 2) (t : Fin 2048) (j : Fin 512) :
    (StableHlo.after dB (StableHlo.after dA (StableHlo.after dPieces V)) (Proc.devRef .tc main_v36)
        : FVec Ideal S2x2048x512 .bf16) (ix3 b t j)
      = mixVal (row3 (n := 2724) (V (Proc.devRef .tc main_arg1) : FVec Ideal S2x2048x2724 .f32) b t) (1664 + j.val) := by
  rw [dB_skip]
  unfold dB
  dsimp only [hostOps0, List.take, List.drop]
  rw [StableHlo.after_cons, StableHlo.after_nil, StableHlo.nary_result]
  pointwise
  unfold dPieces
  dsimp only [hostOps0, List.take, List.drop, Matrix.cons_val]
  entry_read
  pointwise
  simp only [row3_eq (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem v37_at (b : Fin 2) (t : Fin 2048) (j : Fin 2176) :
    (StableHlo.after dAB (StableHlo.after dB (StableHlo.after dA (StableHlo.after dPieces V))) (Proc.devRef .tc main_v37)
        : FVec Ideal S2x2048x2176 .bf16) (ix3 b t j)
      = mixVal (row3 (n := 2724) (V (Proc.devRef .tc main_arg1) : FVec Ideal S2x2048x2724 .f32) b t) j.val := by
  unfold dAB
  dsimp only [hostOps0, List.take, List.drop]
  rw [StableHlo.after_cons, StableHlo.after_nil, StableHlo.binary_result]
  pointwise
  split
  · rw [StableHlo.after_unwritten [main_v36] rfl (by decide)]
    exact v35_at V b t _
  · refine (v36_at V b t _).trans (congrArg _ ?_)
    show 1664 + (j.val - 1664) = j.val
    omega

theorem dC_skip : StableHlo.after dC (StableHlo.after dAB (StableHlo.after dB (StableHlo.after dA V))) (Proc.devRef .tc main_v38)
    = StableHlo.after dC V (Proc.devRef .tc main_v38) := by
  generalize hX : StableHlo.after dAB (StableHlo.after dB (StableHlo.after dA V)) = X
  unfold dC
  dsimp only [hostOps0, List.take, List.drop]
  rw [StableHlo.after_cons, StableHlo.after_nil, StableHlo.after_cons, StableHlo.after_nil]
  refine nary_congr _ _ _ _ _ _ _ fun k => ?_
  rw [← hX]
  exact ((StableHlo.after_unwritten [main_v37] rfl (by revert k; decide) _).trans
    ((StableHlo.after_unwritten [main_v36] rfl (by revert k; decide) _).trans
    (StableHlo.after_unwritten [main_v35] rfl (by revert k; decide) _)))

set_option maxHeartbeats 8000000 in
theorem v38_at (b : Fin 2) (t : Fin 2048) (j : Fin 512) :
    (StableHlo.after dC (StableHlo.after dAB (StableHlo.after dB (StableHlo.after dA (StableHlo.after dPieces V)))) (Proc.devRef .tc main_v38)
        : FVec Ideal S2x2048x512 .bf16) (ix3 b t j)
      = mixVal (row3 (n := 2724) (V (Proc.devRef .tc main_arg1) : FVec Ideal S2x2048x2724 .f32) b t) (2176 + j.val) := by
  rw [dC_skip]
  unfold dC
  dsimp only [hostOps0, List.take, List.drop]
  rw [StableHlo.after_cons, StableHlo.after_nil, StableHlo.nary_result]
  pointwise
  unfold dPieces
  dsimp only [hostOps0, List.take, List.drop, Matrix.cons_val]
  entry_read
  pointwise
  simp only [row3_eq (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem dD_skip : StableHlo.after dD (StableHlo.after dC (StableHlo.after dAB (StableHlo.after dB (StableHlo.after dA V)))) (Proc.devRef .tc main_v39)
    = StableHlo.after dD V (Proc.devRef .tc main_v39) := by
  generalize hX : StableHlo.after dC (StableHlo.after dAB (StableHlo.after dB (StableHlo.after dA V))) = X
  unfold dD
  dsimp only [hostOps0, List.take, List.drop]
  rw [StableHlo.after_cons, StableHlo.after_nil, StableHlo.after_cons, StableHlo.after_nil]
  refine nary_congr _ _ _ _ _ _ _ fun k => ?_
  rw [← hX]
  exact ((StableHlo.after_unwritten [main_v38] rfl (by revert k; decide) _).trans
    ((StableHlo.after_unwritten [main_v37] rfl (by revert k; decide) _).trans
    ((StableHlo.after_unwritten [main_v36] rfl (by revert k; decide) _).trans
    (StableHlo.after_unwritten [main_v35] rfl (by revert k; decide) _))))

set_option maxHeartbeats 8000000 in
theorem v39_at (b : Fin 2) (t : Fin 2048) (j : Fin 1024) :
    (StableHlo.after dD (StableHlo.after dC (StableHlo.after dAB (StableHlo.after dB (StableHlo.after dA (StableHlo.after dPieces V))))) (Proc.devRef .tc main_v39)
        : FVec Ideal S2x2048x1024 .bf16) (ix3 b t j)
      = mixVal (row3 (n := 2724) (V (Proc.devRef .tc main_arg1) : FVec Ideal S2x2048x2724 .f32) b t) (2688 + j.val) := by
  rw [dD_skip]
  unfold dD
  dsimp only [hostOps0, List.take, List.drop]
  rw [StableHlo.after_cons, StableHlo.after_nil, StableHlo.nary_result]
  pointwise
  unfold dPieces
  dsimp only [hostOps0, List.take, List.drop, Matrix.cons_val]
  entry_read
  pointwise
  simp only [row3_eq (n := 2724)]
  repeat' with_reducible refine dite_to (fun h => ?_) (fun h => ?_)
  all_goals
    first
      | refine mixVal_src _ _ _ (by omega) ?_
      | refine mixVal_zero _ _ ?_
    unfold mixSrc
    repeat' with_reducible refine ite_to (fun h => ?_) (fun h => ?_)
    all_goals omega

theorem v40_at (b : Fin 2) (t : Fin 2048) (j : Fin 1536) :
    (StableHlo.after dCD (StableHlo.after dD (StableHlo.after dC (StableHlo.after dAB (StableHlo.after dB (StableHlo.after dA (StableHlo.after dPieces V)))))) (Proc.devRef .tc main_v40)
        : FVec Ideal S2x2048x1536 .bf16) (ix3 b t j)
      = mixVal (row3 (n := 2724) (V (Proc.devRef .tc main_arg1) : FVec Ideal S2x2048x2724 .f32) b t) (2176 + j.val) := by
  unfold dCD
  dsimp only [hostOps0, List.take, List.drop]
  rw [StableHlo.after_cons, StableHlo.after_nil, StableHlo.binary_result]
  pointwise
  split
  · rw [StableHlo.after_unwritten [main_v39] rfl (by decide)]
    exact v38_at V b t _
  · refine (v39_at V b t _).trans (congrArg _ ?_)
    show 2688 + (j.val - 512) = 2176 + j.val
    omega

theorem v41_at (b : Fin 2) (t : Fin 2048) (j : Fin 3712) :
    (StableHlo.after dAll (StableHlo.after dCD (StableHlo.after dD (StableHlo.after dC (StableHlo.after dAB (StableHlo.after dB (StableHlo.after dA (StableHlo.after dPieces V))))))) (Proc.devRef .tc main_v41)
        : FVec Ideal S2x2048x3712 .bf16) (ix3 b t j)
      = mixVal (row3 (n := 2724) (V (Proc.devRef .tc main_arg1) : FVec Ideal S2x2048x2724 .f32) b t) j.val := by
  unfold dAll
  dsimp only [hostOps0, List.take, List.drop]
  rw [StableHlo.after_cons, StableHlo.after_nil, StableHlo.binary_result]
  pointwise
  split
  · rw [StableHlo.after_unwritten [main_v40] rfl (by decide), StableHlo.after_unwritten [main_v39] rfl (by decide), StableHlo.after_unwritten [main_v38] rfl (by decide)]
    exact v37_at V b t _
  · refine (v40_at V b t _).trans (congrArg _ ?_)
    show 2176 + (j.val - 2176) = j.val
    omega

/-- The contents after the joins. -/
abbrev dEnd : Valuation τ sig (Elt Ideal) := StableHlo.after dAll (StableHlo.after dCD (StableHlo.after dD (StableHlo.after dC (StableHlo.after dAB (StableHlo.after dB (StableHlo.after dA (StableHlo.after dPieces V)))))))

/-- What the slices and the joins write is all they change. -/
theorem dEnd_of (r : Ref sig .tc) (h : r ∉ [main_v35, main_v36, main_v37, main_v38, main_v39, main_v40, main_v41]) :
    dEnd V (Proc.devRef .tc r) = StableHlo.after dPieces V (Proc.devRef .tc r) := by
  simp only [List.mem_cons, List.not_mem_nil, or_false, not_or] at h
  obtain ⟨h1, h2, h3, h4, h5, h6, h7⟩ := h
  exact ((StableHlo.after_unwritten [main_v41] rfl (by simpa using h7) _).trans
    ((StableHlo.after_unwritten [main_v40] rfl (by simpa using h6) _).trans
    ((StableHlo.after_unwritten [main_v39] rfl (by simpa using h5) _).trans
    ((StableHlo.after_unwritten [main_v38] rfl (by simpa using h4) _).trans
    ((StableHlo.after_unwritten [main_v37] rfl (by simpa using h3) _).trans
    ((StableHlo.after_unwritten [main_v36] rfl (by simpa using h2) _).trans
    (StableHlo.after_unwritten [main_v35] rfl (by simpa using h1) _)))))))

theorem after0 : StableHlo.after [hostOps0].flatten V = StableHlo.after rest (dEnd V) := by
  rw [split0, StableHlo.after_append, StableHlo.after_append, StableHlo.after_append, StableHlo.after_append, StableHlo.after_append,
    StableHlo.after_append, StableHlo.after_append, StableHlo.after_append]

theorem v42_at (b : Fin 2) (t : Fin 2048) (j : Fin 3712) :
    (StableHlo.after rest V (Proc.devRef .tc main_v42) : FVec Ideal S1x4096x3712 .bf16) (ix3 0 ⟨b.val * 2048 + t.val, by omega⟩ j)
      = (V (Proc.devRef .tc main_v41) : FVec Ideal S2x2048x3712 .bf16) (ix3 b t j) := by
  unfold rest
  dsimp only [hostOps0, List.take, List.drop]
  entry_read
  pointwise

theorem v43_at (b : Fin 2) (t : Fin 2048) (n : Fin 1024) :
    (StableHlo.after rest V (Proc.devRef .tc main_v43) : FVec Ideal S1x4096x1024 .bf16) (ix3 0 ⟨b.val * 2048 + t.val, by omega⟩ n)
      = (V (Proc.devRef .tc main_v0) : FVec Ideal S2x2048x1024 .bf16) (ix3 b t n) := by
  unfold rest
  dsimp only [hostOps0, List.take, List.drop]
  entry_read
  pointwise

theorem v0_at (b : Fin 2) (t : Fin 2048) (n : Fin 1024) :
    (StableHlo.after dPieces V (Proc.devRef .tc main_v0) : FVec Ideal S2x2048x1024 .bf16) (ix3 b t n)
      = (V (Proc.devRef .tc main_arg0) : FVec Ideal S2x2048x1024 .f32) (ix3 b t n) := by
  unfold dPieces
  dsimp only [hostOps0, List.take, List.drop]
  entry_read
  pointwise

/-- The packed column of a projection's column. -/
def dst (k : Fin 2724) : Fin 3712 := ⟨mixDst k.val, mixDst_lt _ k.isLt⟩

/-- The stretch after the call: the slices, the joins of its two halves and of both. -/
def gPieces : List (HloOp τ sig (Elt Ideal)) := hostOps1.take 18
def gA : List (HloOp τ sig (Elt Ideal)) := (hostOps1.drop 18).take 1
def gB : List (HloOp τ sig (Elt Ideal)) := (hostOps1.drop 19).take 1
def gAll : List (HloOp τ sig (Elt Ideal)) := hostOps1.drop 20
theorem split1 : ([hostOps1].flatten : List (HloOp τ sig (Elt Ideal))) = gPieces ++ (gA ++ (gB ++ gAll)) := rfl

/-- The result's entry at the packed column of column `k`, by number. -/
def out (r : Fin 1024) (k : ℕ) : EReal :=
  if h : mixDst k < 3712 then (V (Proc.devRef .tc main_v44) : FVec Ideal S1x1024x3712 .bf16) (ix3 0 r ⟨mixDst k, h⟩) else 0

theorem out_eq (r : Fin 1024) (j : Fin 3712) (k : ℕ) (e : mixDst k = j.val) :
    (V (Proc.devRef .tc main_v44) : FVec Ideal S1x1024x3712 .bf16) (ix3 0 r j) = out V r k := by
  unfold out
  rw [dif_pos (by rw [e]; exact j.isLt)]
  exact congrArg (fun j => (V (Proc.devRef .tc main_v44) : FVec Ideal S1x1024x3712 .bf16) (ix3 0 r j)) (Fin.ext e.symm)

set_option maxHeartbeats 8000000 in
theorem v63_at (r : Fin 1024) (k : Fin 1760) :
    (StableHlo.after gA (StableHlo.after gPieces V) (Proc.devRef .tc main_v63) : FVec Ideal S1024x1760 .bf16) (ix2 r k)
      = out V r k.val := by
  unfold gA
  dsimp only [hostOps1, List.take, List.drop]
  rw [StableHlo.after_cons, StableHlo.after_nil, StableHlo.nary_result]
  pointwise
  unfold gPieces
  dsimp only [hostOps1, List.take, List.drop, Matrix.cons_val]
  entry_read
  pointwise
  repeat' with_reducible refine dite_to (fun h => ?_) (fun h => ?_)
  all_goals
    refine out_eq V r _ _ ?_
    dsimp only
    unfold mixDst
    repeat' with_reducible refine ite_to (fun h => ?_) (fun h => ?_)
    all_goals omega

theorem gB_skip :
    StableHlo.after gB (StableHlo.after gA V) (Proc.devRef .tc main_v64) = StableHlo.after gB V (Proc.devRef .tc main_v64) := by
  generalize hX : StableHlo.after gA V = X
  unfold gB
  dsimp only [hostOps1, List.take, List.drop]
  rw [StableHlo.after_cons, StableHlo.after_nil, StableHlo.after_cons, StableHlo.after_nil]
  refine nary_congr _ _ _ _ _ _ _ fun k => ?_
  rw [← hX]
  exact StableHlo.after_unwritten [main_v63] rfl (by revert k; decide) _

set_option maxHeartbeats 8000000 in
theorem v64_at (r : Fin 1024) (k : Fin 964) :
    (StableHlo.after gB (StableHlo.after gA (StableHlo.after gPieces V)) (Proc.devRef .tc main_v64) : FVec Ideal S1024x964 .bf16) (ix2 r k)
      = out V r (1760 + k.val) := by
  rw [gB_skip]
  unfold gB
  dsimp only [hostOps1, List.take, List.drop]
  rw [StableHlo.after_cons, StableHlo.after_nil, StableHlo.nary_result]
  pointwise
  unfold gPieces
  dsimp only [hostOps1, List.take, List.drop, Matrix.cons_val]
  entry_read
  pointwise
  repeat' with_reducible refine dite_to (fun h => ?_) (fun h => ?_)
  all_goals
    refine out_eq V r _ _ ?_
    dsimp only
    unfold mixDst
    repeat' with_reducible refine ite_to (fun h => ?_) (fun h => ?_)
    all_goals omega

theorem v65_at (r : Fin 1024) (k : Fin 2724) :
    (StableHlo.after [hostOps1].flatten V (Proc.devRef .tc main_v65) : FVec Ideal S1024x2724 .bf16) (ix2 r k)
      = (V (Proc.devRef .tc main_v44) : FVec Ideal S1x1024x3712 .bf16) (ix3 0 r (dst k)) := by
  rw [split1, StableHlo.after_append, StableHlo.after_append, StableHlo.after_append]
  refine Eq.trans ?_ (out_eq V r (dst k) k.val rfl).symm
  unfold gAll
  dsimp only [hostOps1, List.take, List.drop]
  rw [StableHlo.after_cons, StableHlo.after_nil, StableHlo.binary_result]
  pointwise
  split
  · rw [StableHlo.after_unwritten [main_v64] rfl (by decide)]
    exact v63_at V r _
  · refine (v64_at V r _).trans (congrArg _ ?_)
    show 1760 + (k.val - 1760) = k.val
    omega

end

variable (m : (ℓ : Loc nD τ sig) → Buf (Elt Ideal) ℓ) (c : Dev nD)

/-- The normalised input and the gradient of the projection. -/
abbrev aH : FVec Ideal S2x2048x1024 .f32 := m ((c : Thread nD τ).loc main_arg0)
abbrev aP : FVec Ideal S2x2048x2724 .f32 := m ((c : Thread nD τ).loc main_arg1)

theorem in_p (b : Fin 2) (t : Fin 2048) (j : Fin 3712) :
    (V m c main_v42 : FVec Ideal S1x4096x3712 .bf16) (ix3 0 ⟨b.val * 2048 + t.val, by omega⟩ j)
      = mixVal (row3 (n := 2724) (aP m c) b t) j.val := by
  unfold V V0
  rw [after0, v42_at]
  exact v41_at _ b t j

theorem in_h (b : Fin 2) (t : Fin 2048) (n : Fin 1024) :
    (V m c main_v43 : FVec Ideal S1x4096x1024 .bf16) (ix3 0 ⟨b.val * 2048 + t.val, by omega⟩ n) = aH m c (ix3 b t n) := by
  unfold V V0
  rw [after0, v43_at, dEnd_of _ main_v0 (by decide)]
  exact v0_at _ b t n

end Cert.Kernel8Ideal.Val

end
-- ==== Proof.Mix8Blocks.lean ====
/- What the gradient of the mixer's input weight leaves in its result array: the products of the four token tiles, added in
   order. -/
module

public import proofs.«01_k».proof.Proof.Gen.Kernel8Ideal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Kernel8Ideal.Val

open Cert.Kernel8Ideal Cert.Kernel8Ideal.Gen

variable (m : (ℓ : Loc nD τ sig) → Buf (Elt Ideal) ℓ) (c : Dev nD)

/-- One entry of the transposed input times the packed gradient, over the token tiles. -/
def gAt (u : FVec Ideal S1x4096x1024 .bf16) (d : FVec Ideal S1x4096x3712 .bf16) (n : Fin 1024) (j : Fin 3712) : EReal :=
  ∑ q : Fin 4, ∑ x : Fin 1024, u (ix3 0 ⟨q.val * 1024 + x.val, by omega⟩ n) * d (ix3 0 ⟨q.val * 1024 + x.val, by omega⟩ j)

theorem idx : ∀ t : Fin cfg0.N, win0_0.index t = ![0, t.val % 4, t.val / 4] ∧ win0_1.index t = ![0, t.val % 4, 0]
    ∧ win0_2.index t = ![0, t.val / 4, 0] ∧ t.val < 8 :=
  (by decide +kernel : ∀ t : Fin grid0.N, _)

/-- A block of either operand. -/
def blkU (u : FVec Ideal S1x4096x1024 .bf16) (t : Fin cfg0.N) : Vec Ideal S1x1024x512 .bf16 :=
  ((cfg0.win 0).blk t).view.read (Elt Ideal) u
def blkD (d : FVec Ideal S1x4096x3712 .bf16) (t : Fin cfg0.N) : Vec Ideal S1x1024x3712 .bf16 :=
  ((cfg0.win 1).blk t).view.read (Elt Ideal) d

theorem iblk_u {u : FVec Ideal S1x4096x1024 .bf16} (hu : V m c main_v43 = u) (t : Fin cfg0.N) : iblk m c 0 t = blkU u t := by
  rw [← hu]; rfl
theorem iblk_d {d : FVec Ideal S1x4096x3712 .bf16} (hd : V m c main_v42 = d) (t : Fin cfg0.N) : iblk m c 1 t = blkD d t := by
  rw [← hd]; rfl

/-- The point `k` before `t`. -/
abbrev bk (t : Fin cfg0.N) (k : ℕ) : Fin cfg0.N := ⟨t.val - k, Nat.lt_of_le_of_lt (Nat.sub_le _ _) t.isLt⟩

set_option maxHeartbeats 4000000 in
theorem g_arr (u : FVec Ideal S1x4096x1024 .bf16) (d : FVec Ideal S1x4096x3712 .bf16) (hu : V m c main_v43 = u)
    (hd : V m c main_v42 = d) : (dats m 0 c).arrAt 2 (cfgs 0).N
    = (fun i => gAt u d (i 1) (i 2) : FVec Ideal S1x1024x3712 .bf16) := by
  refine (dats m 0 c).arrAt_eq_of_covers 2 _ (by decide +kernel) fun t hf y => ?_
  have hm : t.val % 4 = 3 := (flush0_2 t).mp hf
  blk_simp
  rw [after0_2, outsAt0_C m c t (by omega) (by omega) hm]
  have h1 := outsAt0_B m c (bk t 1) (by show ¬ (t.val - 1) % 4 = 0; omega) (by show 1 ≤ (t.val - 1) % 4; omega)
    (by show ¬ (t.val - 1) % 4 = 3; omega)
  have h2 := outsAt0_B m c (bk (bk t 1) 1) (by show ¬ (t.val - 1 - 1) % 4 = 0; omega) (by show 1 ≤ (t.val - 1 - 1) % 4; omega)
    (by show ¬ (t.val - 1 - 1) % 4 = 3; omega)
  have h3 := outsAt0_A m c (bk (bk (bk t 1) 1) 1) (by show (t.val - 1 - 1 - 1) % 4 = 0; omega)
    (by show ¬ 1 ≤ (t.val - 1 - 1 - 1) % 4; omega) (by show ¬ (t.val - 1 - 1 - 1) % 4 = 3; omega)
  rw [h1, h2, h3]
  dsimp only
  simp only [iblk_u m c hu, iblk_d m c hd]
  clear h1 h2 h3 hu hd
  frame_out
  simp only [show ∀ (h : (scM0_0).IsWhole) (v : Vec Ideal S512x3712 .f32), View.read (Elt Ideal)
    (View.whole cc0_scratch0) (h.unread v) = v from fun h v => h.read_unread (Val := Elt Ideal) v]
  pointwise [k0_pay1, k0_pay2, k0_pay3, k0_pay4, gAt]
  rw [Fin.sum_univ_four]
  obtain ⟨e0, e1, e2, e3⟩ := idx t
  obtain ⟨f0, f1, -, -⟩ := idx (bk t 1)
  obtain ⟨g0, g1, -, -⟩ := idx (bk (bk t 1) 1)
  obtain ⟨k0, k1, -, -⟩ := idx (bk (bk (bk t 1) 1) 1)
  have a1 : (t.val - 1) / 4 = t.val / 4 := by omega
  have a2 : (t.val - 1) % 4 = 2 := by omega
  have b1 : (t.val - 1 - 1) / 4 = t.val / 4 := by omega
  have b2 : (t.val - 1 - 1) % 4 = 1 := by omega
  have c1 : (t.val - 1 - 1 - 1) / 4 = t.val / 4 := by omega
  have c2 : (t.val - 1 - 1 - 1) % 4 = 0 := by omega
  simp only [bk, a1, a2] at f0 f1
  simp only [bk, b1, b2] at g0 g1
  simp only [bk, c1, c2] at k0 k1
  rw [hm] at e0 e1
  refine congrArg₂ (· + ·) (congrArg₂ (· + ·) (congrArg₂ (· + ·) (Finset.sum_congr rfl fun x _ => ?_)
    (Finset.sum_congr rfl fun x _ => ?_)) (Finset.sum_congr rfl fun x _ => ?_)) (Finset.sum_congr rfl fun x _ => ?_) <;>
    blk_point [blkU, blkD, e0, e1, e2, f0, f1, g0, g1, k0, k1]

/-- The four token tiles of 1024 are the two batches of 2048. -/
theorem tiles (f : Fin 4096 → EReal) : ∑ q : Fin 4, ∑ x : Fin 1024, f ⟨q.val * 1024 + x.val, by omega⟩
    = ∑ b : Fin 2, ∑ t : Fin 2048, f ⟨b.val * 2048 + t.val, by omega⟩ := by
  have half : ∀ g : Fin 2048 → EReal, ∑ t, g t = ∑ x : Fin 1024, g ⟨x.val, by omega⟩ + ∑ x : Fin 1024, g ⟨1024 + x.val, by omega⟩ :=
    fun g => Fin.sum_univ_add (a := 1024) (b := 1024) g
  rw [Fin.sum_univ_four, Fin.sum_univ_two, half, half, ← add_assoc]
  refine congrArg₂ (· + ·) (congrArg₂ (· + ·) (congrArg₂ (· + ·) ?_ ?_) ?_) ?_ <;>
    refine Finset.sum_congr rfl fun x _ => congrArg f (Fin.ext ?_)
  · show 0 * 1024 + x.val = 0 * 2048 + x.val; omega
  · show 1 * 1024 + x.val = 0 * 2048 + (1024 + x.val); omega
  · show 2 * 1024 + x.val = 1 * 2048 + x.val; omega
  · show 3 * 1024 + x.val = 1 * 2048 + (1024 + x.val); omega

/-- An entry of the result over batch and position. -/
theorem gAt_eq (u : FVec Ideal S1x4096x1024 .bf16) (d : FVec Ideal S1x4096x3712 .bf16) (n : Fin 1024) (j : Fin 3712) :
    gAt u d n j = ∑ b : Fin 2, ∑ t : Fin 2048,
      (u (ix3 0 ⟨b.val * 2048 + t.val, by omega⟩ n) : EReal) * d (ix3 0 ⟨b.val * 2048 + t.val, by omega⟩ j) :=
  tiles fun s => (u (ix3 0 s n) : EReal) * d (ix3 0 s j)

end Cert.Kernel8Ideal.Val

end
-- ==== Proof.Mix8Claims.lean ====
/- The claims about the gradient of the mixer's input weight: its result is the plain contraction over the two token axes. -/
module

public import proofs.«01_k».proof.Proof.Mix8Entry
public import proofs.«01_k».proof.Proof.Mix8Blocks
public import proofs.«01_k».proof.Proof.Gen.Reference8Ideal.Run
public import proofs.«01_k».proof.Defs

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Kernel8Ideal.Val

open Cert.Kernel8Ideal Cert.Kernel8Ideal.Gen Cert.Mix

variable (m : (ℓ : Loc nD τ sig) → Buf (Elt Ideal) ℓ) (c : Dev nD)

/-- The reference's term. -/
abbrev REF (H : FVec Ideal S2x2048x1024 .f32) (D : FVec Ideal S2x2048x2724 .f32) : FVec Ideal S1024x2724 .bf16 :=
  truncf .bf16 (transpose Cert.Reference8Ideal.S1024x2724 [1, 0]
    (Host.dotGeneral (F := Ideal) Cert.Reference8Ideal.dot_S2x2048x2724_S2x2048x1024_S2724x1024_01_01_2_2_n_n none D H)
    Cert.Reference8Ideal.Gen.transposes_S2724x1024_S1024x2724_1_0) Cert.Reference8Ideal.Gen.bitsLt_bf16_f32

theorem ref_at (H : FVec Ideal S2x2048x1024 .f32) (D : FVec Ideal S2x2048x2724 .f32) (n : Fin 1024) (k : Fin 2724) :
    REF H D (ix2 n k) = ∑ b : Fin 2, ∑ t : Fin 2048, H (ix3 b t n) * D (ix3 b t k) := by
  pointwise [REF]
  exact Finset.sum_congr rfl fun b _ => Finset.sum_congr rfl fun t _ => mul_comm _ _

theorem tail : Pipeline.afterTail₀ cfgs (dats m) 0 (V0 m) [hostOps1] c main_v65 = REF (aH m c) (aP m c) := by
  unfold Pipeline.afterTail₀
  refine funext fun (i : S1024x2724.Idx) => ?_
  obtain ⟨n, k, rfl⟩ : ∃ (n : Fin 1024) (k : Fin 2724), i = ix2 n k := ⟨_, _, eq_ix2 i⟩
  refine (v65_at _ n k).trans ?_
  refine (congrFun (Pipeline.withArrays_arr (cfgs 0).spec (by decide) c (V0 m c) _ 2) _).trans ?_
  refine (congrFun (g_arr m c _ _ rfl rfl) _).trans ?_
  rw [ref_at]
  show gAt (V m c main_v43) (V m c main_v42) n (dst k)
    = ∑ b : Fin 2, ∑ t : Fin 2048, aH m c (ix3 b t n) * aP m c (ix3 b t k)
  refine (gAt_eq _ _ _ _).trans ?_
  refine Finset.sum_congr rfl fun b _ => Finset.sum_congr rfl fun t _ => congrArg₂ (· * ·) (in_h m c b t n) ?_
  exact (in_p m c b t (dst k)).trans ((mixVal_mixDst _ _ k.isLt).trans (row3_eq (n := 2724) _ _ _ _ k.isLt).symm)

end Cert.Kernel8Ideal.Val

namespace Cert.Proof

/-- The gradient of the mixer's input weight. -/
theorem algebraic8 : Cert.algebraic_Kernel8Ideal_Reference8Ideal := by
  intro m g m' g' hpre hagree
  refine ⟨fun c => Cert.Kernel8Ideal.Val.REF (Cert.Kernel8Ideal.Val.aH m c) (Cert.Kernel8Ideal.Val.aP m c),
    (θ_run Cert.Kernel8Ideal.defs _ _).mono (fun r h c => ⟨((h.2 c).2 Cert.Kernel8Ideal.main_v65
        (Pipeline.mem_restRefs_of Cert.Kernel8Ideal.main_v65 (by decide) (by decide))).trans (Cert.Kernel8Ideal.Val.tail m c), h.1 c⟩)
      (θ_run_and (Cert.Kernel8Ideal.Gen.unchanged (F := Ideal) m g) (Cert.Kernel8Ideal.Gen.run_main (F := Ideal) m g)),
    (θ_run Cert.Reference8Ideal.defs _ _).mono (fun r h c => ?_) (Cert.Reference8Ideal.Value.run (F := Ideal) m' g')⟩
  obtain ⟨e0, e1⟩ := hagree c
  obtain ⟨r0, rest⟩ := h c
  rw [e0, e1] at r0
  exact ⟨r0, rest⟩

theorem frameR8 : Cert.quiescent_Reference8Ideal := by
  intro m g _
  exact (θ_run Cert.Reference8Ideal.defs _ _).mono (fun r h => ⟨fun c => (h c).2,
      sem_eq_zero_of_no_sems (by decide) r.2⟩) (Cert.Reference8Ideal.Value.run (F := Ideal) m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.ReferenceIdeal.Read
public import proofs.«01_k».proof.Proof.Gen.Reference2Ideal.Read
public import proofs.«01_k».proof.Proof.Gen.Reference3Ideal.Read
public import proofs.«01_k».proof.Proof.Gen.Kernel2Ideal.Value
public import proofs.«01_k».proof.Proof.Gen.Kernel3Ideal.Value
public import proofs.«01_k».proof.Proof.FfnClaims
public import proofs.«01_k».proof.Proof.FoxClaims
public import proofs.«01_k».proof.Proof.Mix5Claims
public import proofs.«01_k».proof.Proof.Mix6Claims
public import proofs.«01_k».proof.Proof.Mix7
public import proofs.«01_k».proof.Proof.Mix8Claims
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Reference4Ideal.Run
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Read
public import proofs.«01_k».proof.Proof.Gen.Reference8Ideal.Run
public import Idealize.ShloMosaic.Adequacy
public import Idealize.ShloMosaic.Init

@[expose] public section

noncomputable section

-- Every frame also says that the semaphore counters end at zero.

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite.Gen.facts, Cert.Pre_finite4.Gen.facts,
  fun m ρ _ => Cert.Kernel.Gen.frame m ρ,
  fun m ρ _ => Cert.KernelIdeal.Gen.frame m ρ,
  fun m ρ _ => Cert.KernelIdeal.Gen.frame m ρ,
  Cert.Ffn.frameR,
  fun m g _ => Cert.Ffn.frameR m g trivial,
  fun m ρ _ => Cert.Kernel2.Gen.frame m ρ,
  fun m ρ _ => Cert.Kernel2Ideal.Gen.frame m ρ,
  Cert.Ffn.frameR2,
  fun m ρ _ => Cert.Kernel3.Gen.frame m ρ,
  fun m ρ _ => Cert.Kernel3Ideal.Gen.frame m ρ,
  Cert.Ffn.frameR3,
  fun m ρ _ => Cert.Kernel4.Gen.frame m ρ,
  fun m ρ _ => Cert.Kernel4Ideal.Gen.frame m ρ,
  fun m ρ _ => Cert.Kernel4Ideal.Gen.frame m ρ,
  Cert.Proof.Fox.frameR4,
  fun m g _ => Cert.Proof.Fox.frameR4 m g trivial,
  fun m ρ _ => Cert.Kernel5.Gen.frame m ρ,
  fun m ρ _ => Cert.Kernel5Ideal.Gen.frame m ρ,
  Cert.Proof.frameR5,
  fun m ρ _ => Cert.Kernel6.Gen.frame m ρ,
  fun m ρ _ => Cert.Kernel6Ideal.Gen.frame m ρ,
  Cert.Proof.frameR6,
  fun m ρ _ => Cert.Kernel7.Gen.frame m ρ,
  fun m ρ _ => Cert.Kernel7Ideal.Gen.frame m ρ,
  Cert.Proof.frameR7,
  fun m ρ _ => Cert.Kernel8.Gen.frame m ρ,
  fun m ρ _ => Cert.Kernel8Ideal.Gen.frame m ρ,
  Cert.Proof.frameR8,
  trivial,
  Cert.Ffn.algebraic,
  trivial,
  Cert.Ffn.algebraic2,
  trivial,
  Cert.Ffn.algebraic3,
  Cert.Proof.Fox.preserves4,
  Cert.Proof.Fox.algebraic4,
  trivial,
  Cert.Proof.algebraic5,
  trivial,
  Cert.Proof.algebraic6,
  trivial,
  Cert.Proof.algebraic7,
  trivial,
  Cert.Proof.algebraic8⟩

end Cert.Proof

end
